-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_RefProjInIdeal (m : (ℓ : Loc Cert.RefProjInIdeal.nD Cert.RefProjInIdeal.τ Cert.RefProjInIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_RefQUpIdeal (m : (ℓ : Loc Cert.RefQUpIdeal.nD Cert.RefQUpIdeal.τ Cert.RefQUpIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_RefKvUpIdeal (m : (ℓ : Loc Cert.RefKvUpIdeal.nD Cert.RefKvUpIdeal.τ Cert.RefKvUpIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_RefMixOutIdeal (m : (ℓ : Loc Cert.RefMixOutIdeal.nD Cert.RefMixOutIdeal.τ Cert.RefMixOutIdeal.sig) → Buf (Elt Ideal) ℓ) : Prop :=
  True

def Pre_Nat (m : (ℓ : Loc Cert.Nat.nD Cert.Nat.τ Cert.Nat.sig) → Buf (Elt Bits) ℓ) : Prop :=
  True

def Pre_NatIdeal (m : (ℓ : Loc Cert.NatIdeal.nD Cert.NatIdeal.τ Cert.NatIdeal.sig) → Buf (Elt Ideal) ℓ) : Prop :=
  True

def Pre_NatIdeal_finite_nat [hPre_finite_nat : Cert.Pre_finite_nat.Facts] (m : (ℓ : Loc Cert.NatIdeal.nD Cert.NatIdeal.τ Cert.NatIdeal.sig) → Buf (Elt Ideal) ℓ) : Prop :=
  ∀ c : Dev Cert.NatIdeal.nD,
    (Cert.Pre_finite_nat.fn (F := Ideal) (m ((c.tc : Thread Cert.NatIdeal.nD Cert.NatIdeal.τ).loc Cert.NatIdeal.main_arg0)) (m ((c.tc : Thread Cert.NatIdeal.nD Cert.NatIdeal.τ).loc Cert.NatIdeal.main_arg1)) (m ((c.tc : Thread Cert.NatIdeal.nD Cert.NatIdeal.τ).loc Cert.NatIdeal.main_arg2))) = (fun _ => 1#1)

def Pre_RefNatIdeal (m : (ℓ : Loc Cert.RefNatIdeal.nD Cert.RefNatIdeal.τ Cert.RefNatIdeal.sig) → Buf (Elt Ideal) ℓ) : Prop :=
  True

def Pre_RefNatIdeal_finite_nat [hPre_finite_nat : Cert.Pre_finite_nat.Facts] (m : (ℓ : Loc Cert.RefNatIdeal.nD Cert.RefNatIdeal.τ Cert.RefNatIdeal.sig) → Buf (Elt Ideal) ℓ) : Prop :=
  ∀ c : Dev Cert.RefNatIdeal.nD,
    (Cert.Pre_finite_nat.fn (F := Ideal) (m ((c.tc : Thread Cert.RefNatIdeal.nD Cert.RefNatIdeal.τ).loc Cert.RefNatIdeal.main_arg0)) (m ((c.tc : Thread Cert.RefNatIdeal.nD Cert.RefNatIdeal.τ).loc Cert.RefNatIdeal.main_arg1)) (m ((c.tc : Thread Cert.RefNatIdeal.nD Cert.RefNatIdeal.τ).loc Cert.RefNatIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ r.2.sem = fun _ => 0)

def quiescent_RefProjInIdeal [hRefProjInIdeal : Cert.RefProjInIdeal.Facts] : Prop :=
  ∀ (m : (ℓ : Loc Cert.RefProjInIdeal.nD Cert.RefProjInIdeal.τ Cert.RefProjInIdeal.sig) → Buf (Elt Ideal) ℓ) (g : Dev Cert.RefProjInIdeal.nD → PrngReg), Pre_RefProjInIdeal m →
    θ_run (Cert.RefProjInIdeal.defs (F := Ideal)) (onTc (τ := Cert.RefProjInIdeal.τ) (Cert.RefProjInIdeal.main (F := Ideal))) ⟨m, fun _ => 0, g⟩ (fun r => (∀ c : Dev Cert.RefProjInIdeal.nD,
      r.2.mem ((c.tc : Thread Cert.RefProjInIdeal.nD Cert.RefProjInIdeal.τ).loc Cert.RefProjInIdeal.main_arg0) = m ((c.tc : Thread Cert.RefProjInIdeal.nD Cert.RefProjInIdeal.τ).loc Cert.RefProjInIdeal.main_arg0)
      ∧ r.2.mem ((c.tc : Thread Cert.RefProjInIdeal.nD Cert.RefProjInIdeal.τ).loc Cert.RefProjInIdeal.main_arg1) = m ((c.tc : Thread Cert.RefProjInIdeal.nD Cert.RefProjInIdeal.τ).loc Cert.RefProjInIdeal.main_arg1)
      ∧ r.2.mem ((c.tc : Thread Cert.RefProjInIdeal.nD Cert.RefProjInIdeal.τ).loc Cert.RefProjInIdeal.main_arg2) = m ((c.tc : Thread Cert.RefProjInIdeal.nD Cert.RefProjInIdeal.τ).loc Cert.RefProjInIdeal.main_arg2))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1)
      ∧ r.2.mem ((c.tc : Thread Cert.QUp.nD Cert.QUp.τ).loc Cert.QUp.main_arg2) = m ((c.tc : Thread Cert.QUp.nD Cert.QUp.τ).loc Cert.QUp.main_arg2))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
      ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ r.2.sem = fun _ => 0)

def quiescent_RefQUpIdeal [hRefQUpIdeal : Cert.RefQUpIdeal.Facts] : Prop :=
  ∀ (m : (ℓ : Loc Cert.RefQUpIdeal.nD Cert.RefQUpIdeal.τ Cert.RefQUpIdeal.sig) → Buf (Elt Ideal) ℓ) (g : Dev Cert.RefQUpIdeal.nD → PrngReg), Pre_RefQUpIdeal m →
    θ_run (Cert.RefQUpIdeal.defs (F := Ideal)) (onTc (τ := Cert.RefQUpIdeal.τ) (Cert.RefQUpIdeal.main (F := Ideal))) ⟨m, fun _ => 0, g⟩ (fun r => (∀ c : Dev Cert.RefQUpIdeal.nD,
      r.2.mem ((c.tc : Thread Cert.RefQUpIdeal.nD Cert.RefQUpIdeal.τ).loc Cert.RefQUpIdeal.main_arg0) = m ((c.tc : Thread Cert.RefQUpIdeal.nD Cert.RefQUpIdeal.τ).loc Cert.RefQUpIdeal.main_arg0)
      ∧ r.2.mem ((c.tc : Thread Cert.RefQUpIdeal.nD Cert.RefQUpIdeal.τ).loc Cert.RefQUpIdeal.main_arg1) = m ((c.tc : Thread Cert.RefQUpIdeal.nD Cert.RefQUpIdeal.τ).loc Cert.RefQUpIdeal.main_arg1)
      ∧ r.2.mem ((c.tc : Thread Cert.RefQUpIdeal.nD Cert.RefQUpIdeal.τ).loc Cert.RefQUpIdeal.main_arg2) = m ((c.tc : Thread Cert.RefQUpIdeal.nD Cert.RefQUpIdeal.τ).loc Cert.RefQUpIdeal.main_arg2))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ r.2.sem = fun _ => 0)

def quiescent_RefKvUpIdeal [hRefKvUpIdeal : Cert.RefKvUpIdeal.Facts] : Prop :=
  ∀ (m : (ℓ : Loc Cert.RefKvUpIdeal.nD Cert.RefKvUpIdeal.τ Cert.RefKvUpIdeal.sig) → Buf (Elt Ideal) ℓ) (g : Dev Cert.RefKvUpIdeal.nD → PrngReg), Pre_RefKvUpIdeal m →
    θ_run (Cert.RefKvUpIdeal.defs (F := Ideal)) (onTc (τ := Cert.RefKvUpIdeal.τ) (Cert.RefKvUpIdeal.main (F := Ideal))) ⟨m, fun _ => 0, g⟩ (fun r => (∀ c : Dev Cert.RefKvUpIdeal.nD,
      r.2.mem ((c.tc : Thread Cert.RefKvUpIdeal.nD Cert.RefKvUpIdeal.τ).loc Cert.RefKvUpIdeal.main_arg0) = m ((c.tc : Thread Cert.RefKvUpIdeal.nD Cert.RefKvUpIdeal.τ).loc Cert.RefKvUpIdeal.main_arg0)
      ∧ r.2.mem ((c.tc : Thread Cert.RefKvUpIdeal.nD Cert.RefKvUpIdeal.τ).loc Cert.RefKvUpIdeal.main_arg1) = m ((c.tc : Thread Cert.RefKvUpIdeal.nD Cert.RefKvUpIdeal.τ).loc Cert.RefKvUpIdeal.main_arg1)
      ∧ r.2.mem ((c.tc : Thread Cert.RefKvUpIdeal.nD Cert.RefKvUpIdeal.τ).loc Cert.RefKvUpIdeal.main_arg2) = m ((c.tc : Thread Cert.RefKvUpIdeal.nD Cert.RefKvUpIdeal.τ).loc Cert.RefKvUpIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_RefMixOutIdeal [hRefMixOutIdeal : Cert.RefMixOutIdeal.Facts] : Prop :=
  ∀ (m : (ℓ : Loc Cert.RefMixOutIdeal.nD Cert.RefMixOutIdeal.τ Cert.RefMixOutIdeal.sig) → Buf (Elt Ideal) ℓ) (g : Dev Cert.RefMixOutIdeal.nD → PrngReg), Pre_RefMixOutIdeal m →
    θ_run (Cert.RefMixOutIdeal.defs (F := Ideal)) (onTc (τ := Cert.RefMixOutIdeal.τ) (Cert.RefMixOutIdeal.main (F := Ideal))) ⟨m, fun _ => 0, g⟩ (fun r => (∀ c : Dev Cert.RefMixOutIdeal.nD,
      r.2.mem ((c.tc : Thread Cert.RefMixOutIdeal.nD Cert.RefMixOutIdeal.τ).loc Cert.RefMixOutIdeal.main_arg0) = m ((c.tc : Thread Cert.RefMixOutIdeal.nD Cert.RefMixOutIdeal.τ).loc Cert.RefMixOutIdeal.main_arg0)
      ∧ r.2.mem ((c.tc : Thread Cert.RefMixOutIdeal.nD Cert.RefMixOutIdeal.τ).loc Cert.RefMixOutIdeal.main_arg1) = m ((c.tc : Thread Cert.RefMixOutIdeal.nD Cert.RefMixOutIdeal.τ).loc Cert.RefMixOutIdeal.main_arg1)
      ∧ r.2.mem ((c.tc : Thread Cert.RefMixOutIdeal.nD Cert.RefMixOutIdeal.τ).loc Cert.RefMixOutIdeal.main_arg2) = m ((c.tc : Thread Cert.RefMixOutIdeal.nD Cert.RefMixOutIdeal.τ).loc Cert.RefMixOutIdeal.main_arg2)
      ∧ r.2.mem ((c.tc : Thread Cert.RefMixOutIdeal.nD Cert.RefMixOutIdeal.τ).loc Cert.RefMixOutIdeal.main_arg3) = m ((c.tc : Thread Cert.RefMixOutIdeal.nD Cert.RefMixOutIdeal.τ).loc Cert.RefMixOutIdeal.main_arg3)
      ∧ r.2.mem ((c.tc : Thread Cert.RefMixOutIdeal.nD Cert.RefMixOutIdeal.τ).loc Cert.RefMixOutIdeal.main_arg4) = m ((c.tc : Thread Cert.RefMixOutIdeal.nD Cert.RefMixOutIdeal.τ).loc Cert.RefMixOutIdeal.main_arg4))
      ∧ r.2.sem = fun _ => 0)

def quiescent_Nat [hNat : Cert.Nat.Facts] : Prop :=
  ∀ (m : (ℓ : Loc Cert.Nat.nD Cert.Nat.τ Cert.Nat.sig) → Buf (Elt Bits) ℓ) (g : Dev Cert.Nat.nD → PrngReg), Pre_Nat m →
    θ_run (Cert.Nat.defs (F := Bits)) (onTc (τ := Cert.Nat.τ) (Cert.Nat.main (F := Bits))) ⟨m, fun _ => 0, g⟩ (fun r => (∀ c : Dev Cert.Nat.nD,
      r.2.mem ((c.tc : Thread Cert.Nat.nD Cert.Nat.τ).loc Cert.Nat.main_arg0) = m ((c.tc : Thread Cert.Nat.nD Cert.Nat.τ).loc Cert.Nat.main_arg0)
      ∧ r.2.mem ((c.tc : Thread Cert.Nat.nD Cert.Nat.τ).loc Cert.Nat.main_arg1) = m ((c.tc : Thread Cert.Nat.nD Cert.Nat.τ).loc Cert.Nat.main_arg1)
      ∧ r.2.mem ((c.tc : Thread Cert.Nat.nD Cert.Nat.τ).loc Cert.Nat.main_arg2) = m ((c.tc : Thread Cert.Nat.nD Cert.Nat.τ).loc Cert.Nat.main_arg2))
      ∧ r.2.sem = fun _ => 0)

def quiescent_NatIdeal [hNatIdeal : Cert.NatIdeal.Facts] : Prop :=
  ∀ (m : (ℓ : Loc Cert.NatIdeal.nD Cert.NatIdeal.τ Cert.NatIdeal.sig) → Buf (Elt Ideal) ℓ) (g : Dev Cert.NatIdeal.nD → PrngReg), Pre_NatIdeal m →
    θ_run (Cert.NatIdeal.defs (F := Ideal)) (onTc (τ := Cert.NatIdeal.τ) (Cert.NatIdeal.main (F := Ideal))) ⟨m, fun _ => 0, g⟩ (fun r => (∀ c : Dev Cert.NatIdeal.nD,
      r.2.mem ((c.tc : Thread Cert.NatIdeal.nD Cert.NatIdeal.τ).loc Cert.NatIdeal.main_arg0) = m ((c.tc : Thread Cert.NatIdeal.nD Cert.NatIdeal.τ).loc Cert.NatIdeal.main_arg0)
      ∧ r.2.mem ((c.tc : Thread Cert.NatIdeal.nD Cert.NatIdeal.τ).loc Cert.NatIdeal.main_arg1) = m ((c.tc : Thread Cert.NatIdeal.nD Cert.NatIdeal.τ).loc Cert.NatIdeal.main_arg1)
      ∧ r.2.mem ((c.tc : Thread Cert.NatIdeal.nD Cert.NatIdeal.τ).loc Cert.NatIdeal.main_arg2) = m ((c.tc : Thread Cert.NatIdeal.nD Cert.NatIdeal.τ).loc Cert.NatIdeal.main_arg2))
      ∧ r.2.sem = fun _ => 0)

def quiescent_NatIdeal_pre_finite_nat [hNatIdeal : Cert.NatIdeal.Facts] [hPre_finite_nat : Cert.Pre_finite_nat.Facts] : Prop :=
  ∀ (m : (ℓ : Loc Cert.NatIdeal.nD Cert.NatIdeal.τ Cert.NatIdeal.sig) → Buf (Elt Ideal) ℓ) (g : Dev Cert.NatIdeal.nD → PrngReg), Pre_NatIdeal_finite_nat m →
    θ_run (Cert.NatIdeal.defs (F := Ideal)) (onTc (τ := Cert.NatIdeal.τ) (Cert.NatIdeal.main (F := Ideal))) ⟨m, fun _ => 0, g⟩ (fun r => (∀ c : Dev Cert.NatIdeal.nD,
      r.2.mem ((c.tc : Thread Cert.NatIdeal.nD Cert.NatIdeal.τ).loc Cert.NatIdeal.main_arg0) = m ((c.tc : Thread Cert.NatIdeal.nD Cert.NatIdeal.τ).loc Cert.NatIdeal.main_arg0)
      ∧ r.2.mem ((c.tc : Thread Cert.NatIdeal.nD Cert.NatIdeal.τ).loc Cert.NatIdeal.main_arg1) = m ((c.tc : Thread Cert.NatIdeal.nD Cert.NatIdeal.τ).loc Cert.NatIdeal.main_arg1)
      ∧ r.2.mem ((c.tc : Thread Cert.NatIdeal.nD Cert.NatIdeal.τ).loc Cert.NatIdeal.main_arg2) = m ((c.tc : Thread Cert.NatIdeal.nD Cert.NatIdeal.τ).loc Cert.NatIdeal.main_arg2))
      ∧ r.2.sem = fun _ => 0)

def quiescent_RefNatIdeal [hRefNatIdeal : Cert.RefNatIdeal.Facts] : Prop :=
  ∀ (m : (ℓ : Loc Cert.RefNatIdeal.nD Cert.RefNatIdeal.τ Cert.RefNatIdeal.sig) → Buf (Elt Ideal) ℓ) (g : Dev Cert.RefNatIdeal.nD → PrngReg), Pre_RefNatIdeal m →
    θ_run (Cert.RefNatIdeal.defs (F := Ideal)) (onTc (τ := Cert.RefNatIdeal.τ) (Cert.RefNatIdeal.main (F := Ideal))) ⟨m, fun _ => 0, g⟩ (fun r => (∀ c : Dev Cert.RefNatIdeal.nD,
      r.2.mem ((c.tc : Thread Cert.RefNatIdeal.nD Cert.RefNatIdeal.τ).loc Cert.RefNatIdeal.main_arg0) = m ((c.tc : Thread Cert.RefNatIdeal.nD Cert.RefNatIdeal.τ).loc Cert.RefNatIdeal.main_arg0)
      ∧ r.2.mem ((c.tc : Thread Cert.RefNatIdeal.nD Cert.RefNatIdeal.τ).loc Cert.RefNatIdeal.main_arg1) = m ((c.tc : Thread Cert.RefNatIdeal.nD Cert.RefNatIdeal.τ).loc Cert.RefNatIdeal.main_arg1)
      ∧ r.2.mem ((c.tc : Thread Cert.RefNatIdeal.nD Cert.RefNatIdeal.τ).loc Cert.RefNatIdeal.main_arg2) = m ((c.tc : Thread Cert.RefNatIdeal.nD Cert.RefNatIdeal.τ).loc Cert.RefNatIdeal.main_arg2))
      ∧ r.2.sem = fun _ => 0)

def quiescent_RefNatIdeal_pre_finite_nat [hRefNatIdeal : Cert.RefNatIdeal.Facts] [hPre_finite_nat : Cert.Pre_finite_nat.Facts] : Prop :=
  ∀ (m : (ℓ : Loc Cert.RefNatIdeal.nD Cert.RefNatIdeal.τ Cert.RefNatIdeal.sig) → Buf (Elt Ideal) ℓ) (g : Dev Cert.RefNatIdeal.nD → PrngReg), Pre_RefNatIdeal_finite_nat m →
    θ_run (Cert.RefNatIdeal.defs (F := Ideal)) (onTc (τ := Cert.RefNatIdeal.τ) (Cert.RefNatIdeal.main (F := Ideal))) ⟨m, fun _ => 0, g⟩ (fun r => (∀ c : Dev Cert.RefNatIdeal.nD,
      r.2.mem ((c.tc : Thread Cert.RefNatIdeal.nD Cert.RefNatIdeal.τ).loc Cert.RefNatIdeal.main_arg0) = m ((c.tc : Thread Cert.RefNatIdeal.nD Cert.RefNatIdeal.τ).loc Cert.RefNatIdeal.main_arg0)
      ∧ r.2.mem ((c.tc : Thread Cert.RefNatIdeal.nD Cert.RefNatIdeal.τ).loc Cert.RefNatIdeal.main_arg1) = m ((c.tc : Thread Cert.RefNatIdeal.nD Cert.RefNatIdeal.τ).loc Cert.RefNatIdeal.main_arg1)
      ∧ r.2.mem ((c.tc : Thread Cert.RefNatIdeal.nD Cert.RefNatIdeal.τ).loc Cert.RefNatIdeal.main_arg2) = m ((c.tc : Thread Cert.RefNatIdeal.nD Cert.RefNatIdeal.τ).loc Cert.RefNatIdeal.main_arg2))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_ProjIn_ProjInIdeal : Prop :=
  True

def algebraic_ProjInIdeal_RefProjInIdeal [hProjInIdeal : Cert.ProjInIdeal.Facts] [hRefProjInIdeal : Cert.RefProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.RefProjInIdeal.nD Cert.RefProjInIdeal.τ Cert.RefProjInIdeal.sig) → Buf (Elt Ideal) ℓ) (g' : Dev Cert.RefProjInIdeal.nD → PrngReg), Pre_ProjInIdeal m →
    (∀ c : Dev Cert.ProjInIdeal.nD,
      m' ((c.tc : Thread Cert.RefProjInIdeal.nD Cert.RefProjInIdeal.τ).loc Cert.RefProjInIdeal.main_arg0) = m ((c.tc : Thread Cert.ProjInIdeal.nD Cert.ProjInIdeal.τ).loc Cert.ProjInIdeal.main_arg0)
      ∧ m' ((c.tc : Thread Cert.RefProjInIdeal.nD Cert.RefProjInIdeal.τ).loc Cert.RefProjInIdeal.main_arg1) = m ((c.tc : Thread Cert.ProjInIdeal.nD Cert.ProjInIdeal.τ).loc Cert.ProjInIdeal.main_arg1)
      ∧ m' ((c.tc : Thread Cert.RefProjInIdeal.nD Cert.RefProjInIdeal.τ).loc Cert.RefProjInIdeal.main_arg2) = m ((c.tc : Thread Cert.ProjInIdeal.nD Cert.ProjInIdeal.τ).loc Cert.ProjInIdeal.main_arg2)) →
    ∃ (v0 : (c : Dev Cert.ProjInIdeal.nD) → Buf (Elt Ideal) ((c.tc : Thread Cert.ProjInIdeal.nD Cert.ProjInIdeal.τ).loc Cert.ProjInIdeal.main_v1)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v1) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ θ_run (Cert.RefProjInIdeal.defs (F := Ideal)) (onTc (τ := Cert.RefProjInIdeal.τ) (Cert.RefProjInIdeal.main (F := Ideal))) ⟨m', fun _ => 0, g'⟩ (fun r => ∀ c : Dev Cert.RefProjInIdeal.nD,
          r.2.mem ((c.tc : Thread Cert.RefProjInIdeal.nD Cert.RefProjInIdeal.τ).loc Cert.RefProjInIdeal.main_v17) = v0 c
          ∧ r.2.mem ((c.tc : Thread Cert.RefProjInIdeal.nD Cert.RefProjInIdeal.τ).loc Cert.RefProjInIdeal.main_arg0) = m' ((c.tc : Thread Cert.RefProjInIdeal.nD Cert.RefProjInIdeal.τ).loc Cert.RefProjInIdeal.main_arg0)
          ∧ r.2.mem ((c.tc : Thread Cert.RefProjInIdeal.nD Cert.RefProjInIdeal.τ).loc Cert.RefProjInIdeal.main_arg1) = m' ((c.tc : Thread Cert.RefProjInIdeal.nD Cert.RefProjInIdeal.τ).loc Cert.RefProjInIdeal.main_arg1)
          ∧ r.2.mem ((c.tc : Thread Cert.RefProjInIdeal.nD Cert.RefProjInIdeal.τ).loc Cert.RefProjInIdeal.main_arg2) = m' ((c.tc : Thread Cert.RefProjInIdeal.nD Cert.RefProjInIdeal.τ).loc Cert.RefProjInIdeal.main_arg2))

def preserves_QUp_QUpIdeal : Prop :=
  True

def algebraic_QUpIdeal_RefQUpIdeal [hQUpIdeal : Cert.QUpIdeal.Facts] [hRefQUpIdeal : Cert.RefQUpIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.RefQUpIdeal.nD Cert.RefQUpIdeal.τ Cert.RefQUpIdeal.sig) → Buf (Elt Ideal) ℓ) (g' : Dev Cert.RefQUpIdeal.nD → PrngReg), Pre_QUpIdeal m →
    (∀ c : Dev Cert.QUpIdeal.nD,
      m' ((c.tc : Thread Cert.RefQUpIdeal.nD Cert.RefQUpIdeal.τ).loc Cert.RefQUpIdeal.main_arg0) = m ((c.tc : Thread Cert.QUpIdeal.nD Cert.QUpIdeal.τ).loc Cert.QUpIdeal.main_arg0)
      ∧ m' ((c.tc : Thread Cert.RefQUpIdeal.nD Cert.RefQUpIdeal.τ).loc Cert.RefQUpIdeal.main_arg1) = m ((c.tc : Thread Cert.QUpIdeal.nD Cert.QUpIdeal.τ).loc Cert.QUpIdeal.main_arg1)
      ∧ m' ((c.tc : Thread Cert.RefQUpIdeal.nD Cert.RefQUpIdeal.τ).loc Cert.RefQUpIdeal.main_arg2) = m ((c.tc : Thread Cert.QUpIdeal.nD Cert.QUpIdeal.τ).loc Cert.QUpIdeal.main_arg2)) →
    ∃ (v0 : (c : Dev Cert.QUpIdeal.nD) → Buf (Elt Ideal) ((c.tc : Thread Cert.QUpIdeal.nD Cert.QUpIdeal.τ).loc Cert.QUpIdeal.main_v1)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v1) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
          ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2))
      ∧ θ_run (Cert.RefQUpIdeal.defs (F := Ideal)) (onTc (τ := Cert.RefQUpIdeal.τ) (Cert.RefQUpIdeal.main (F := Ideal))) ⟨m', fun _ => 0, g'⟩ (fun r => ∀ c : Dev Cert.RefQUpIdeal.nD,
          r.2.mem ((c.tc : Thread Cert.RefQUpIdeal.nD Cert.RefQUpIdeal.τ).loc Cert.RefQUpIdeal.main_v19) = v0 c
          ∧ r.2.mem ((c.tc : Thread Cert.RefQUpIdeal.nD Cert.RefQUpIdeal.τ).loc Cert.RefQUpIdeal.main_arg0) = m' ((c.tc : Thread Cert.RefQUpIdeal.nD Cert.RefQUpIdeal.τ).loc Cert.RefQUpIdeal.main_arg0)
          ∧ r.2.mem ((c.tc : Thread Cert.RefQUpIdeal.nD Cert.RefQUpIdeal.τ).loc Cert.RefQUpIdeal.main_arg1) = m' ((c.tc : Thread Cert.RefQUpIdeal.nD Cert.RefQUpIdeal.τ).loc Cert.RefQUpIdeal.main_arg1)
          ∧ r.2.mem ((c.tc : Thread Cert.RefQUpIdeal.nD Cert.RefQUpIdeal.τ).loc Cert.RefQUpIdeal.main_arg2) = m' ((c.tc : Thread Cert.RefQUpIdeal.nD Cert.RefQUpIdeal.τ).loc Cert.RefQUpIdeal.main_arg2))

def preserves_KvUp_KvUpIdeal : Prop :=
  True

def algebraic_KvUpIdeal_RefKvUpIdeal [hKvUpIdeal : Cert.KvUpIdeal.Facts] [hRefKvUpIdeal : Cert.RefKvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.RefKvUpIdeal.nD Cert.RefKvUpIdeal.τ Cert.RefKvUpIdeal.sig) → Buf (Elt Ideal) ℓ) (g' : Dev Cert.RefKvUpIdeal.nD → PrngReg), Pre_KvUpIdeal m →
    (∀ c : Dev Cert.KvUpIdeal.nD,
      m' ((c.tc : Thread Cert.RefKvUpIdeal.nD Cert.RefKvUpIdeal.τ).loc Cert.RefKvUpIdeal.main_arg0) = m ((c.tc : Thread Cert.KvUpIdeal.nD Cert.KvUpIdeal.τ).loc Cert.KvUpIdeal.main_arg0)
      ∧ m' ((c.tc : Thread Cert.RefKvUpIdeal.nD Cert.RefKvUpIdeal.τ).loc Cert.RefKvUpIdeal.main_arg1) = m ((c.tc : Thread Cert.KvUpIdeal.nD Cert.KvUpIdeal.τ).loc Cert.KvUpIdeal.main_arg1)
      ∧ m' ((c.tc : Thread Cert.RefKvUpIdeal.nD Cert.RefKvUpIdeal.τ).loc Cert.RefKvUpIdeal.main_arg2) = m ((c.tc : Thread Cert.KvUpIdeal.nD Cert.KvUpIdeal.τ).loc Cert.KvUpIdeal.main_arg2)) →
    ∃ (v0 : (c : Dev Cert.KvUpIdeal.nD) → Buf (Elt Ideal) ((c.tc : Thread Cert.KvUpIdeal.nD Cert.KvUpIdeal.τ).loc Cert.KvUpIdeal.main_v1)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v1) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2))
      ∧ θ_run (Cert.RefKvUpIdeal.defs (F := Ideal)) (onTc (τ := Cert.RefKvUpIdeal.τ) (Cert.RefKvUpIdeal.main (F := Ideal))) ⟨m', fun _ => 0, g'⟩ (fun r => ∀ c : Dev Cert.RefKvUpIdeal.nD,
          r.2.mem ((c.tc : Thread Cert.RefKvUpIdeal.nD Cert.RefKvUpIdeal.τ).loc Cert.RefKvUpIdeal.main_v19) = v0 c
          ∧ r.2.mem ((c.tc : Thread Cert.RefKvUpIdeal.nD Cert.RefKvUpIdeal.τ).loc Cert.RefKvUpIdeal.main_arg0) = m' ((c.tc : Thread Cert.RefKvUpIdeal.nD Cert.RefKvUpIdeal.τ).loc Cert.RefKvUpIdeal.main_arg0)
          ∧ r.2.mem ((c.tc : Thread Cert.RefKvUpIdeal.nD Cert.RefKvUpIdeal.τ).loc Cert.RefKvUpIdeal.main_arg1) = m' ((c.tc : Thread Cert.RefKvUpIdeal.nD Cert.RefKvUpIdeal.τ).loc Cert.RefKvUpIdeal.main_arg1)
          ∧ r.2.mem ((c.tc : Thread Cert.RefKvUpIdeal.nD Cert.RefKvUpIdeal.τ).loc Cert.RefKvUpIdeal.main_arg2) = m' ((c.tc : Thread Cert.RefKvUpIdeal.nD Cert.RefKvUpIdeal.τ).loc Cert.RefKvUpIdeal.main_arg2))

def preserves_MixOut_MixOutIdeal : Prop :=
  True

def algebraic_MixOutIdeal_RefMixOutIdeal [hMixOutIdeal : Cert.MixOutIdeal.Facts] [hRefMixOutIdeal : Cert.RefMixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.RefMixOutIdeal.nD Cert.RefMixOutIdeal.τ Cert.RefMixOutIdeal.sig) → Buf (Elt Ideal) ℓ) (g' : Dev Cert.RefMixOutIdeal.nD → PrngReg), Pre_MixOutIdeal m →
    (∀ c : Dev Cert.MixOutIdeal.nD,
      m' ((c.tc : Thread Cert.RefMixOutIdeal.nD Cert.RefMixOutIdeal.τ).loc Cert.RefMixOutIdeal.main_arg0) = m ((c.tc : Thread Cert.MixOutIdeal.nD Cert.MixOutIdeal.τ).loc Cert.MixOutIdeal.main_arg0)
      ∧ m' ((c.tc : Thread Cert.RefMixOutIdeal.nD Cert.RefMixOutIdeal.τ).loc Cert.RefMixOutIdeal.main_arg1) = m ((c.tc : Thread Cert.MixOutIdeal.nD Cert.MixOutIdeal.τ).loc Cert.MixOutIdeal.main_arg1)
      ∧ m' ((c.tc : Thread Cert.RefMixOutIdeal.nD Cert.RefMixOutIdeal.τ).loc Cert.RefMixOutIdeal.main_arg2) = m ((c.tc : Thread Cert.MixOutIdeal.nD Cert.MixOutIdeal.τ).loc Cert.MixOutIdeal.main_arg2)
      ∧ m' ((c.tc : Thread Cert.RefMixOutIdeal.nD Cert.RefMixOutIdeal.τ).loc Cert.RefMixOutIdeal.main_arg3) = m ((c.tc : Thread Cert.MixOutIdeal.nD Cert.MixOutIdeal.τ).loc Cert.MixOutIdeal.main_arg3)
      ∧ m' ((c.tc : Thread Cert.RefMixOutIdeal.nD Cert.RefMixOutIdeal.τ).loc Cert.RefMixOutIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v1_0)) (v1 : (c : Dev Cert.MixOutIdeal.nD) → Buf (Elt Ideal) ((c.tc : Thread Cert.MixOutIdeal.nD Cert.MixOutIdeal.τ).loc Cert.MixOutIdeal.main_v1_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v1_0) = v0 c
          ∧ r.2.mem ((c.tc : Thread Cert.MixOutIdeal.nD Cert.MixOutIdeal.τ).loc Cert.MixOutIdeal.main_v1_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.RefMixOutIdeal.defs (F := Ideal)) (onTc (τ := Cert.RefMixOutIdeal.τ) (Cert.RefMixOutIdeal.main (F := Ideal))) ⟨m', fun _ => 0, g'⟩ (fun r => ∀ c : Dev Cert.RefMixOutIdeal.nD,
          r.2.mem ((c.tc : Thread Cert.RefMixOutIdeal.nD Cert.RefMixOutIdeal.τ).loc Cert.RefMixOutIdeal.main_v7) = v0 c
          ∧ r.2.mem ((c.tc : Thread Cert.RefMixOutIdeal.nD Cert.RefMixOutIdeal.τ).loc Cert.RefMixOutIdeal.main_v22) = v1 c
          ∧ r.2.mem ((c.tc : Thread Cert.RefMixOutIdeal.nD Cert.RefMixOutIdeal.τ).loc Cert.RefMixOutIdeal.main_arg0) = m' ((c.tc : Thread Cert.RefMixOutIdeal.nD Cert.RefMixOutIdeal.τ).loc Cert.RefMixOutIdeal.main_arg0)
          ∧ r.2.mem ((c.tc : Thread Cert.RefMixOutIdeal.nD Cert.RefMixOutIdeal.τ).loc Cert.RefMixOutIdeal.main_arg1) = m' ((c.tc : Thread Cert.RefMixOutIdeal.nD Cert.RefMixOutIdeal.τ).loc Cert.RefMixOutIdeal.main_arg1)
          ∧ r.2.mem ((c.tc : Thread Cert.RefMixOutIdeal.nD Cert.RefMixOutIdeal.τ).loc Cert.RefMixOutIdeal.main_arg2) = m' ((c.tc : Thread Cert.RefMixOutIdeal.nD Cert.RefMixOutIdeal.τ).loc Cert.RefMixOutIdeal.main_arg2)
          ∧ r.2.mem ((c.tc : Thread Cert.RefMixOutIdeal.nD Cert.RefMixOutIdeal.τ).loc Cert.RefMixOutIdeal.main_arg3) = m' ((c.tc : Thread Cert.RefMixOutIdeal.nD Cert.RefMixOutIdeal.τ).loc Cert.RefMixOutIdeal.main_arg3)
          ∧ r.2.mem ((c.tc : Thread Cert.RefMixOutIdeal.nD Cert.RefMixOutIdeal.τ).loc Cert.RefMixOutIdeal.main_arg4) = m' ((c.tc : Thread Cert.RefMixOutIdeal.nD Cert.RefMixOutIdeal.τ).loc Cert.RefMixOutIdeal.main_arg4))

def preserves_Nat_NatIdeal : Prop :=
  True

def algebraic_NatIdeal_RefNatIdeal_pre_finite_nat [hNatIdeal : Cert.NatIdeal.Facts] [hRefNatIdeal : Cert.RefNatIdeal.Facts] [hPre_finite_nat : Cert.Pre_finite_nat.Facts] : Prop :=
  ∀ (m : (ℓ : Loc Cert.NatIdeal.nD Cert.NatIdeal.τ Cert.NatIdeal.sig) → Buf (Elt Ideal) ℓ) (g : Dev Cert.NatIdeal.nD → PrngReg)
    (m' : (ℓ : Loc Cert.RefNatIdeal.nD Cert.RefNatIdeal.τ Cert.RefNatIdeal.sig) → Buf (Elt Ideal) ℓ) (g' : Dev Cert.RefNatIdeal.nD → PrngReg), Pre_NatIdeal_finite_nat m →
    (∀ c : Dev Cert.NatIdeal.nD,
      m' ((c.tc : Thread Cert.RefNatIdeal.nD Cert.RefNatIdeal.τ).loc Cert.RefNatIdeal.main_arg0) = m ((c.tc : Thread Cert.NatIdeal.nD Cert.NatIdeal.τ).loc Cert.NatIdeal.main_arg0)
      ∧ m' ((c.tc : Thread Cert.RefNatIdeal.nD Cert.RefNatIdeal.τ).loc Cert.RefNatIdeal.main_arg1) = m ((c.tc : Thread Cert.NatIdeal.nD Cert.NatIdeal.τ).loc Cert.NatIdeal.main_arg1)
      ∧ m' ((c.tc : Thread Cert.RefNatIdeal.nD Cert.RefNatIdeal.τ).loc Cert.RefNatIdeal.main_arg2) = m ((c.tc : Thread Cert.NatIdeal.nD Cert.NatIdeal.τ).loc Cert.NatIdeal.main_arg2)) →
    ∃ (v0 : (c : Dev Cert.NatIdeal.nD) → Buf (Elt Ideal) ((c.tc : Thread Cert.NatIdeal.nD Cert.NatIdeal.τ).loc Cert.NatIdeal.main_v13)),
      θ_run (Cert.NatIdeal.defs (F := Ideal)) (onTc (τ := Cert.NatIdeal.τ) (Cert.NatIdeal.main (F := Ideal))) ⟨m, fun _ => 0, g⟩ (fun r => ∀ c : Dev Cert.NatIdeal.nD,
          r.2.mem ((c.tc : Thread Cert.NatIdeal.nD Cert.NatIdeal.τ).loc Cert.NatIdeal.main_v13) = v0 c
          ∧ r.2.mem ((c.tc : Thread Cert.NatIdeal.nD Cert.NatIdeal.τ).loc Cert.NatIdeal.main_arg0) = m ((c.tc : Thread Cert.NatIdeal.nD Cert.NatIdeal.τ).loc Cert.NatIdeal.main_arg0)
          ∧ r.2.mem ((c.tc : Thread Cert.NatIdeal.nD Cert.NatIdeal.τ).loc Cert.NatIdeal.main_arg1) = m ((c.tc : Thread Cert.NatIdeal.nD Cert.NatIdeal.τ).loc Cert.NatIdeal.main_arg1)
          ∧ r.2.mem ((c.tc : Thread Cert.NatIdeal.nD Cert.NatIdeal.τ).loc Cert.NatIdeal.main_arg2) = m ((c.tc : Thread Cert.NatIdeal.nD Cert.NatIdeal.τ).loc Cert.NatIdeal.main_arg2))
      ∧ θ_run (Cert.RefNatIdeal.defs (F := Ideal)) (onTc (τ := Cert.RefNatIdeal.τ) (Cert.RefNatIdeal.main (F := Ideal))) ⟨m', fun _ => 0, g'⟩ (fun r => ∀ c : Dev Cert.RefNatIdeal.nD,
          r.2.mem ((c.tc : Thread Cert.RefNatIdeal.nD Cert.RefNatIdeal.τ).loc Cert.RefNatIdeal.main_v112) = v0 c
          ∧ r.2.mem ((c.tc : Thread Cert.RefNatIdeal.nD Cert.RefNatIdeal.τ).loc Cert.RefNatIdeal.main_arg0) = m' ((c.tc : Thread Cert.RefNatIdeal.nD Cert.RefNatIdeal.τ).loc Cert.RefNatIdeal.main_arg0)
          ∧ r.2.mem ((c.tc : Thread Cert.RefNatIdeal.nD Cert.RefNatIdeal.τ).loc Cert.RefNatIdeal.main_arg1) = m' ((c.tc : Thread Cert.RefNatIdeal.nD Cert.RefNatIdeal.τ).loc Cert.RefNatIdeal.main_arg1)
          ∧ r.2.mem ((c.tc : Thread Cert.RefNatIdeal.nD Cert.RefNatIdeal.τ).loc Cert.RefNatIdeal.main_arg2) = m' ((c.tc : Thread Cert.RefNatIdeal.nD Cert.RefNatIdeal.τ).loc Cert.RefNatIdeal.main_arg2))

def Claim : Prop :=
  ∃ (hKernel : Cert.Kernel.Facts) (hKernelIdeal : Cert.KernelIdeal.Facts) (hReferenceIdeal : Cert.ReferenceIdeal.Facts) (hProjIn : Cert.ProjIn.Facts) (hProjInIdeal : Cert.ProjInIdeal.Facts) (hRefProjInIdeal : Cert.RefProjInIdeal.Facts) (hQUp : Cert.QUp.Facts) (hQUpIdeal : Cert.QUpIdeal.Facts) (hRefQUpIdeal : Cert.RefQUpIdeal.Facts) (hKvUp : Cert.KvUp.Facts) (hKvUpIdeal : Cert.KvUpIdeal.Facts) (hRefKvUpIdeal : Cert.RefKvUpIdeal.Facts) (hMixOut : Cert.MixOut.Facts) (hMixOutIdeal : Cert.MixOutIdeal.Facts) (hRefMixOutIdeal : Cert.RefMixOutIdeal.Facts) (hNat : Cert.Nat.Facts) (hNatIdeal : Cert.NatIdeal.Facts) (hRefNatIdeal : Cert.RefNatIdeal.Facts) (hPre_finite : Cert.Pre_finite.Facts) (hPre_finite_nat : Cert.Pre_finite_nat.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ProjIn (hProjIn := hProjIn)
    ∧ quiescent_ProjInIdeal (hProjInIdeal := hProjInIdeal)
    ∧ quiescent_RefProjInIdeal (hRefProjInIdeal := hRefProjInIdeal)
    ∧ quiescent_QUp (hQUp := hQUp)
    ∧ quiescent_QUpIdeal (hQUpIdeal := hQUpIdeal)
    ∧ quiescent_RefQUpIdeal (hRefQUpIdeal := hRefQUpIdeal)
    ∧ quiescent_KvUp (hKvUp := hKvUp)
    ∧ quiescent_KvUpIdeal (hKvUpIdeal := hKvUpIdeal)
    ∧ quiescent_RefKvUpIdeal (hRefKvUpIdeal := hRefKvUpIdeal)
    ∧ quiescent_MixOut (hMixOut := hMixOut)
    ∧ quiescent_MixOutIdeal (hMixOutIdeal := hMixOutIdeal)
    ∧ quiescent_RefMixOutIdeal (hRefMixOutIdeal := hRefMixOutIdeal)
    ∧ quiescent_Nat (hNat := hNat)
    ∧ quiescent_NatIdeal (hNatIdeal := hNatIdeal)
    ∧ quiescent_NatIdeal_pre_finite_nat (hNatIdeal := hNatIdeal) (hPre_finite_nat := hPre_finite_nat)
    ∧ quiescent_RefNatIdeal (hRefNatIdeal := hRefNatIdeal)
    ∧ quiescent_RefNatIdeal_pre_finite_nat (hRefNatIdeal := hRefNatIdeal) (hPre_finite_nat := hPre_finite_nat)
    ∧ preserves_Kernel_KernelIdeal
    ∧ algebraic_KernelIdeal_ReferenceIdeal_pre_finite (hKernelIdeal := hKernelIdeal) (hReferenceIdeal := hReferenceIdeal) (hPre_finite := hPre_finite)
    ∧ preserves_ProjIn_ProjInIdeal
    ∧ algebraic_ProjInIdeal_RefProjInIdeal (hProjInIdeal := hProjInIdeal) (hRefProjInIdeal := hRefProjInIdeal)
    ∧ preserves_QUp_QUpIdeal
    ∧ algebraic_QUpIdeal_RefQUpIdeal (hQUpIdeal := hQUpIdeal) (hRefQUpIdeal := hRefQUpIdeal)
    ∧ preserves_KvUp_KvUpIdeal
    ∧ algebraic_KvUpIdeal_RefKvUpIdeal (hKvUpIdeal := hKvUpIdeal) (hRefKvUpIdeal := hRefKvUpIdeal)
    ∧ preserves_MixOut_MixOutIdeal
    ∧ algebraic_MixOutIdeal_RefMixOutIdeal (hMixOutIdeal := hMixOutIdeal) (hRefMixOutIdeal := hRefMixOutIdeal)
    ∧ preserves_Nat_NatIdeal
    ∧ algebraic_NatIdeal_RefNatIdeal_pre_finite_nat (hNatIdeal := hNatIdeal) (hRefNatIdeal := hRefNatIdeal) (hPre_finite_nat := hPre_finite_nat)
-- ==== Pre_finite.lean ====
abbrev S16384x1536 : Shape := ⟨2, ![16384, 1536]⟩
abbrev S16384x2048 : Shape := ⟨2, ![16384, 2048]⟩
abbrev S16384x3904 : Shape := ⟨2, ![16384, 3904]⟩
abbrev S1024 : Shape := ⟨1, ![1024]⟩
abbrev S_ : Shape := ⟨0, ![]⟩

class Facts : Prop where
  bitsLt_bf16_f32 : FTy.bits .bf16 < FTy.bits .f32
  bcast_S_S16384x1536 : S_.BroadcastsInDim S16384x1536 (![] : Fin 0 → Fin S16384x1536.rank)
  reducesTo_S16384x1536_S_d0_1 : S16384x1536.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S16384x3904 : S_.BroadcastsInDim S16384x3904 (![] : Fin 0 → Fin S16384x3904.rank)
  reducesTo_S16384x3904_S_d0_1 : S16384x3904.ReducesTo [0, 1] S_

variable [Facts]

def fn {F : FTy → Type} [FloatOps F] (main_arg0 : FVec F S16384x1536 .bf16) (main_arg1 : FVec F S16384x2048 .bf16) (main_arg2 : FVec F S16384x3904 .bf16) (main_arg3 : FVec F S1024 .f32) : IVec S_ 1 :=
  let main_v0 : FVec F S16384x1536 .f32 := (extf .f32 · bitsLt_bf16_f32) main_arg0
  let main_v1 : FVec F S16384x1536 .f32 := Host.absf main_v0
  let main_cst : FVec F S_ .f32 := constant S_ .f32 0x7F800000#32
  let main_v2 : FVec F S16384x1536 .f32 := broadcastInDim S16384x1536 ![] bcast_S_S16384x1536 main_cst
  let main_v3 : IVec S16384x1536 1 := cmpf .olt main_v1 main_v2
  let main_c : IVec S_ 1 := constantI S_ 1 1#1
  let main_v4 : IVec S_ 1 := (fun x v => Host.reduce IntOp.andi x v reducesTo_S16384x1536_S_d0_1 h_S_) main_v3 main_c
  let main_v5 : FVec F S16384x2048 .f32 := (extf .f32 · bitsLt_bf16_f32) main_arg1
  let main_v6 : FVec F S16384x2048 .f32 := Host.absf main_v5
  let main_cst_0 : FVec F S_ .f32 := constant S_ .f32 0x7F800000#32
  let main_v7 : FVec F S16384x2048 .f32 := broadcastInDim S16384x2048 ![] bcast_S_S16384x2048 main_cst_0
  let main_v8 : IVec S16384x2048 1 := cmpf .olt main_v6 main_v7
  let main_c_1 : IVec S_ 1 := constantI S_ 1 1#1
  let main_v9 : IVec S_ 1 := (fun x v => Host.reduce IntOp.andi x v reducesTo_S16384x2048_S_d0_1 h_S_) main_v8 main_c_1
  let main_v10 : IVec S_ 1 := andi main_v4 main_v9
  let main_v11 : FVec F S16384x3904 .f32 := (extf .f32 · bitsLt_bf16_f32) main_arg2
  let main_v12 : FVec F S16384x3904 .f32 := Host.absf main_v11
  let main_cst_2 : FVec F S_ .f32 := constant S_ .f32 0x7F800000#32
  let main_v13 : FVec F S16384x3904 .f32 := broadcastInDim S16384x3904 ![] bcast_S_S16384x3904 main_cst_2
  let main_v14 : IVec S16384x3904 1 := cmpf .olt main_v12 main_v13
  let main_c_3 : IVec S_ 1 := constantI S_ 1 1#1
  let main_v15 : IVec S_ 1 := (fun x v => Host.reduce IntOp.andi x v reducesTo_S16384x3904_S_d0_1 h_S_) main_v14 main_c_3
  let main_v16 : IVec S_ 1 := andi main_v10 main_v15
  main_v16
-- ==== Pre_finite_nat.lean ====
abbrev S16384x4096 : Shape := ⟨2, ![16384, 4096]⟩
abbrev S4x16x15x31 : Shape := ⟨4, ![4, 16, 15, 31]⟩
abbrev S1024 : Shape := ⟨1, ![1024]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4x16x15x31 : S_.BroadcastsInDim S4x16x15x31 (![] : Fin 0 → Fin S4x16x15x31.rank)
  reducesTo_S4x16x15x31_S_d0_1_2_3 : S4x16x15x31.ReducesTo [0, 1, 2, 3] S_

variable [Facts]

def fn {F : FTy → Type} [FloatOps F] (main_arg0 : FVec F S16384x4096 .bf16) (main_arg1 : FVec F S4x16x15x31 .f32) (main_arg2 : FVec F S1024 .f32) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_c : IVec S_ 1 := constantI S_ 1 1#1
  let main_v4 : IVec S_ 1 := (fun x v => Host.reduce IntOp.andi x v reducesTo_S16384x4096_S_d0_1 h_S_) main_v3 main_c
  let main_v5 : FVec F S4x16x15x31 .f32 := Host.absf main_arg1
  let main_cst_0 : FVec F S_ .f32 := constant S_ .f32 0x7F800000#32
  let main_v6 : FVec F S4x16x15x31 .f32 := broadcastInDim S4x16x15x31 ![] bcast_S_S4x16x15x31 main_cst_0
  let main_v7 : IVec S4x16x15x31 1 := cmpf .olt main_v5 main_v6
  let main_c_1 : IVec S_ 1 := constantI S_ 1 1#1
  let main_v8 : IVec S_ 1 := (fun x v => Host.reduce IntOp.andi x v reducesTo_S4x16x15x31_S_d0_1_2_3 h_S_) main_v7 main_c_1
  let main_v9 : IVec S_ 1 := andi main_v4 main_v8
  main_v9
-- ==== Kernel.lean ====
abbrev S16384x1536 : Shape := ⟨2, ![16384, 1536]⟩
abbrev S16384x2048 : Shape := ⟨2, ![16384, 2048]⟩
abbrev S16384x3904 : Shape := ⟨2, ![16384, 3904]⟩
abbrev S1024 : Shape := ⟨1, ![1024]⟩
abbrev S1x16384x1536 : Shape := ⟨3, ![1, 16384, 1536]⟩
abbrev S1x16384x8x192 : Shape := ⟨4, ![1, 16384, 8, 192]⟩
abbrev S1x16384x8x128 : Shape := ⟨4, ![1, 16384, 8, 128]⟩
abbrev S1x16384x1024 : Shape := ⟨3, ![1, 16384, 1024]⟩
abbrev S1x16384x8x64 : Shape := ⟨4, ![1, 16384, 8, 64]⟩
abbrev S1x16384x512 : Shape := ⟨3, ![1, 16384, 512]⟩
abbrev S1x16384x8x32 : Shape := ⟨4, ![1, 16384, 8, 32]⟩
abbrev S1x16384x2048 : Shape := ⟨3, ![1, 16384, 2048]⟩
abbrev S1x16384x8x256 : Shape := ⟨4, ![1, 16384, 8, 256]⟩
abbrev S1x16384x3904 : Shape := ⟨3, ![1, 16384, 3904]⟩
abbrev S1x16384x256 : Shape := ⟨3, ![1, 16384, 256]⟩
abbrev S1x16384x64 : Shape := ⟨3, ![1, 16384, 64]⟩
abbrev S1x16384x3072 : Shape := ⟨3, ![1, 16384, 3072]⟩
abbrev S1x16384x32 : Shape := ⟨3, ![1, 16384, 32]⟩
abbrev S1x16384x4096 : Shape := ⟨3, ![1, 16384, 4096]⟩
abbrev S16384x4096 : Shape := ⟨2, ![16384, 4096]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1x1024 : Shape := ⟨2, ![1, 1024]⟩
abbrev S16384x1024 : Shape := ⟨2, ![16384, 1024]⟩
abbrev S512x2048 : Shape := ⟨2, ![512, 2048]⟩
abbrev S2048x1024 : Shape := ⟨2, ![2048, 1024]⟩
abbrev S512x128 : Shape := ⟨2, ![512, 128]⟩
abbrev S512x1024 : Shape := ⟨2, ![512, 1024]⟩
abbrev S8x2048x256 : Shape := ⟨3, ![8, 2048, 256]⟩
abbrev S2x512x2048 : Shape := ⟨3, ![2, 512, 2048]⟩
abbrev S1x2048x128 : Shape := ⟨3, ![1, 2048, 128]⟩
abbrev S512x256 : Shape := ⟨2, ![512, 256]⟩
abbrev S1x2048x256 : Shape := ⟨3, ![1, 2048, 256]⟩
abbrev S2048x256 : Shape := ⟨2, ![2048, 256]⟩
abbrev S1x512x2048 : Shape := ⟨3, ![1, 512, 2048]⟩
abbrev S1x16x2048 : Shape := ⟨3, ![1, 16, 2048]⟩
abbrev S16x2048 : Shape := ⟨2, ![16, 2048]⟩
abbrev S16 : Shape := ⟨1, ![16]⟩
abbrev S16x1 : Shape := ⟨2, ![16, 1]⟩
abbrev S512x1 : Shape := ⟨2, ![512, 1]⟩
abbrev S512 : Shape := ⟨1, ![512]⟩

abbrev nBuf : Space → Nat
  | .hbm => 62
  | .vmem => 22
  | .smem => 0
  | _ => 0

abbrev bufTy : (tb : Table) → Fin (tcTables nBuf tb) → BufTy
  | .hbm, ⟨0, _⟩ => ⟨S16384x1536, .bf16⟩
  | .hbm, ⟨1, _⟩ => ⟨S16384x2048, .bf16⟩
  | .hbm, ⟨2, _⟩ => ⟨S16384x3904, .bf16⟩
  | .hbm, ⟨3, _⟩ => ⟨S1024, .f32⟩
  | .hbm, ⟨4, _⟩ => ⟨S1x16384x1536, .bf16⟩
  | .hbm, ⟨5, _⟩ => ⟨S1x16384x8x192, .bf16⟩
  | .hbm, ⟨6, _⟩ => ⟨S1x16384x8x128, .bf16⟩
  | .hbm, ⟨7, _⟩ => ⟨S1x16384x1024, .bf16⟩
  | .hbm, ⟨8, _⟩ => ⟨S1x16384x8x64, .bf16⟩
  | .hbm, ⟨9, _⟩ => ⟨S1x16384x512, .bf16⟩
  | .hbm, ⟨10, _⟩ => ⟨S1x16384x8x32, .bf16⟩
  | .hbm, ⟨11, _⟩ => ⟨S1x16384x8x32, .bf16⟩
  | .hbm, ⟨12, _⟩ => ⟨S1x16384x8x64, .bf16⟩
  | .hbm, ⟨13, _⟩ => ⟨S1x16384x512, .bf16⟩
  | .hbm, ⟨14, _⟩ => ⟨S1x16384x2048, .bf16⟩
  | .hbm, ⟨15, _⟩ => ⟨S16384x2048, .bf16⟩
  | .hbm, ⟨16, _⟩ => ⟨S1x16384x2048, .bf16⟩
  | .hbm, ⟨17, _⟩ => ⟨S1x16384x8x256, .bf16⟩
  | .hbm, ⟨18, _⟩ => ⟨S1x16384x8x128, .bf16⟩
  | .hbm, ⟨19, _⟩ => ⟨S1x16384x1024, .bf16⟩
  | .hbm, ⟨20, _⟩ => ⟨S1x16384x8x128, .bf16⟩
  | .hbm, ⟨21, _⟩ => ⟨S1x16384x1024, .bf16⟩
  | .hbm, ⟨22, _⟩ => ⟨S1x16384x2048, .bf16⟩
  | .hbm, ⟨23, _⟩ => ⟨S16384x2048, .bf16⟩
  | .hbm, ⟨24, _⟩ => ⟨S1x16384x3904, .bf16⟩
  | .hbm, ⟨25, _⟩ => ⟨S1x16384x512, .bf16⟩
  | .hbm, ⟨26, _⟩ => ⟨S1x16384x256, .bf16⟩
  | .hbm, ⟨27, _⟩ => ⟨S1x16384x64, .bf16⟩
  | .hbm, ⟨28, _⟩ => ⟨S1x16384x3072, .bf16⟩
  | .hbm, ⟨29, _⟩ => ⟨S1x16384x32, .bf16⟩
  | .hbm, ⟨30, _⟩ => ⟨S1x16384x32, .bf16⟩
  | .hbm, ⟨31, _⟩ => ⟨S1x16384x64, .bf16⟩
  | .hbm, ⟨32, _⟩ => ⟨S1x16384x4096, .bf16⟩
  | .hbm, ⟨33, _⟩ => ⟨S16384x4096, .bf16⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S2048, .f32⟩
  | .hbm, ⟨49, _⟩ => ⟨S2048x1, .f32⟩
  | .hbm, ⟨50, _⟩ => ⟨S1x32, .f32⟩
  | .hbm, ⟨51, _⟩ => ⟨S2048x32, .f32⟩
  | .hbm, ⟨52, _⟩ => ⟨S2048x32, .f32⟩
  | .hbm, ⟨53, _⟩ => ⟨S2048x32, .f32⟩
  | .hbm, ⟨54, _⟩ => ⟨S2048x32, .f32⟩
  | .hbm, ⟨55, _⟩ => ⟨S2048x32, .f32⟩
  | .hbm, ⟨56, _⟩ => ⟨S2048x128, .f32⟩
  | .hbm, ⟨57, _⟩ => ⟨S2048x32, .f32⟩
  | .hbm, ⟨58, _⟩ => ⟨S2048x32, .f32⟩
  | .hbm, ⟨59, _⟩ => ⟨S2048x128, .f32⟩
  | .hbm, ⟨60, _⟩ => ⟨S1x1024, .f32⟩
  | .hbm, ⟨61, _⟩ => ⟨S16384x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .f32⟩
  | .local _ .vmem, ⟨11, _⟩ => ⟨S2048x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S8x2048x256, .bf16⟩
  | .local _ .vmem, ⟨20, _⟩ => ⟨S2x512x2048, .f32⟩
  | .local _ .vmem, ⟨21, _⟩ => ⟨S2x512x2048, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c30_i32 : BitVec 32 := 30#32
  let c0_i32 : BitVec 32 := 0#32
  ![arg0.toNat, c30_i32.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let c0_i32 : BitVec 32 := 0#32
  ![arg0.toNat, c31_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "scale_log2e" => some (((Real.sqrt 192)⁻¹ * (Real.log 2)⁻¹ : ℝ) : EReal)
  | _ => none
-- ==== ReferenceIdeal.lean ====
abbrev S16384x1536 : Shape := ⟨2, ![16384, 1536]⟩
abbrev S16384x2048 : Shape := ⟨2, ![16384, 2048]⟩
abbrev S16384x3904 : Shape := ⟨2, ![16384, 3904]⟩
abbrev S1024 : Shape := ⟨1, ![1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S8x2048x8x192 : Shape := ⟨4, ![8, 2048, 8, 192]⟩
abbrev S8x2048x3904 : Shape := ⟨3, ![8, 2048, 3904]⟩
abbrev S8x2048x512 : Shape := ⟨3, ![8, 2048, 512]⟩
abbrev S8x2048x256 : Shape := ⟨3, ![8, 2048, 256]⟩
abbrev S8x2048x64 : Shape := ⟨3, ![8, 2048, 64]⟩
abbrev S8x2048x1024 : Shape := ⟨3, ![8, 2048, 1024]⟩
abbrev S8x2048x8x128 : Shape := ⟨4, ![8, 2048, 8, 128]⟩
abbrev S8x2048x8x64 : Shape := ⟨4, ![8, 2048, 8, 64]⟩
abbrev S2048x1x32 : Shape := ⟨3, ![2048, 1, 32]⟩
abbrev S8x2048x8x32 : Shape := ⟨4, ![8, 2048, 8, 32]⟩
abbrev S1x2048x1x32 : Shape := ⟨4, ![1, 2048, 1, 32]⟩
abbrev S8x2048x32 : Shape := ⟨3, ![8, 2048, 32]⟩
abbrev S1x2048x32 : Shape := ⟨3, ![1, 2048, 32]⟩
abbrev S8x2048x8x256 : Shape := ⟨4, ![8, 2048, 8, 256]⟩
abbrev S8x8x2048x2048 : Shape := ⟨4, ![8, 8, 2048, 2048]⟩
abbrev S8x2048x2048x8 : Shape := ⟨4, ![8, 2048, 2048, 8]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 121
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x2048, .bf16⟩
  | .hbm, ⟨2, _⟩ => ⟨S16384x3904, .bf16⟩
  | .hbm, ⟨3, _⟩ => ⟨S1024, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048, .f32⟩
  | .hbm, ⟨19, _⟩ => ⟨S2048x1, .f32⟩
  | .hbm, ⟨20, _⟩ => ⟨S1x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S16384x1536, .f32⟩
  | .hbm, ⟨27, _⟩ => ⟨S8x2048x8x192, .f32⟩
  | .hbm, ⟨28, _⟩ => ⟨S16384x3904, .f32⟩
  | .hbm, ⟨29, _⟩ => ⟨S8x2048x3904, .f32⟩
  | .hbm, ⟨30, _⟩ => ⟨S8x2048x512, .f32⟩
  | .hbm, ⟨31, _⟩ => ⟨S8x2048x256, .f32⟩
  | .hbm, ⟨32, _⟩ => ⟨S8x2048x64, .f32⟩
  | .hbm, ⟨33, _⟩ => ⟨S8x2048x1024, .f32⟩
  | .hbm, ⟨34, _⟩ => ⟨S8x2048x1024, .f32⟩
  | .hbm, ⟨35, _⟩ => ⟨S8x2048x1024, .f32⟩
  | .hbm, ⟨36, _⟩ => ⟨S8x2048x8x128, .f32⟩
  | .hbm, ⟨37, _⟩ => ⟨S8x2048x8x64, .f32⟩
  | .hbm, ⟨38, _⟩ => ⟨S2048x1x32, .f32⟩
  | .hbm, ⟨39, _⟩ => ⟨S2048x1x32, .f32⟩
  | .hbm, ⟨40, _⟩ => ⟨S8x2048x8x32, .f32⟩
  | .hbm, ⟨41, _⟩ => ⟨S8x2048x8x32, .f32⟩
  | .hbm, ⟨42, _⟩ => ⟨S1x2048x1x32, .f32⟩
  | .hbm, ⟨43, _⟩ => ⟨S8x2048x8x32, .f32⟩
  | .hbm, ⟨44, _⟩ => ⟨S8x2048x8x32, .f32⟩
  | .hbm, ⟨45, _⟩ => ⟨S1x2048x1x32, .f32⟩
  | .hbm, ⟨46, _⟩ => ⟨S8x2048x8x32, .f32⟩
  | .hbm, ⟨47, _⟩ => ⟨S8x2048x8x32, .f32⟩
  | .hbm, ⟨48, _⟩ => ⟨S8x2048x8x32, .f32⟩
  | .hbm, ⟨49, _⟩ => ⟨S1x2048x1x32, .f32⟩
  | .hbm, ⟨50, _⟩ => ⟨S8x2048x8x32, .f32⟩
  | .hbm, ⟨51, _⟩ => ⟨S8x2048x8x32, .f32⟩
  | .hbm, ⟨52, _⟩ => ⟨S1x2048x1x32, .f32⟩
  | .hbm, ⟨53, _⟩ => ⟨S8x2048x8x32, .f32⟩
  | .hbm, ⟨54, _⟩ => ⟨S8x2048x8x32, .f32⟩
  | .hbm, ⟨55, _⟩ => ⟨S8x2048x8x32, .f32⟩
  | .hbm, ⟨56, _⟩ => ⟨S8x2048x8x64, .f32⟩
  | .hbm, ⟨57, _⟩ => ⟨S8x2048x32, .f32⟩
  | .hbm, ⟨58, _⟩ => ⟨S8x2048x32, .f32⟩
  | .hbm, ⟨59, _⟩ => ⟨S1x2048x32, .f32⟩
  | .hbm, ⟨60, _⟩ => ⟨S8x2048x32, .f32⟩
  | .hbm, ⟨61, _⟩ => ⟨S8x2048x32, .f32⟩
  | .hbm, ⟨62, _⟩ => ⟨S1x2048x32, .f32⟩
  | .hbm, ⟨63, _⟩ => ⟨S8x2048x32, .f32⟩
  | .hbm, ⟨64, _⟩ => ⟨S8x2048x32, .f32⟩
  | .hbm, ⟨65, _⟩ => ⟨S8x2048x32, .f32⟩
  | .hbm, ⟨66, _⟩ => ⟨S1x2048x32, .f32⟩
  | .hbm, ⟨67, _⟩ => ⟨S8x2048x32, .f32⟩
  | .hbm, ⟨68, _⟩ => ⟨S8x2048x32, .f32⟩
  | .hbm, ⟨69, _⟩ => ⟨S1x2048x32, .f32⟩
  | .hbm, ⟨70, _⟩ => ⟨S8x2048x32, .f32⟩
  | .hbm, ⟨71, _⟩ => ⟨S8x2048x32, .f32⟩
  | .hbm, ⟨72, _⟩ => ⟨S8x2048x32, .f32⟩
  | .hbm, ⟨73, _⟩ => ⟨S8x2048x64, .f32⟩
  | .hbm, ⟨74, _⟩ => ⟨S16384x2048, .f32⟩
  | .hbm, ⟨75, _⟩ => ⟨S8x2048x8x256, .f32⟩
  | .hbm, ⟨76, _⟩ => ⟨S8x2048x8x128, .f32⟩
  | .hbm, ⟨77, _⟩ => ⟨S8x2048x8x128, .f32⟩
  | .hbm, ⟨78, _⟩ => ⟨S_, .f32⟩
  | .hbm, ⟨79, _⟩ => ⟨S_, .f32⟩
  | .hbm, ⟨80, _⟩ => ⟨S8x8x2048x2048, .f32⟩
  | .hbm, ⟨81, _⟩ => ⟨S8x2048x2048x8, .f32⟩
  | .hbm, ⟨82, _⟩ => ⟨S8x8x2048x2048, .f32⟩
  | .hbm, ⟨83, _⟩ => ⟨S8x8x2048x2048, .f32⟩
  | .hbm, ⟨84, _⟩ => ⟨S8x8x2048x2048, .f32⟩
  | .hbm, ⟨85, _⟩ => ⟨S8x8x2048x2048, .f32⟩
  | .hbm, ⟨86, _⟩ => ⟨S_, .f32⟩
  | .hbm, ⟨87, _⟩ => ⟨S8x8x2048, .f32⟩
  | .hbm, ⟨88, _⟩ => ⟨S_, .f32⟩
  | .hbm, ⟨89, _⟩ => ⟨S8x8x2048, .f32⟩
  | .hbm, ⟨90, _⟩ => ⟨S8x8x2048, .f32⟩
  | .hbm, ⟨91, _⟩ => ⟨S8x8x2048x1, .f32⟩
  | .hbm, ⟨92, _⟩ => ⟨S8x8x2048x2048, .f32⟩
  | .hbm, ⟨93, _⟩ => ⟨S8x8x2048x2048, .f32⟩
  | .hbm, ⟨94, _⟩ => ⟨S8x8x2048x2048, .f32⟩
  | .hbm, ⟨95, _⟩ => ⟨S_, .f32⟩
  | .hbm, ⟨96, _⟩ => ⟨S8x8x2048, .f32⟩
  | .hbm, ⟨97, _⟩ => ⟨S8x8x2048x1, .f32⟩
  | .hbm, ⟨98, _⟩ => ⟨S8x8x2048x2048, .f32⟩
  | .hbm, ⟨99, _⟩ => ⟨S8x8x2048x2048, .f32⟩
  | .hbm, ⟨100, _⟩ => ⟨S8x8x128x2048, .f32⟩
  | .hbm, ⟨101, _⟩ => ⟨S8x2048x8x128, .f32⟩
  | .hbm, ⟨102, _⟩ => ⟨S8x2048x1024, .f32⟩
  | .hbm, ⟨103, _⟩ => ⟨S8x2048x1024, .f32⟩
  | .hbm, ⟨104, _⟩ => ⟨S_, .f32⟩
  | .hbm, ⟨105, _⟩ => ⟨S8x2048, .f32⟩
  | .hbm, ⟨106, _⟩ => ⟨S8x2048x1, .f32⟩
  | .hbm, ⟨107, _⟩ => ⟨S_, .f32⟩
  | .hbm, ⟨108, _⟩ => ⟨S8x2048x1, .f32⟩
  | .hbm, ⟨109, _⟩ => ⟨S8x2048x1, .f32⟩
  | .hbm, ⟨110, _⟩ => ⟨S_, .f32⟩
  | .hbm, ⟨111, _⟩ => ⟨S8x2048x1, .f32⟩
  | .hbm, ⟨112, _⟩ => ⟨S8x2048x1, .f32⟩
  | .hbm, ⟨113, _⟩ => ⟨S8x2048x1, .f32⟩
  | .hbm, ⟨114, _⟩ => ⟨S8x2048x1024, .f32⟩
  | .hbm, ⟨115, _⟩ => ⟨S8x2048x1024, .f32⟩
  | .hbm, ⟨116, _⟩ => ⟨S1x1x1024, .f32⟩
  | .hbm, ⟨117, _⟩ => ⟨S8x2048x1024, .f32⟩
  | .hbm, ⟨118, _⟩ => ⟨S8x2048x1024, .f32⟩
  | .hbm, ⟨119, _⟩ => ⟨S16384x1024, .f32⟩
  | .hbm, ⟨120, _⟩ => ⟨S16384x1024, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_3 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_4 : Ref sig .tc := ⟨.hbm, 86, rfl⟩
abbrev main_v77 : Ref sig .tc := ⟨.hbm, 87, rfl⟩
abbrev main_cst_5 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_6 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_7 : Ref sig .tc := ⟨.hbm, 104, rfl⟩
abbrev main_v92 : Ref sig .tc := ⟨.hbm, 105, rfl⟩
abbrev main_v93 : Ref sig .tc := ⟨.hbm, 106, rfl⟩
abbrev main_cst_8 : Ref sig .tc := ⟨.hbm, 107, rfl⟩
abbrev main_v94 : Ref sig .tc := ⟨.hbm, 108, rfl⟩
abbrev main_v95 : Ref sig .tc := ⟨.hbm, 109, rfl⟩
abbrev main_cst_9 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩

abbrev nD : Nat := 1
abbrev τ : Topo := Topo.v7x

variable {F : FTy → Type} [FloatOps F]
-- ==== ProjIn.lean ====
abbrev S16384x2048 : Shape := ⟨2, ![16384, 2048]⟩
abbrev S2048 : Shape := ⟨1, ![2048]⟩
abbrev S4x2048x4096 : Shape := ⟨3, ![4, 2048, 4096]⟩
abbrev S1x2048 : Shape := ⟨2, ![1, 2048]⟩
abbrev S16384x4096 : Shape := ⟨2, ![16384, 4096]⟩
abbrev S512x2048 : Shape := ⟨2, ![512, 2048]⟩
abbrev S1x2048x2048 : Shape := ⟨3, ![1, 2048, 2048]⟩
abbrev S512 : Shape := ⟨1, ![512]⟩
abbrev S512x1 : Shape := ⟨2, ![512, 1]⟩
abbrev S2048x2048 : Shape := ⟨2, ![2048, 2048]⟩

abbrev nBuf : Space → Nat
  | .hbm => 5
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048x4096, .bf16⟩
  | .hbm, ⟨3, _⟩ => ⟨S1x2048, .f32⟩
  | .hbm, ⟨4, _⟩ => ⟨S16384x4096, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefProjInIdeal.lean ====
abbrev S16384x2048 : Shape := ⟨2, ![16384, 2048]⟩
abbrev S2048 : Shape := ⟨1, ![2048]⟩
abbrev S4x2048x4096 : Shape := ⟨3, ![4, 2048, 4096]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x4096 : Shape := ⟨3, ![1, 2048, 4096]⟩
abbrev S2048x4096 : Shape := ⟨2, ![2048, 4096]⟩
abbrev S16384x4096 : Shape := ⟨2, ![16384, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048x4096, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S1x2048x4096, .bf16⟩
  | .hbm, ⟨20, _⟩ => ⟨S2048x4096, .bf16⟩
  | .hbm, ⟨21, _⟩ => ⟨S2048x4096, .f32⟩
  | .hbm, ⟨22, _⟩ => ⟨S16384x4096, .f32⟩
  | .hbm, ⟨23, _⟩ => ⟨S16384x4096, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== QUp.lean ====
abbrev S16384x4096 : Shape := ⟨2, ![16384, 4096]⟩
abbrev S512 : Shape := ⟨1, ![512]⟩
abbrev S4x512x2048 : Shape := ⟨3, ![4, 512, 2048]⟩
abbrev S1x512 : Shape := ⟨2, ![1, 512]⟩
abbrev S16384x2048 : Shape := ⟨2, ![16384, 2048]⟩
abbrev S512x512 : Shape := ⟨2, ![512, 512]⟩
abbrev S1x512x2048 : Shape := ⟨3, ![1, 512, 2048]⟩
abbrev S512x2048 : Shape := ⟨2, ![512, 2048]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S512, .f32⟩
  | .hbm, ⟨2, _⟩ => ⟨S4x512x2048, .bf16⟩
  | .hbm, ⟨3, _⟩ => ⟨S1x512, .f32⟩
  | .hbm, ⟨4, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S1x512, .f32⟩
  | .local _ .vmem, ⟨3, _⟩ => ⟨S1x512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefQUpIdeal.lean ====
abbrev S16384x4096 : Shape := ⟨2, ![16384, 4096]⟩
abbrev S512 : Shape := ⟨1, ![512]⟩
abbrev S4x512x2048 : Shape := ⟨3, ![4, 512, 2048]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x512x2048 : Shape := ⟨3, ![1, 512, 2048]⟩
abbrev S512x2048 : Shape := ⟨2, ![512, 2048]⟩
abbrev S16384x2048 : Shape := ⟨2, ![16384, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S512, .f32⟩
  | .hbm, ⟨2, _⟩ => ⟨S4x512x2048, .bf16⟩
  | .hbm, ⟨3, _⟩ => ⟨S16384x4096, .f32⟩
  | .hbm, ⟨4, _⟩ => ⟨S16384x512, .f32⟩
  | .hbm, ⟨5, _⟩ => ⟨S16384x512, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x512, .f32⟩
  | .hbm, ⟨17, _⟩ => ⟨S16384x512, .f32⟩
  | .hbm, ⟨18, _⟩ => ⟨S1x512, .f32⟩
  | .hbm, ⟨19, _⟩ => ⟨S16384x512, .f32⟩
  | .hbm, ⟨20, _⟩ => ⟨S16384x512, .f32⟩
  | .hbm, ⟨21, _⟩ => ⟨S1x512x2048, .bf16⟩
  | .hbm, ⟨22, _⟩ => ⟨S512x2048, .bf16⟩
  | .hbm, ⟨23, _⟩ => ⟨S512x2048, .f32⟩
  | .hbm, ⟨24, _⟩ => ⟨S16384x2048, .f32⟩
  | .hbm, ⟨25, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== KvUp.lean ====
abbrev S16384x4096 : Shape := ⟨2, ![16384, 4096]⟩
abbrev S256 : Shape := ⟨1, ![256]⟩
abbrev S4x256x2048 : Shape := ⟨3, ![4, 256, 2048]⟩
abbrev S1x256 : Shape := ⟨2, ![1, 256]⟩
abbrev S16384x2048 : Shape := ⟨2, ![16384, 2048]⟩
abbrev S512x256 : Shape := ⟨2, ![512, 256]⟩
abbrev S1x256x2048 : Shape := ⟨3, ![1, 256, 2048]⟩
abbrev S512x2048 : Shape := ⟨2, ![512, 2048]⟩
abbrev S512 : Shape := ⟨1, ![512]⟩
abbrev S512x1 : Shape := ⟨2, ![512, 1]⟩
abbrev S256x2048 : Shape := ⟨2, ![256, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S256, .f32⟩
  | .hbm, ⟨2, _⟩ => ⟨S4x256x2048, .bf16⟩
  | .hbm, ⟨3, _⟩ => ⟨S1x256, .f32⟩
  | .hbm, ⟨4, _⟩ => ⟨S16384x2048, .bf16⟩
  | .local _ .vmem, ⟨0, _⟩ => ⟨S512x256, .bf16⟩
  | .local _ .vmem, ⟨1, _⟩ => ⟨S512x256, .bf16⟩
  | .local _ .vmem, ⟨2, _⟩ => ⟨S1x256, .f32⟩
  | .local _ .vmem, ⟨3, _⟩ => ⟨S1x256x2048, .bf16⟩
  | .local _ .vmem, ⟨4, _⟩ => ⟨S512x2048, .bf16⟩
  | .local _ .vmem, ⟨5, _⟩ => ⟨S512x2048, .bf16⟩
  | .local _ .vmem, ⟨6, _⟩ => ⟨S512x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefKvUpIdeal.lean ====
abbrev S16384x4096 : Shape := ⟨2, ![16384, 4096]⟩
abbrev S256 : Shape := ⟨1, ![256]⟩
abbrev S4x256x2048 : Shape := ⟨3, ![4, 256, 2048]⟩
abbrev S16384x256 : Shape := ⟨2, ![16384, 256]⟩
abbrev S_ : Shape := ⟨0, ![]⟩
abbrev S16384 : Shape := ⟨1, ![16384]⟩
abbrev S16384x1 : Shape := ⟨2, ![16384, 1]⟩
abbrev S1x256 : Shape := ⟨2, ![1, 256]⟩
abbrev S1x256x2048 : Shape := ⟨3, ![1, 256, 2048]⟩
abbrev S256x2048 : Shape := ⟨2, ![256, 2048]⟩
abbrev S16384x2048 : Shape := ⟨2, ![16384, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S256, .f32⟩
  | .hbm, ⟨2, _⟩ => ⟨S4x256x2048, .bf16⟩
  | .hbm, ⟨3, _⟩ => ⟨S16384x4096, .f32⟩
  | .hbm, ⟨4, _⟩ => ⟨S16384x256, .f32⟩
  | .hbm, ⟨5, _⟩ => ⟨S16384x256, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x256, .f32⟩
  | .hbm, ⟨17, _⟩ => ⟨S16384x256, .f32⟩
  | .hbm, ⟨18, _⟩ => ⟨S1x256, .f32⟩
  | .hbm, ⟨19, _⟩ => ⟨S16384x256, .f32⟩
  | .hbm, ⟨20, _⟩ => ⟨S16384x256, .f32⟩
  | .hbm, ⟨21, _⟩ => ⟨S1x256x2048, .bf16⟩
  | .hbm, ⟨22, _⟩ => ⟨S256x2048, .bf16⟩
  | .hbm, ⟨23, _⟩ => ⟨S256x2048, .f32⟩
  | .hbm, ⟨24, _⟩ => ⟨S16384x2048, .f32⟩
  | .hbm, ⟨25, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== MixOut.lean ====
abbrev S16384x1024 : Shape := ⟨2, ![16384, 1024]⟩
abbrev S4x2048x2048 : Shape := ⟨3, ![4, 2048, 2048]⟩
abbrev S16384x2048 : Shape := ⟨2, ![16384, 2048]⟩
abbrev S2048 : Shape := ⟨1, ![2048]⟩
abbrev S1x2048 : Shape := ⟨2, ![1, 2048]⟩
abbrev S2048x16384 : Shape := ⟨2, ![2048, 16384]⟩
abbrev S512x1024 : Shape := ⟨2, ![512, 1024]⟩
abbrev S1x2048x2048 : Shape := ⟨3, ![1, 2048, 2048]⟩
abbrev S512x2048 : Shape := ⟨2, ![512, 2048]⟩
abbrev S2048x512 : Shape := ⟨2, ![2048, 512]⟩
abbrev S2048x2048 : Shape := ⟨2, ![2048, 2048]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x2048x2048, .bf16⟩
  | .hbm, ⟨3, _⟩ => ⟨S16384x2048, .f32⟩
  | .hbm, ⟨4, _⟩ => ⟨S2048, .f32⟩
  | .hbm, ⟨5, _⟩ => ⟨S1x2048, .f32⟩
  | .hbm, ⟨6, _⟩ => ⟨S16384x2048, .f32⟩
  | .hbm, ⟨7, _⟩ => ⟨S2048x16384, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefMixOutIdeal.lean ====
abbrev S16384x1024 : Shape := ⟨2, ![16384, 1024]⟩
abbrev S4x2048x2048 : Shape := ⟨3, ![4, 2048, 2048]⟩
abbrev S16384x2048 : Shape := ⟨2, ![16384, 2048]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x16384 : Shape := ⟨2, ![2048, 16384]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S4x2048x2048, .bf16⟩
  | .hbm, ⟨3, _⟩ => ⟨S16384x2048, .f32⟩
  | .hbm, ⟨4, _⟩ => ⟨S2048, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S1x2048x2048, .bf16⟩
  | .hbm, ⟨9, _⟩ => ⟨S2048x2048, .bf16⟩
  | .hbm, ⟨10, _⟩ => ⟨S2048x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x2048, .f32⟩
  | .hbm, ⟨25, _⟩ => ⟨S16384x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S2048x16384, .f32⟩
  | .hbm, ⟨30, _⟩ => ⟨S2048x16384, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Nat.lean ====
abbrev S16384x4096 : Shape := ⟨2, ![16384, 4096]⟩
abbrev S4x16x15x31 : Shape := ⟨4, ![4, 16, 15, 31]⟩
abbrev S1024 : Shape := ⟨1, ![1024]⟩
abbrev S64x64 : Shape := ⟨2, ![64, 64]⟩
abbrev S_ : Shape := ⟨0, ![]⟩
abbrev S64x64x1 : Shape := ⟨3, ![64, 64, 1]⟩
abbrev S4x16x15x64x64 : Shape := ⟨5, ![4, 16, 15, 64, 64]⟩
abbrev S4x8x2x15x64x64 : Shape := ⟨6, ![4, 8, 2, 15, 64, 64]⟩
abbrev S4x8x15x2x64x64 : Shape := ⟨6, ![4, 8, 15, 2, 64, 64]⟩
abbrev S4x8x15x128x64 : Shape := ⟨5, ![4, 8, 15, 128, 64]⟩
abbrev S4x8x14x128x64 : Shape := ⟨5, ![4, 8, 14, 128, 64]⟩
abbrev S4x8x14x128x128 : Shape := ⟨5, ![4, 8, 14, 128, 128]⟩
abbrev S1x1024 : Shape := ⟨2, ![1, 1024]⟩
abbrev S16384x1024 : Shape := ⟨2, ![16384, 1024]⟩
abbrev S256x1024 : Shape := ⟨2, ![256, 1024]⟩
abbrev S2048x1024 : Shape := ⟨2, ![2048, 1024]⟩
abbrev S1x8x14x128x128 : Shape := ⟨5, ![1, 8, 14, 128, 128]⟩
abbrev S4x8x128x512 : Shape := ⟨4, ![4, 8, 128, 512]⟩
abbrev S64x128 : Shape := ⟨2, ![64, 128]⟩
abbrev S128x128 : Shape := ⟨2, ![128, 128]⟩
abbrev S512x128 : Shape := ⟨2, ![512, 128]⟩
abbrev S128x512 : Shape := ⟨2, ![128, 512]⟩
abbrev S1x1x128x512 : Shape := ⟨4, ![1, 1, 128, 512]⟩
abbrev S1x1x1x128x128 : Shape := ⟨5, ![1, 1, 1, 128, 128]⟩
abbrev S128 : Shape := ⟨1, ![128]⟩
abbrev S128x1 : Shape := ⟨2, ![128, 1]⟩
abbrev S64x1024 : Shape := ⟨2, ![64, 1024]⟩
abbrev S64 : Shape := ⟨1, ![64]⟩
abbrev S64x1 : Shape := ⟨2, ![64, 1]⟩

abbrev nBuf : Space → Nat
  | .hbm => 25
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S4x16x15x31, .f32⟩
  | .hbm, ⟨2, _⟩ => ⟨S1024, .f32⟩
  | .hbm, ⟨3, _⟩ => ⟨S64x64, .i32⟩
  | .hbm, ⟨4, _⟩ => ⟨S64x64, .i1⟩
  | .hbm, ⟨5, _⟩ => ⟨S64x64, .i1⟩
  | .hbm, ⟨6, _⟩ => ⟨S_, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S64x64x1, .i32⟩
  | .hbm, ⟨11, _⟩ => ⟨S4x16x15x64x64, .f32⟩
  | .hbm, ⟨12, _⟩ => ⟨S_, .f32⟩
  | .hbm, ⟨13, _⟩ => ⟨S_, .f32⟩
  | .hbm, ⟨14, _⟩ => ⟨S4x16x15x64x64, .i1⟩
  | .hbm, ⟨15, _⟩ => ⟨S4x16x15x64x64, .f32⟩
  | .hbm, ⟨16, _⟩ => ⟨S4x16x15x64x64, .f32⟩
  | .hbm, ⟨17, _⟩ => ⟨S4x8x2x15x64x64, .f32⟩
  | .hbm, ⟨18, _⟩ => ⟨S4x8x15x2x64x64, .f32⟩
  | .hbm, ⟨19, _⟩ => ⟨S4x8x15x128x64, .f32⟩
  | .hbm, ⟨20, _⟩ => ⟨S4x8x14x128x64, .f32⟩
  | .hbm, ⟨21, _⟩ => ⟨S4x8x14x128x64, .f32⟩
  | .hbm, ⟨22, _⟩ => ⟨S4x8x14x128x128, .f32⟩
  | .hbm, ⟨23, _⟩ => ⟨S1x1024, .f32⟩
  | .hbm, ⟨24, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1x8x14x128x128, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S4x8x128x512, .f32⟩
  | .local _ .vmem, ⟨11, _⟩ => ⟨S4x8x128x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let c0_i32 : BitVec 32 := 0#32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let c64_i32_2 : BitVec 32 := 64#32
  let v10 : BitVec 32 := Scalar.muli v7 c64_i32_2
  v10
def k0_off1 (i : grid0.Coords) (c0_i32 : BitVec 32) : Fin 2 → Nat :=
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let c64_i32_2 : BitVec 32 := 64#32
  let v10 : BitVec 32 := Scalar.muli v7 c64_i32_2
  let v11 : BitVec 32 := v10
  let v19 : Index := Scalar.indexCast v11
  let c0_5 : Index := 0#32
  ![v19.toNat, 0]
def k0_off2 (i : grid0.Coords) (c0_i32 : BitVec 32) : Fin 2 → Nat :=
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let c64_i32_2 : BitVec 32 := 64#32
  let v10 : BitVec 32 := Scalar.muli v7 c64_i32_2
  let v11 : BitVec 32 := v10
  let v32 : Index := Scalar.indexCast v11
  let c128_14 : Index := 128#32
  ![v32.toNat, 128]
def k0_off3 (i : grid0.Coords) (c0_i32 : BitVec 32) : Fin 2 → Nat :=
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let c64_i32_2 : BitVec 32 := 64#32
  let v10 : BitVec 32 := Scalar.muli v7 c64_i32_2
  let v11 : BitVec 32 := v10
  let v45 : Index := Scalar.indexCast v11
  let c256_22 : Index := 256#32
  ![v45.toNat, 256]
def k0_off4 (i : grid0.Coords) (c0_i32 : BitVec 32) : Fin 2 → Nat :=
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let c64_i32_2 : BitVec 32 := 64#32
  let v10 : BitVec 32 := Scalar.muli v7 c64_i32_2
  let v11 : BitVec 32 := v10
  let v58 : Index := Scalar.indexCast v11
  let c384_30 : Index := 384#32
  ![v58.toNat, 384]
def k0_off5 (i : grid0.Coords) (c0_i32 : BitVec 32) : Fin 2 → Nat :=
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let c64_i32_2 : BitVec 32 := 64#32
  let v10 : BitVec 32 := Scalar.muli v7 c64_i32_2
  let v11 : BitVec 32 := v10
  let v71 : Index := Scalar.indexCast v11
  let c512_38 : Index := 512#32
  ![v71.toNat, 512]
def k0_off6 (i : grid0.Coords) (c0_i32 : BitVec 32) : Fin 2 → Nat :=
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let c64_i32_2 : BitVec 32 := 64#32
  let v10 : BitVec 32 := Scalar.muli v7 c64_i32_2
  let v11 : BitVec 32 := v10
  let v84 : Index := Scalar.indexCast v11
  let c640_46 : Index := 640#32
  ![v84.toNat, 640]
def k0_off7 (i : grid0.Coords) (c0_i32 : BitVec 32) : Fin 2 → Nat :=
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let c64_i32_2 : BitVec 32 := 64#32
  let v10 : BitVec 32 := Scalar.muli v7 c64_i32_2
  let v11 : BitVec 32 := v10
  let v97 : Index := Scalar.indexCast v11
  let c768_54 : Index := 768#32
  ![v97.toNat, 768]
def k0_off8 (i : grid0.Coords) (c0_i32 : BitVec 32) : Fin 2 → Nat :=
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let c64_i32_2 : BitVec 32 := 64#32
  let v10 : BitVec 32 := Scalar.muli v7 c64_i32_2
  let v11 : BitVec 32 := v10
  let v110 : Index := Scalar.indexCast v11
  let c896_62 : Index := 896#32
  ![v110.toNat, 896]
def k0_off9 (i : grid0.Coords) (c0_i32 : BitVec 32) (c0_i32_67 : BitVec 32) : Fin 5 → Nat :=
  let c0_68 : Index := 0#32
  let c0_69 : Index := 0#32
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let v8 : BitVec 32 := Scalar.subi v7 v4
  let c7_i32 : BitVec 32 := 7#32
  let v9 : BitVec 32 := Scalar.addi v8 c7_i32
  let v116 : BitVec 32 := Scalar.addi v9 c0_i32_67
  let v117 : Index := Scalar.indexCast v116
  let c0_70 : Index := 0#32
  let c0_71 : Index := 0#32
  ![0, 0, v117.toNat, 0, 0]
def k0_off10 (i : grid0.Coords) (c0_i32 : BitVec 32) (c0_i32_96 : BitVec 32) : Fin 5 → Nat :=
  let c0_97 : Index := 0#32
  let c1_98 : Index := 1#32
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let v8 : BitVec 32 := Scalar.subi v7 v4
  let c7_i32 : BitVec 32 := 7#32
  let v9 : BitVec 32 := Scalar.addi v8 c7_i32
  let v149 : BitVec 32 := Scalar.addi v9 c0_i32_96
  let v150 : Index := Scalar.indexCast v149
  let c0_99 : Index := 0#32
  let c0_100 : Index := 0#32
  ![0, 1, v150.toNat, 0, 0]
def k0_off11 (i : grid0.Coords) (c0_i32 : BitVec 32) (c0_i32_127 : BitVec 32) : Fin 5 → Nat :=
  let c0_128 : Index := 0#32
  let c2_129 : Index := 2#32
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let v8 : BitVec 32 := Scalar.subi v7 v4
  let c7_i32 : BitVec 32 := 7#32
  let v9 : BitVec 32 := Scalar.addi v8 c7_i32
  let v182 : BitVec 32 := Scalar.addi v9 c0_i32_127
  let v183 : Index := Scalar.indexCast v182
  let c0_130 : Index := 0#32
  let c0_131 : Index := 0#32
  ![0, 2, v183.toNat, 0, 0]
def k0_off12 (i : grid0.Coords) (c0_i32 : BitVec 32) (c0_i32_158 : BitVec 32) : Fin 5 → Nat :=
  let c0_159 : Index := 0#32
  let c3_160 : Index := 3#32
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let v8 : BitVec 32 := Scalar.subi v7 v4
  let c7_i32 : BitVec 32 := 7#32
  let v9 : BitVec 32 := Scalar.addi v8 c7_i32
  let v215 : BitVec 32 := Scalar.addi v9 c0_i32_158
  let v216 : Index := Scalar.indexCast v215
  let c0_161 : Index := 0#32
  let c0_162 : Index := 0#32
  ![0, 3, v216.toNat, 0, 0]
def k0_off13 (i : grid0.Coords) (c0_i32 : BitVec 32) (c0_i32_189 : BitVec 32) : Fin 5 → Nat :=
  let c0_190 : Index := 0#32
  let c4_191 : Index := 4#32
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let v8 : BitVec 32 := Scalar.subi v7 v4
  let c7_i32 : BitVec 32 := 7#32
  let v9 : BitVec 32 := Scalar.addi v8 c7_i32
  let v248 : BitVec 32 := Scalar.addi v9 c0_i32_189
  let v249 : Index := Scalar.indexCast v248
  let c0_192 : Index := 0#32
  let c0_193 : Index := 0#32
  ![0, 4, v249.toNat, 0, 0]
def k0_off14 (i : grid0.Coords) (c0_i32 : BitVec 32) (c0_i32_220 : BitVec 32) : Fin 5 → Nat :=
  let c0_221 : Index := 0#32
  let c5_222 : Index := 5#32
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let v8 : BitVec 32 := Scalar.subi v7 v4
  let c7_i32 : BitVec 32 := 7#32
  let v9 : BitVec 32 := Scalar.addi v8 c7_i32
  let v281 : BitVec 32 := Scalar.addi v9 c0_i32_220
  let v282 : Index := Scalar.indexCast v281
  let c0_223 : Index := 0#32
  let c0_224 : Index := 0#32
  ![0, 5, v282.toNat, 0, 0]
def k0_off15 (i : grid0.Coords) (c0_i32 : BitVec 32) (c0_i32_251 : BitVec 32) : Fin 5 → Nat :=
  let c0_252 : Index := 0#32
  let c6_253 : Index := 6#32
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let v8 : BitVec 32 := Scalar.subi v7 v4
  let c7_i32 : BitVec 32 := 7#32
  let v9 : BitVec 32 := Scalar.addi v8 c7_i32
  let v314 : BitVec 32 := Scalar.addi v9 c0_i32_251
  let v315 : Index := Scalar.indexCast v314
  let c0_254 : Index := 0#32
  let c0_255 : Index := 0#32
  ![0, 6, v315.toNat, 0, 0]
def k0_off16 (i : grid0.Coords) (c0_i32 : BitVec 32) (c0_i32_282 : BitVec 32) : Fin 5 → Nat :=
  let c0_283 : Index := 0#32
  let c7_284 : Index := 7#32
  let c24_i32 : BitVec 32 := 24#32
  let c0_i32_1 : BitVec 32 := 0#32
  let arg1 : BitVec 32 := BitVec.ofNat 32 (i 1).val
  let c4_i32 : BitVec 32 := 4#32
  let v3 : BitVec 32 := Scalar.muli arg1 c4_i32
  let v4 : BitVec 32 := Scalar.addi v3 c0_i32
  let c4_i32_0 : BitVec 32 := 4#32
  let v5 : BitVec 32 := Scalar.subi v4 c4_i32_0
  let v6 : BitVec 32 := Scalar.maxsi c0_i32_1 v5
  let v7 : BitVec 32 := Scalar.minsi c24_i32 v6
  let v8 : BitVec 32 := Scalar.subi v7 v4
  let c7_i32 : BitVec 32 := 7#32
  let v9 : BitVec 32 := Scalar.addi v8 c7_i32
  let v347 : BitVec 32 := Scalar.addi v9 c0_i32_282
  let v348 : Index := Scalar.indexCast v347
  let c0_285 : Index := 0#32
  let c0_286 : Index := 0#32
  ![0, 7, v348.toNat, 0, 0]
def k0_mult2 (i : grid0.Coords) : BitVec 32 :=
  let c24_i32_371 : BitVec 32 := 24#32
  let c0_i32_370 : BitVec 32 := 0#32
  let arg1 : BitVec 32 := BitVec.ofNat 32 (i 1).val
  let c4_i32_368 : BitVec 32 := 4#32
  let v477 : BitVec 32 := Scalar.muli arg1 c4_i32_368
  let c1_i32 : BitVec 32 := 1#32
  let v478 : BitVec 32 := Scalar.addi v477 c1_i32
  let c4_i32_369 : BitVec 32 := 4#32
  let v479 : BitVec 32 := Scalar.subi v478 c4_i32_369
  let v480 : BitVec 32 := Scalar.maxsi c0_i32_370 v479
  let v481 : BitVec 32 := Scalar.minsi c24_i32_371 v480
  let c64_i32_373 : BitVec 32 := 64#32
  let v484 : BitVec 32 := Scalar.muli v481 c64_i32_373
  v484
def k0_mult3 (i : grid0.Coords) : BitVec 32 :=
  let c24_i32_760 : BitVec 32 := 24#32
  let c0_i32_759 : BitVec 32 := 0#32
  let arg1 : BitVec 32 := BitVec.ofNat 32 (i 1).val
  let c4_i32_756 : BitVec 32 := 4#32
  let v951 : BitVec 32 := Scalar.muli arg1 c4_i32_756
  let c2_i32_757 : BitVec 32 := 2#32
  let v952 : BitVec 32 := Scalar.addi v951 c2_i32_757
  let c4_i32_758 : BitVec 32 := 4#32
  let v953 : BitVec 32 := Scalar.subi v952 c4_i32_758
  let v954 : BitVec 32 := Scalar.maxsi c0_i32_759 v953
  let v955 : BitVec 32 := Scalar.minsi c24_i32_760 v954
  let c64_i32_762 : BitVec 32 := 64#32
  let v958 : BitVec 32 := Scalar.muli v955 c64_i32_762
  v958
def k0_mult4 (i : grid0.Coords) : BitVec 32 :=
  let c24_i32_1149 : BitVec 32 := 24#32
  let c0_i32_1148 : BitVec 32 := 0#32
  let arg1 : BitVec 32 := BitVec.ofNat 32 (i 1).val
  let c4_i32_1146 : BitVec 32 := 4#32
  let v1425 : BitVec 32 := Scalar.muli arg1 c4_i32_1146
  let c3_i32 : BitVec 32 := 3#32
  let v1426 : BitVec 32 := Scalar.addi v1425 c3_i32
  let c4_i32_1147 : BitVec 32 := 4#32
  let v1427 : BitVec 32 := Scalar.subi v1426 c4_i32_1147
  let v1428 : BitVec 32 := Scalar.maxsi c0_i32_1148 v1427
  let v1429 : BitVec 32 := Scalar.minsi c24_i32_1149 v1428
  let c64_i32_1151 : BitVec 32 := 64#32
  let v1432 : BitVec 32 := Scalar.muli v1429 c64_i32_1151
  v1432
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8x14x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RefNatIdeal.lean ====
abbrev S16384x4096 : Shape := ⟨2, ![16384, 4096]⟩
abbrev S4x16x15x31 : Shape := ⟨4, ![4, 16, 15, 31]⟩
abbrev S1024 : Shape := ⟨1, ![1024]⟩
abbrev S16384x1024 : Shape := ⟨2, ![16384, 1024]⟩
abbrev S8x32x64x16x64 : Shape := ⟨5, ![8, 32, 64, 16, 64]⟩
abbrev S_ : Shape := ⟨0, ![]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S8x32x8x64x16x64 : Shape := ⟨6, ![8, 32, 8, 64, 16, 64]⟩
abbrev S1x16x15x31 : Shape := ⟨4, ![1, 16, 15, 31]⟩
abbrev S16x15x31 : Shape := ⟨3, ![16, 15, 31]⟩
abbrev S16x32x8x31 : Shape := ⟨4, ![16, 32, 8, 31]⟩
abbrev S64x64x1 : Shape := ⟨3, ![64, 64, 1]⟩
abbrev S16x32x8x64x64 : Shape := ⟨5, ![16, 32, 8, 64, 64]⟩
abbrev S8x32x16x64x8x64 : Shape := ⟨6, ![8, 32, 16, 64, 8, 64]⟩
abbrev S32x16x64x8x64 : Shape := ⟨5, ![32, 16, 64, 8, 64]⟩
abbrev S1x32x16x64x8x64 : Shape := ⟨6, ![1, 32, 16, 64, 8, 64]⟩
abbrev S8x32x16x64x512 : Shape := ⟨5, ![8, 32, 16, 64, 512]⟩
abbrev S8x32x16x64 : Shape := ⟨4, ![8, 32, 16, 64]⟩
abbrev S8x32x16x64x1 : Shape := ⟨5, ![8, 32, 16, 64, 1]⟩
abbrev S8x32x16x64x64 : Shape := ⟨5, ![8, 32, 16, 64, 64]⟩
abbrev S16384 : Shape := ⟨1, ![16384]⟩
abbrev S16384x1 : Shape := ⟨2, ![16384, 1]⟩
abbrev S1x1024 : Shape := ⟨2, ![1, 1024]⟩

abbrev nBuf : Space → Nat
  | .hbm => 161
  | .vmem => 0
  | .smem => 0
  | _ => 0

abbrev hbmTy0_0 (i : Nat) : BufTy := match i % 128 with
  | 0 => ⟨S16384x4096, .bf16⟩
  | 1 => ⟨S4x16x15x31, .f32⟩
  | 2 => ⟨S1024, .f32⟩
  | 3 => ⟨S16384x4096, .f32⟩
  | 4 => ⟨S16384x1024, .f32⟩
  | 5 => ⟨S8x32x64x16x64, .f32⟩
  | 6 => ⟨S16384x4096, .f32⟩
  | 7 => ⟨S16384x1024, .f32⟩
  | 8 => ⟨S8x32x64x16x64, .f32⟩
  | 9 => ⟨S16384x4096, .f32⟩
  | 10 => ⟨S16384x1024, .f32⟩
  | 11 => ⟨S8x32x64x16x64, .f32⟩
  | 12 => ⟨S_, .f32⟩
  | 13 => ⟨S8x32x64x16x64, .f32⟩
  | 14 => ⟨S8x32x64x16x64, .f32⟩
  | 15 => ⟨S64, .i32⟩
  | 16 => ⟨S64x1, .i32⟩
  | 17 => ⟨S64, .i32⟩
  | 18 => ⟨S1x64, .i32⟩
  | 19 => ⟨S_, .i32⟩
  | 20 => ⟨S64x1, .i32⟩
  | 21 => ⟨S64x1, .i32⟩
  | 22 => ⟨S_, .i32⟩
  | 23 => ⟨S_, .i32⟩
  | 24 => ⟨S_, .i32⟩
  | 25 => ⟨S64x1, .i32⟩
  | 26 => ⟨S64x1, .i32⟩
  | 27 => ⟨S_, .i32⟩
  | 28 => ⟨S64x1, .i32⟩
  | 29 => ⟨S64x1, .i32⟩
  | 30 => ⟨S64x64, .i32⟩
  | 31 => ⟨S64x64, .i32⟩
  | 32 => ⟨S64x64, .i1⟩
  | 33 => ⟨S_, .i32⟩
  | 34 => ⟨S64x1, .i32⟩
  | 35 => ⟨S64x1, .i32⟩
  | 36 => ⟨S64x64, .i32⟩
  | 37 => ⟨S64x64, .i32⟩
  | 38 => ⟨S64x64, .i1⟩
  | 39 => ⟨S64x64, .i1⟩
  | 40 => ⟨S64x64, .i32⟩
  | 41 => ⟨S64x64, .i32⟩
  | 42 => ⟨S64x64, .i32⟩
  | 43 => ⟨S_, .i32⟩
  | 44 => ⟨S_, .i32⟩
  | 45 => ⟨S_, .i32⟩
  | 46 => ⟨S64x64, .i32⟩
  | 47 => ⟨S64x64, .i32⟩
  | 48 => ⟨S_, .i32⟩
  | 49 => ⟨S64x64, .i32⟩
  | 50 => ⟨S64x64, .i32⟩
  | 51 => ⟨S_, .i32⟩
  | 52 => ⟨S64x64, .i32⟩
  | 53 => ⟨S64x64, .i32⟩
  | 54 => ⟨S32, .i32⟩
  | 55 => ⟨S32x1, .i32⟩
  | 56 => ⟨S_, .i32⟩
  | 57 => ⟨S32x1, .i32⟩
  | 58 => ⟨S32x1, .i32⟩
  | 59 => ⟨S_, .i32⟩
  | 60 => ⟨S_, .i32⟩
  | 61 => ⟨S_, .i32⟩
  | 62 => ⟨S32x1, .i32⟩
  | 63 => ⟨S32x1, .i32⟩
  | 64 => ⟨S_, .i32⟩
  | 65 => ⟨S32x1, .i32⟩
  | 66 => ⟨S32x1, .i32⟩
  | 67 => ⟨S8, .i32⟩
  | 68 => ⟨S1x8, .i32⟩
  | 69 => ⟨S32x8, .i32⟩
  | 70 => ⟨S32x8, .i32⟩
  | 71 => ⟨S32x8, .i32⟩
  | 72 => ⟨S_, .i32⟩
  | 73 => ⟨S32x8, .i32⟩
  | 74 => ⟨S32x8, .i1⟩
  | 75 => ⟨S_, .i32⟩
  | 76 => ⟨S32x8, .i32⟩
  | 77 => ⟨S32x8, .i32⟩
  | 78 => ⟨S32x8, .i32⟩
  | 79 => ⟨S32x8x1, .i32⟩
  | 80 => ⟨S8x32x8x64x16x64, .f32⟩
  | 81 => ⟨S_, .i32⟩
  | 82 => ⟨S32x8, .i32⟩
  | 83 => ⟨S32x8, .i1⟩
  | 84 => ⟨S_, .i32⟩
  | 85 => ⟨S32x8, .i32⟩
  | 86 => ⟨S32x8, .i32⟩
  | 87 => ⟨S32x8, .i32⟩
  | 88 => ⟨S32x8x1, .i32⟩
  | 89 => ⟨S8x32x8x64x16x64, .f32⟩
  | 90 => ⟨S1x16x15x31, .f32⟩
  | 91 => ⟨S16x15x31, .f32⟩
  | 92 => ⟨S32x8, .i32⟩
  | 93 => ⟨S32x8, .i32⟩
  | 94 => ⟨S_, .i32⟩
  | 95 => ⟨S32x8, .i32⟩
  | 96 => ⟨S32x8, .i32⟩
  | 97 => ⟨S_, .i32⟩
  | 98 => ⟨S32x8, .i32⟩
  | 99 => ⟨S32x8, .i1⟩
  | 100 => ⟨S_, .i32⟩
  | 101 => ⟨S32x8, .i32⟩
  | 102 => ⟨S32x8, .i32⟩
  | 103 => ⟨S32x8, .i32⟩
  | 104 => ⟨S32x8x1, .i32⟩
  | 105 => ⟨S16x32x8x31, .f32⟩
  | 106 => ⟨S_, .i32⟩
  | 107 => ⟨S64x64, .i32⟩
  | 108 => ⟨S64x64, .i1⟩
  | 109 => ⟨S_, .i32⟩
  | 110 => ⟨S64x64, .i32⟩
  | 111 => ⟨S64x64, .i32⟩
  | 112 => ⟨S64x64, .i32⟩
  | 113 => ⟨S64x64x1, .i32⟩
  | 114 => ⟨S16x32x8x64x64, .f32⟩
  | 115 => ⟨S_, .f32⟩
  | 116 => ⟨S_, .f32⟩
  | 117 => ⟨S16x32x8x64x64, .i1⟩
  | 118 => ⟨S16x32x8x64x64, .f32⟩
  | 119 => ⟨S16x32x8x64x64, .f32⟩
  | 120 => ⟨S8x32x16x64x8x64, .f32⟩
  | 121 => ⟨S32x16x64x8x64, .f32⟩
  | 122 => ⟨S1x32x16x64x8x64, .f32⟩
  | 123 => ⟨S8x32x16x64x8x64, .f32⟩
  | 124 => ⟨S8x32x16x64x8x64, .f32⟩
  | 125 => ⟨S8x32x16x64x512, .f32⟩
  | 126 => ⟨S_, .f32⟩
  | 127 => ⟨S8x32x16x64, .f32⟩
  | _ => ⟨S16384x4096, .bf16⟩

abbrev hbmTy0_1 (i : Nat) : BufTy := match i % 128 with
  | 0 => ⟨S_, .f32⟩
  | 1 => ⟨S8x32x16x64, .f32⟩
  | 2 => ⟨S8x32x16x64, .f32⟩
  | 3 => ⟨S8x32x16x64x1, .f32⟩
  | 4 => ⟨S8x32x16x64x512, .f32⟩
  | 5 => ⟨S8x32x16x64x512, .f32⟩
  | 6 => ⟨S8x32x16x64x512, .f32⟩
  | 7 => ⟨S_, .f32⟩
  | 8 => ⟨S8x32x16x64, .f32⟩
  | 9 => ⟨S8x32x16x64x1, .f32⟩
  | 10 => ⟨S8x32x16x64x512, .f32⟩
  | 11 => ⟨S8x32x16x64x512, .f32⟩
  | 12 => ⟨S8x32x16x64x8x64, .f32⟩
  | 13 => ⟨S8x32x16x64x64, .f32⟩
  | 14 => ⟨S8x32x64x16x64, .f32⟩
  | 15 => ⟨S16384x1024, .f32⟩
  | 16 => ⟨S16384x1024, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1, .f32⟩
  | 27 => ⟨S16384x1024, .f32⟩
  | 28 => ⟨S16384x1024, .f32⟩
  | 29 => ⟨S1x1024, .f32⟩
  | 30 => ⟨S16384x1024, .f32⟩
  | 31 => ⟨S16384x1024, .f32⟩
  | 32 => ⟨S16384x1024, .bf16⟩
  | _ => ⟨S16384x4096, .bf16⟩

abbrev hbmTy (i : Nat) : BufTy := match i / 128 with
  | 0 => hbmTy0_0 i
  | 1 => hbmTy0_1 i
  | _ => ⟨S16384x4096, .bf16⟩

abbrev bufTy : (tb : Table) → Fin (tcTables nBuf tb) → BufTy
  | .hbm, ⟨i, _⟩ => hbmTy i
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_3 : Ref sig .tc := ⟨.hbm, 43, rfl⟩
abbrev main_c_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_6 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_c_8 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_c_9 : Ref sig .tc := ⟨.hbm, 72, rfl⟩
abbrev main_v43 : Ref sig .tc := ⟨.hbm, 73, rfl⟩
abbrev main_v44 : Ref sig .tc := ⟨.hbm, 74, rfl⟩
abbrev main_c_10 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_11 : Ref sig .tc := ⟨.hbm, 81, rfl⟩
abbrev main_v50 : Ref sig .tc := ⟨.hbm, 82, rfl⟩
abbrev main_v51 : Ref sig .tc := ⟨.hbm, 83, rfl⟩
abbrev main_c_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_13 : Ref sig .tc := ⟨.hbm, 94, rfl⟩
abbrev main_v61 : Ref sig .tc := ⟨.hbm, 95, rfl⟩
abbrev main_v62 : Ref sig .tc := ⟨.hbm, 96, rfl⟩
abbrev main_c_14 : Ref sig .tc := ⟨.hbm, 97, rfl⟩
abbrev main_v63 : Ref sig .tc := ⟨.hbm, 98, rfl⟩
abbrev main_v64 : Ref sig .tc := ⟨.hbm, 99, rfl⟩
abbrev main_c_15 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_16 : Ref sig .tc := ⟨.hbm, 106, rfl⟩
abbrev main_v70 : Ref sig .tc := ⟨.hbm, 107, rfl⟩
abbrev main_v71 : Ref sig .tc := ⟨.hbm, 108, rfl⟩
abbrev main_c_17 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_18 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_19 : Ref sig .tc := ⟨.hbm, 126, rfl⟩
abbrev main_v84 : Ref sig .tc := ⟨.hbm, 127, rfl⟩
abbrev main_cst_20 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_21 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_cst_23 : Ref sig .tc := ⟨.hbm, 148, rfl⟩
abbrev main_v102 : Ref sig .tc := ⟨.hbm, 149, rfl⟩
abbrev main_v103 : Ref sig .tc := ⟨.hbm, 150, rfl⟩
abbrev main_cst_24 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩

abbrev nD : Nat := 1
abbrev τ : Topo := Topo.v7x

variable {F : FTy → Type} [FloatOps F]
-- ==== Proof.Spec.lean ====
/-
  The attention's mathematics over arrays read at numbered places: the rotation angles, a query's score against a key,
  and that finite queries, keys and rotated keys have real scores.
-/
module

public import Idealize.ShloMosaic.PureOps.Ideal
public import Idealize.ShloMosaic.Lib.Pointwise

@[expose] public section

noncomputable section

namespace Attn

open Idealize.ShloMosaic
open scoped BigOperators

/-- The element of a two-axis array at row `a` and column `b`, zero outside it. -/
def at2 {n0 n1 : ℕ} (f : (⟨2, ![n0, n1]⟩ : Shape).Idx → EReal) (a b : ℕ) : EReal :=
  if h : a < n0 ∧ b < n1 then f (ix2 ⟨a, h.1⟩ ⟨b, h.2⟩) else 0

theorem at2_eq {n0 n1 : ℕ} (f : (⟨2, ![n0, n1]⟩ : Shape).Idx → EReal) (a : Fin n0) (b : Fin n1) (a' b' : ℕ)
    (ha : a.val = a') (hb : b.val = b') : f (ix2 a b) = at2 f a' b' := by
  subst ha hb
  rw [at2, dif_pos ⟨a.isLt, b.isLt⟩]

/-- The rotation angle of position `s` at frequency `f`: `s · 10000 ^ (−2 f / 64)`. -/
def angle (s f : ℕ) : EReal :=
  FloatOps.sitofp (F := Ideal) FTy.f32 (BitVec.ofNat 32 s) * Ideal.pow (Ideal.ofBits FTy.f32 1176256512#32)
    (Ideal.div (-(Ideal.ofBits FTy.f32 1073741824#32 * FloatOps.sitofp (F := Ideal) FTy.f32 (BitVec.ofNat 32 f)))
      (Ideal.ofBits FTy.f32 1115684864#32))

/-- The cosine of a rotation angle. -/
def cosT (s f : ℕ) : EReal := Ideal.cos (angle s f)
/-- The sine of a rotation angle. -/
def sinT (s f : ℕ) : EReal := Ideal.sin (angle s f)

/-- The score of query `i` against key `k` in head `h` of batch `b`, before scaling: plain parts, then the rotated
    parts' first and second halves. -/
def score (Q K P : ℕ → ℕ → EReal) (b h i k : ℕ) : EReal :=
  (∑ x : Fin 128, Q (b * 2048 + i) (h * 192 + x) * K (b * 2048 + k) (h * 256 + x)) +
    ((∑ x : Fin 32,
        (P (b * 2048 + k) (768 + x) * cosT k x - P (b * 2048 + k) (768 + (32 + x)) * sinT k x) *
          (Q (b * 2048 + i) (h * 192 + (128 + x)) * cosT i x - Q (b * 2048 + i) (h * 192 + (128 + (32 + x))) * sinT i x)) +
      ∑ x : Fin 32,
        (P (b * 2048 + k) (768 + (32 + x)) * cosT k x + P (b * 2048 + k) (768 + x) * sinT k x) *
          (Q (b * 2048 + i) (h * 192 + (128 + (32 + x))) * cosT i x + Q (b * 2048 + i) (h * 192 + (128 + x)) * sinT i x))

/-! ## Real values -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sum {n : ℕ} {f : Fin n → EReal} (h : ∀ k, IsReal (f k)) : IsReal (∑ k, f k) := by
  choose g hg using h
  refine ⟨∑ k, g k, ?_⟩
  simp only [hg]
  induction (Finset.univ : Finset (Fin n)) using Finset.induction_on with
  | empty => simp
  | insert a s ha ih => rw [Finset.sum_insert ha, Finset.sum_insert ha, ih, EReal.coe_add]

theorem ofBits_base : Ideal.ofBits FTy.f32 1176256512#32 = ((10000 : ℝ) : EReal) := by
  simp [Ideal.ofBits, Ideal.ieee, -EReal.coe_mul]; norm_num
theorem ofBits_two : Ideal.ofBits FTy.f32 1073741824#32 = ((2 : ℝ) : EReal) := by
  simp [Ideal.ofBits, Ideal.ieee, -EReal.coe_mul]; norm_num
theorem ofBits_64 : Ideal.ofBits FTy.f32 1115684864#32 = ((64 : ℝ) : EReal) := by
  simp [Ideal.ofBits, Ideal.ieee, -EReal.coe_mul]; norm_num
theorem ofBits_192 : Ideal.ofBits FTy.f32 0x43400000#32 = ((192 : ℝ) : EReal) := by
  simp [Ideal.ofBits, Ideal.ieee, -EReal.coe_mul]; norm_num
theorem ofBits_one : Ideal.ofBits FTy.f32 0x3F800000#32 = 1 := by
  simp [Ideal.ofBits, Ideal.ieee, -EReal.coe_mul]; norm_num
theorem ofBits_bot : Ideal.ofBits FTy.f32 4286578688#32 = ⊥ := by
  simp [Ideal.ofBits, Ideal.ieee, -EReal.coe_mul]

theorem isReal_div {x : ℝ} {y : ℝ} (hy : y ≠ 0) : Ideal.div (x : EReal) (y : EReal) = ((x * y⁻¹ : ℝ) : EReal) := by
  rw [Ideal.div, if_neg (by rw [EReal.coe_eq_zero]; exact hy), ← EReal.coe_inv, ← EReal.coe_mul]

/-- Every rotation angle is a real number. -/
theorem angle_real (s f : ℕ) : IsReal (angle s f) := by
  have hs : ∀ b : BitVec 32, IsReal (FloatOps.sitofp (F := Ideal) FTy.f32 b) := fun b => ⟨_, rfl⟩
  rw [angle, ofBits_base, ofBits_two, ofBits_64]
  refine (hs _).mul ?_
  obtain ⟨e, he⟩ := hs (BitVec.ofNat 32 f)
  rw [he, ← EReal.coe_mul, ← EReal.coe_neg, isReal_div (by norm_num)]
  exact ⟨_, rfl⟩

theorem cos_real (s f : ℕ) : IsReal (cosT s f) := by
  obtain ⟨r, hr⟩ := angle_real s f
  rw [cosT, hr]; exact ⟨_, rfl⟩
theorem sin_real (s f : ℕ) : IsReal (sinT s f) := by
  obtain ⟨r, hr⟩ := angle_real s f
  rw [sinT, hr]; exact ⟨_, rfl⟩

/-- Finite queries, keys and rotated keys have real scores. -/
theorem score_real {Q K P : ℕ → ℕ → EReal} (hQ : ∀ a b, IsReal (Q a b)) (hK : ∀ a b, IsReal (K a b))
    (hP : ∀ a b, IsReal (P a b)) (b h i k : ℕ) : IsReal (score Q K P b h i k) := by
  have hc := cos_real
  have hs := sin_real
  refine (IsReal.sum fun x => (hQ _ _).mul (hK _ _)).add ((IsReal.sum fun x => ?_).add (IsReal.sum fun x => ?_))
  · exact (((hP _ _).mul (hc _ _)).sub ((hP _ _).mul (hs _ _))).mul (((hQ _ _).mul (hc _ _)).sub ((hQ _ _).mul (hs _ _)))
  · exact (((hP _ _).mul (hc _ _)).add ((hP _ _).mul (hs _ _))).mul (((hQ _ _).mul (hc _ _)).add ((hQ _ _).mul (hs _ _)))

/-! ## Sums over masked lanes -/

/-- A sum over 128 lanes is the sum of its four quarters. -/
theorem sum_quarters (f : ℕ → EReal) : ∑ x : Fin 128, f x
    = ((∑ x : Fin 32, f x) + ∑ x : Fin 32, f (32 + x)) + ((∑ x : Fin 32, f (64 + x)) + ∑ x : Fin 32, f (96 + x)) := by
  have h1 : ∀ g : ℕ → EReal, ∑ x : Fin 64, g x = (∑ x : Fin 32, g x) + ∑ x : Fin 32, g (32 + x) := fun g =>
    Fin.sum_univ_add (a := 32) (b := 32) fun x => g x
  have h2 : ∑ x : Fin 128, f x = (∑ x : Fin 64, f x) + ∑ x : Fin 64, f (64 + x) :=
    Fin.sum_univ_add (a := 64) (b := 64) fun x => f x
  rw [h2, h1, h1 fun x => f (64 + x)]
  have h3 : ∑ x : Fin 32, f (64 + (32 + x)) = ∑ x : Fin 32, f (96 + x) := Finset.sum_congr rfl fun x _ => congrArg f (by omega)
  rw [h3]

/-- The first half of the lanes kept. -/
theorem sum_first (g : Fin 128 → EReal) (f : ℕ → EReal) (h0 : ∀ x : Fin 128, x.val < 64 → g x = f x)
    (h1 : ∀ x : Fin 128, 64 ≤ x.val → g x = 0) : ∑ x, g x = (∑ x : Fin 32, f x) + ∑ x : Fin 32, f (32 + x) := by
  have e : ∀ x : Fin 128, g x = (fun n : ℕ => if n < 64 then f n else 0) x := fun x => by
    by_cases hx : x.val < 64
    · simp only [hx, if_true]; exact h0 x hx
    · simp only [hx, if_false]; exact h1 x (by omega)
  rw [Finset.sum_congr rfl fun x _ => e x, sum_quarters (fun n : ℕ => if n < 64 then f n else 0)]
  have a : ∀ x : Fin 32, (if (x : ℕ) < 64 then f x else 0) = f x := fun x => if_pos (by omega)
  have b : ∀ x : Fin 32, (if 32 + (x : ℕ) < 64 then f (32 + x) else 0) = f (32 + x) := fun x => if_pos (by omega)
  have c : ∀ x : Fin 32, (if 64 + (x : ℕ) < 64 then f (64 + x) else 0) = 0 := fun x => if_neg (by omega)
  have d : ∀ x : Fin 32, (if 96 + (x : ℕ) < 64 then f (96 + x) else 0) = 0 := fun x => if_neg (by omega)
  simp only [a, b, c, d, Finset.sum_const_zero, add_zero]

/-- The last half of the lanes kept. -/
theorem sum_last (g : Fin 128 → EReal) (f : ℕ → EReal) (h0 : ∀ x : Fin 128, 64 ≤ x.val → g x = f (x - 64))
    (h1 : ∀ x : Fin 128, x.val < 64 → g x = 0) : ∑ x, g x = (∑ x : Fin 32, f x) + ∑ x : Fin 32, f (32 + x) := by
  have e : ∀ x : Fin 128, g x = (fun n : ℕ => if n < 64 then 0 else f (n - 64)) x := fun x => by
    by_cases hx : x.val < 64
    · simp only [hx, if_true]; exact h1 x hx
    · simp only [hx, if_false]; exact h0 x (by omega)
  rw [Finset.sum_congr rfl fun x _ => e x, sum_quarters (fun n : ℕ => if n < 64 then 0 else f (n - 64))]
  have a : ∀ x : Fin 32, (if (x : ℕ) < 64 then 0 else f (x - 64)) = 0 := fun x => if_pos (by omega)
  have b : ∀ x : Fin 32, (if 32 + (x : ℕ) < 64 then 0 else f (32 + x - 64)) = 0 := fun x => if_pos (by omega)
  have c : ∀ x : Fin 32, (if 64 + (x : ℕ) < 64 then 0 else f (64 + x - 64)) = f x := fun x => by
    rw [if_neg (by omega)]; exact congrArg f (by omega)
  have d : ∀ x : Fin 32, (if 96 + (x : ℕ) < 64 then 0 else f (96 + x - 64)) = f (32 + x) := fun x => by
    rw [if_neg (by omega)]; exact congrArg f (by omega)
  simp only [a, b, c, d, Finset.sum_const_zero, zero_add]

end Attn

end
-- ==== Proof.Finite.lean ====
/-
  The precondition in plain words: every query, key, value and projected row is a real number.
-/
module

public import proofs.«01_k».proof.Pre_finite
public import proofs.«01_k».proof.Proof.Gen.Pre_finite
public import proofs.«01_k».proof.Proof.Spec
public import Idealize.ShloMosaic.Lib.ReduceAll

@[expose] public section

noncomputable section

namespace Cert.Pre_finite

open Idealize.ShloMosaic Cert.Pre_finite.Gen
open _root_.Attn

theorem ofBits_top : Ideal.ofBits FTy.f32 0x7F800000#32 = ⊤ := by
  simp [Ideal.ofBits, Ideal.ieee, -EReal.coe_mul]

/-- A value whose absolute value is below the largest is a real number. -/
theorem real_of_abs {x : EReal} (h : Ideal.cmp .olt (max x (-x)) (Ideal.ofBits FTy.f32 0x7F800000#32) = 1#1) : IsReal x := by
  rw [ofBits_top] at h
  have hlt : max x (-x) < ⊤ := by
    by_contra hc
    simp [Ideal.cmp, hc] at h
  induction x using EReal.rec with
  | bot => simp at hlt
  | top => simp at hlt
  | coe r => exact ⟨r, rfl⟩

instance : Subsingleton S_.Idx := ⟨fun a b => funext fun i => i.elim0⟩

/-- The precondition gives real queries, real keys and values, and real projected rows. -/
theorem reals (a : FVec Ideal S16384x1536 .bf16) (b : FVec Ideal S16384x2048 .bf16) (c : FVec Ideal S16384x3904 .bf16)
    (d : FVec Ideal S1024 .f32) (h : fn (F := Ideal) a b c d = fun _ => 1#1) :
    (∀ i, IsReal (a i)) ∧ (∀ i, IsReal (b i)) ∧ ∀ i, IsReal (c i) := by
  have e := congrFun h (fun i => i.elim0)
  obtain ⟨h1, h3⟩ := IntOp.andi_eq_one.1 e
  obtain ⟨h1, h2⟩ := IntOp.andi_eq_one.1 h1
  exact ⟨fun i => real_of_abs (Host.reduce_andi_all _ _ _ _ _ h1 i), fun i => real_of_abs (Host.reduce_andi_all _ _ _ _ _ h2 i),
    fun i => real_of_abs (Host.reduce_andi_all _ _ _ _ _ h3 i)⟩

end Cert.Pre_finite

namespace Attn

open Idealize.ShloMosaic

/-- Reading a real array at numbered places gives real numbers. -/
theorem at2_real {n0 n1 : ℕ} (f : (⟨2, ![n0, n1]⟩ : Shape).Idx → EReal) (h : ∀ i, IsReal (f i)) (a b : ℕ) : IsReal (at2 f a b) := by
  rw [at2]
  split_ifs
  · exact h _
  · exact ⟨0, rfl⟩

end Attn

end
-- ==== Proof.Block.lean ====
/-
  One block of the attention call, as operations on whole vectors: the scores of a head, its softmax taken sixteen
  query rows at a time, its weighted values, and the root-mean-square normalisation of the eight heads side by side.
  Beside them, what the two scratch buffers hold after the stores the body makes into them.
-/
module

public import proofs.«01_k».proof.Proof.Gen.KernelIdeal.Frame
public import Idealize.ShloMosaic.Lib.Pointwise

@[expose] public section

noncomputable section

namespace Cert.KernelIdeal.Attn

open Idealize.ShloMosaic Idealize.ShloMosaic.TcCoe
open Cert.KernelIdeal Cert.KernelIdeal.Gen

variable {F : FTy → Type} [FloatOps F] [Named F]

/-! ## Places in the buffers -/

/-- Column block `j` (128 lanes) of the query block. -/
abbrev qCol (j : ℕ) : Rect S512x2048 := Rect.unit ![0, 128 * (j % 16)] S512x128.size (by
  intro a; fin_cases a
  · exact Nat.le_refl 512
  · show 128 * (j % 16) + 128 ≤ 2048; omega)

/-- Column block `h` (128 lanes) of a key or value block. -/
abbrev kCol (h : ℕ) : Rect S2048x1024 := Rect.unit ![0, 128 * (h % 8)] S2048x128.size (by
  intro a; fin_cases a
  · exact Nat.le_refl 2048
  · show 128 * (h % 8) + 128 ≤ 1024; omega)

/-- Head `h`'s plane of the assembled keys. -/
abbrev kHead (h : ℕ) : Rect S8x2048x256 := Rect.unit ![h % 8, 0, 0] S1x2048x256.size (by
  intro a; fin_cases a
  · show h % 8 + 1 ≤ 8; omega
  · exact Nat.le_refl 2048
  · exact Nat.le_refl 256)

/-- Slot `b` of the two-slot scratch buffers. -/
abbrev slot (b : ℕ) : Rect S2x512x2048 := Rect.unit ![b % 2, 0, 0] S1x512x2048.size (by
  intro a; fin_cases a
  · show b % 2 + 1 ≤ 2; omega
  · exact Nat.le_refl 512
  · exact Nat.le_refl 2048)

/-- Rows `16 n … 16 n + 15` of slot `b`. -/
abbrev rows (b n : ℕ) : Rect S2x512x2048 := Rect.unit ![b % 2, 16 * (n % 32), 0] S1x16x2048.size (by
  intro a; fin_cases a
  · show b % 2 + 1 ≤ 2; omega
  · show 16 * (n % 32) + 16 ≤ 512; omega
  · exact Nat.le_refl 2048)

/-! ## The block's operations -/

/-- The rotated part of a query or key: `p · cos + w · sin`, where `w` is `p` with its halves swapped. -/
def rope (cc ss : Vec F S512x128 .f32) (p w : Vec F S512x128 .bf16) : FVec F S512x128 .f32 :=
  addf
    (mulf (extf .f32 (shapeCast S512x128 p shapeCasts_S512x128_S512x128) bitsLt_bf16_f32) (shapeCast S512x128 cc shapeCasts_S512x128_S512x128))
    (mulf (extf .f32 (shapeCast S512x128 w shapeCasts_S512x128_S512x128) bitsLt_bf16_f32) (shapeCast S512x128 ss shapeCasts_S512x128_S512x128))

/-- The rotated part kept on the lanes `keep` names, zero elsewhere. -/
def masked (keep : IVec S512x128 1) (r : FVec F S512x128 .f32) : FVec F S512x128 .bf16 :=
  truncf .bf16 (select keep r (broadcast S512x128 (Scalar.ofBits .f32 0x00000000#32))) bitsLt_bf16_f32

/-- The first 64 lanes: where an even head's rotated part lies. -/
def keepE : IVec S512x128 1 := cmpi .slt (iota .tc S512x128 32 [1] iota_S512x128_d1_w32) (broadcast S512x128 64#32)
/-- The last 64 lanes: where an odd head's rotated part lies. -/
def keepO : IVec S512x128 1 := cmpi .sge (iota .tc S512x128 32 [1] iota_S512x128_d1_w32) (broadcast S512x128 64#32)

/-- A head's scores: its queries, plain part beside masked rotated part, against its keys. -/
def scores (keep : IVec S512x128 1) (cc ss : Vec F S512x128 .f32) (p w qn : Vec F S512x128 .bf16)
    (k : Vec F S1x2048x256 .bf16) : FVec F S1x512x2048 .f32 :=
  shapeCast S1x512x2048 (matmul dot_S512x256_S2048x256_S512x2048_1_1_0_0_n_n none
    (concatenate S512x256 1 [⟨S512x128, shapeCast S512x128 qn shapeCasts_S512x128_S512x128⟩, ⟨S512x128, masked keep (rope cc ss p w)⟩]
      concatenates_S512x128_S512x128_S512x256_d1)
    (shapeCast S2048x256 k shapeCasts_S1x2048x256_S2048x256) (constant S512x2048 .f32 0x00000000#32)) shapeCasts_S512x2048_S1x512x2048

/-- `2 ^ ((s − max s) · c)` along each of sixteen rows of scores. -/
def expRow (s : Vec F S1x16x2048 .f32) : FVec F S16x2048 .f32 :=
  exp2 (mulf (subf (shapeCast S16x2048 s shapeCasts_S1x16x2048_S16x2048)
      (broadcastTo S16x2048 (shapeCast S16x1 (multiReduction .maximumf [1] S16 (shapeCast S16x2048 s shapeCasts_S1x16x2048_S16x2048)
        0xFF800000#32 reduces_S16x2048_S16 (.inl rfl) rfl) shapeCasts_S16_S16x1) broadcasts_S16x1_S16x2048))
    (broadcast S16x2048 (Named.named κ "scale_log2e" 0x3DD53B95#32)))

/-- The exponentials as stored. -/
def pRow (s : Vec F S1x16x2048 .f32) : FVec F S1x16x2048 .bf16 :=
  shapeCast S1x16x2048 (truncf .bf16 (expRow s) bitsLt_bf16_f32) shapeCasts_S16x2048_S1x16x2048

/-- One over each row's sum of exponentials. -/
def invRow (s : Vec F S1x16x2048 .f32) : FVec F S16x1 .f32 :=
  divf (broadcast S16x1 (Scalar.ofBits .f32 0x3F800000#32))
    (shapeCast S16x1 (multiReduction .add [1] S16 (expRow s) 0x00000000#32 reduces_S16x2048_S16 (.inl rfl) rfl) shapeCasts_S16_S16x1)

/-- The list of `k` column pieces `g i, g (i + 1), …`. -/
def cols (g : ℕ → FVec F S16x1 .f32) : ℕ → ℕ → List ((s : Shape) × (s.Idx → F .f32))
  | 0, _ => []
  | k + 1, i => ⟨S16x1, g i⟩ :: cols g k (i + 1)

/-- A head's output block: stored exponentials times values, each row times its reciprocal sum. -/
def weighted (p : Vec F S1x512x2048 .bf16) (inv : FVec F S512x1 .f32) (v : Vec F S2048x128 .bf16) : FVec F S512x128 .f32 :=
  mulf (matmul dot_S512x2048_S2048x128_S512x128_1_0_0_1_n_n none (shapeCast S512x2048 p shapeCasts_S1x512x2048_S512x2048)
      (shapeCast S2048x128 v shapeCasts_S2048x128_S2048x128) (constant S512x128 .f32 0x00000000#32))
    (broadcastTo S512x128 inv broadcasts_S512x1_S512x128)

/-- The eight heads side by side. -/
def heads (o0 o1 o2 o3 o4 o5 o6 o7 : FVec F S512x128 .f32) : FVec F S512x1024 .f32 :=
  concatenate S512x1024 1 [⟨S512x128, o0⟩, ⟨S512x128, o1⟩, ⟨S512x128, o2⟩, ⟨S512x128, o3⟩, ⟨S512x128, o4⟩, ⟨S512x128, o5⟩, ⟨S512x128, o6⟩, ⟨S512x128, o7⟩]
    concatenates_S512x128_S512x128_S512x128_S512x128_S512x128_S512x128_S512x128_S512x128_S512x1024_d1

/-- The block divided by its rows' root mean square, times the gain. -/
def normed (o : FVec F S512x1024 .f32) (g : Vec F S1x1024 .f32) : FVec F S512x1024 .bf16 :=
  truncf .bf16 (mulf (mulf o (broadcastTo S512x1024 (rsqrt (addf (divf
      (shapeCast S512x1 (multiReduction .add [1] S512 (mulf o o) 0x00000000#32 reduces_S512x1024_S512 (.inl rfl) rfl) shapeCasts_S512_S512x1)
      (broadcast S512x1 (Scalar.ofBits .f32 0x44800000#32))) (broadcast S512x1 (Scalar.ofBits .f32 0x358637BD#32)))) broadcasts_S512x1_S512x1024))
    (broadcastTo S512x1024 (shapeCast S1x1024 g shapeCasts_S1x1024_S1x1024) broadcasts_S1x1024_S512x1024)) bitsLt_bf16_f32

/-! ## What the scratch slots hold -/

/-- Slot `b` of the buffer the stores `L` leave holds `s`. -/
def SlotIs {e : EltTy} (L : List (View.Piece (Elt F) S2x512x2048 e)) (b : ℕ) (s : Vec F S1x512x2048 e) : Prop :=
  ∀ x, View.canon L ((slot b).emb x) = s x

/-- Row group `n` of slot `b` of the buffer the stores `L` leave holds `W n`, for each of the 32 groups. -/
def RowsAre {e : EltTy} (b : ℕ) (W : ℕ → Vec F S1x16x2048 e) (L : List (View.Piece (Elt F) S2x512x2048 e)) : Prop :=
  ∀ n < 32, ∀ x, View.canon L ((rows b n).emb x) = W n x

/-- The stores of row groups `0 … n - 1` of slot `b`, last first, after the stores `L`. -/
def rowStores {e : EltTy} (b : ℕ) (W : ℕ → Vec F S1x16x2048 e) (L : List (View.Piece (Elt F) S2x512x2048 e)) :
    ℕ → List (View.Piece (Elt F) S2x512x2048 e)
  | 0 => L
  | n + 1 => ⟨rows b n, W n⟩ :: rowStores b W L n

/-- Off the last store's rectangle the buffer holds what the earlier stores left. -/
theorem canon_off {e : EltTy} {r : Rect S2x512x2048} {w : Vec F r.shape e} {L : List (View.Piece (Elt F) S2x512x2048 e)}
    {y : S2x512x2048.Idx} (h : y ∉ r.set) : View.canon (⟨r, w⟩ :: L) y = View.canon L y :=
  View.canon_cons_of_not_mem ⟨r, w⟩ L h

theorem not_mem_slot {b b' : ℕ} (x : (slot b).shape.Idx) (hb : b % 2 ≠ b' % 2) : (slot b).emb x ∉ (slot b').set := by
  intro hm
  have h0 := (Rect.mem_set_unit.1 hm) 0
  have e0 : (((slot b).emb x) 0 : ℕ) = b % 2 + 1 * (x 0 : ℕ) := rfl
  have hx : (x 0 : ℕ) < 1 := (x 0).isLt
  have h1 : b' % 2 ≤ (((slot b).emb x) 0 : ℕ) := h0.1
  have h2 : (((slot b).emb x) 0 : ℕ) < b' % 2 + 1 := h0.2
  omega

theorem SlotIs.top {e : EltTy} {L : List (View.Piece (Elt F) S2x512x2048 e)} {b : ℕ} {s : Vec F S1x512x2048 e} :
    SlotIs (⟨slot b, s⟩ :: L) b s := fun x => View.canon_cons_emb (slot b) s L x

/-- A store into the other slot leaves a slot alone. -/
theorem SlotIs.skip {e : EltTy} {L : List (View.Piece (Elt F) S2x512x2048 e)} {b b' : ℕ} {s w : Vec F S1x512x2048 e}
    (hb : b % 2 ≠ b' % 2) (h : SlotIs L b s) : SlotIs (⟨slot b', w⟩ :: L) b s := fun x =>
  (canon_off (r := slot b') (w := w) (L := L) (not_mem_slot x hb)).trans (h x)

theorem not_mem_rows {b b' n n' : ℕ} (x : (rows b n).shape.Idx) (h : b % 2 ≠ b' % 2 ∨ n % 32 ≠ n' % 32) :
    (rows b n).emb x ∉ (rows b' n').set := by
  intro hm
  have h0 := (Rect.mem_set_unit.1 hm) 0
  have h1 := (Rect.mem_set_unit.1 hm) 1
  have e0 : (((rows b n).emb x) 0 : ℕ) = b % 2 + 1 * (x 0 : ℕ) := rfl
  have e1 : (((rows b n).emb x) 1 : ℕ) = 16 * (n % 32) + 1 * (x 1 : ℕ) := rfl
  have hx0 : (x 0 : ℕ) < 1 := (x 0).isLt
  have hx1 : (x 1 : ℕ) < 16 := (x 1).isLt
  have a1 : b' % 2 ≤ (((rows b n).emb x) 0 : ℕ) := h0.1
  have a2 : (((rows b n).emb x) 0 : ℕ) < b' % 2 + 1 := h0.2
  have a3 : 16 * (n' % 32) ≤ (((rows b n).emb x) 1 : ℕ) := h1.1
  have a4 : (((rows b n).emb x) 1 : ℕ) < 16 * (n' % 32) + 16 := h1.2
  omega

theorem canon_rowStores {e : EltTy} (b : ℕ) (W : ℕ → Vec F S1x16x2048 e) (L : List (View.Piece (Elt F) S2x512x2048 e)) :
    ∀ k ≤ 32, ∀ n < k, ∀ x, View.canon (rowStores b W L k) ((rows b n).emb x) = W n x
  | 0, _, n, hn, _ => absurd hn (Nat.not_lt_zero n)
  | k + 1, hk, n, hn, x => by
    unfold rowStores
    by_cases e : n = k
    · subst e; exact View.canon_cons_emb (rows b n) (W n) _ x
    · exact (canon_off (r := rows b k) (w := W k) (L := rowStores b W L k) (not_mem_rows x (Or.inr (by omega)))).trans
        (canon_rowStores b W L k (by omega) n (by omega) x)

theorem RowsAre.top {e : EltTy} {L : List (View.Piece (Elt F) S2x512x2048 e)} {b : ℕ} {W : ℕ → Vec F S1x16x2048 e} :
    RowsAre b W (rowStores b W L 32) := fun n hn x => canon_rowStores b W L 32 le_rfl n hn x

/-- Stores of the other slot's row groups leave a slot's row groups alone. -/
theorem RowsAre.skip {e : EltTy} {L : List (View.Piece (Elt F) S2x512x2048 e)} {b b' : ℕ} {W W' : ℕ → Vec F S1x16x2048 e}
    (hb : b % 2 ≠ b' % 2) (h : RowsAre b W L) (k : ℕ) : RowsAre b W (rowStores b' W' L k) := fun n hn x => by
  induction k with
  | zero => exact h n hn x
  | succ k ih =>
    exact (canon_off (r := rows b' k) (w := W' k) (L := rowStores b' W' L k) (not_mem_rows x (Or.inl hb))).trans ih

theorem concatenate_congr {d : Fin S512x1.rank} {l l' : List ((s : Shape) × (s.Idx → F .f32))} (e : l = l')
    {h : Shape.Concatenates (l.map (·.1)) S512x1 d} {h' : Shape.Concatenates (l'.map (·.1)) S512x1 d} :
    concatenate S512x1 d l h = concatenate S512x1 d l' h' := by subst e; rfl

/-! ## A head, read through the scratch buffers -/

/-- Sixteen rows of a slot's contents. -/
def rowsOf {e : EltTy} (s : Vec F S1x512x2048 e) (n : ℕ) : Vec F S1x16x2048 e :=
  View.ld s (Rect.unit (s := S1x512x2048) ![0, 16 * (n % 32), 0] S1x16x2048.size (by
    intro a; fin_cases a
    · exact Nat.le_refl 1
    · show 16 * (n % 32) + 16 ≤ 512; omega
    · exact Nat.le_refl 2048))

/-- The slot whose row groups are `W n`. -/
def gather {e : EltTy} (W : ℕ → Vec F S1x16x2048 e) : Vec F S1x512x2048 e := fun x =>
  W ((x 1 : ℕ) / 16) (ix3 (0 : Fin 1) (⟨(x 1 : ℕ) % 16, Nat.mod_lt _ (by decide)⟩ : Fin 16) (x 2))

/-- A head's block from its scores and values. -/
def headBlock (s : Vec F S1x512x2048 .f32) (v : Vec F S2048x128 .bf16) : FVec F S512x128 .f32 :=
  weighted (gather fun n => pRow (rowsOf s n))
    (concatenate S512x1 0 (cols (fun n => invRow (rowsOf s n)) 32 0) concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S512x1_d0) v

/-- Row groups read back from the score scratch are the scores' rows. -/
theorem readCov_rows (w : View sig .tc .vmem S2x512x2048 .f32) {L : List (View.Piece (Elt F) S2x512x2048 .f32)} {b : ℕ}
    {s : Vec F S1x512x2048 .f32} (h : SlotIs L b s) (n : ℕ) : w.readCov L (rows b n).toLoadRect = rowsOf s n := by
  rw [View.readCov_eq_canon']
  funext x
  refine Eq.trans ?_ (h _)
  refine congrArg (View.canon L) (funext fun a => Fin.ext ?_)
  fin_cases a
  · show b % 2 + 1 * (x 0 : ℕ) = b % 2 + 1 * (0 + 1 * (x 0 : ℕ)); omega
  · show 16 * (n % 32) + 1 * (x 1 : ℕ) = 0 + 1 * (16 * (n % 32) + 1 * (x 1 : ℕ)); omega
  · show 0 + 1 * (x 2 : ℕ) = 0 + 1 * (0 + 1 * (x 2 : ℕ)); omega

/-- The whole slot read back from the probability scratch is its row groups. -/
theorem readCov_slot (w : View sig .tc .vmem S2x512x2048 .bf16) {L : List (View.Piece (Elt F) S2x512x2048 .bf16)} {b : ℕ}
    {W : ℕ → Vec F S1x16x2048 .bf16} (h : RowsAre b W L) : w.readCov L (slot b).toLoadRect = gather W := by
  rw [View.readCov_eq_canon']
  funext x
  have hx : (x 1 : ℕ) < 512 := (x 1).isLt
  have hx0 : (x 0 : ℕ) < 1 := (x 0).isLt
  refine Eq.trans ?_ (h _ (by omega) _)
  refine congrArg (View.canon L) (funext fun a => Fin.ext ?_)
  fin_cases a
  · show b % 2 + 1 * (x 0 : ℕ) = b % 2 + 1 * 0; omega
  · show 0 + 1 * (x 1 : ℕ) = 16 * ((x 1 : ℕ) / 16 % 32) + 1 * ((x 1 : ℕ) % 16); omega
  · rfl

/-- Stored exponentials of the other slot's score rows leave a slot's row groups alone. -/
theorem RowsAre.skipP {w14 : View sig .tc .vmem S2x512x2048 .f32} {L1 : List (View.Piece (Elt F) S2x512x2048 .f32)}
    {L : List (View.Piece (Elt F) S2x512x2048 .bf16)} {b b' : ℕ} {W : ℕ → Vec F S1x16x2048 .bf16} (hb : b % 2 ≠ b' % 2)
    (h : RowsAre b W L) : RowsAre b W (rowStores b' (fun n => pRow (w14.readCov L1 (rows b' n).toLoadRect)) L 32) :=
  h.skip hb 32

/-- A head's block as the body computes it: stored exponentials and score rows read back from the scratch buffers. -/
abbrev headRead (w14 : View sig .tc .vmem S2x512x2048 .f32) (w15 : View sig .tc .vmem S2x512x2048 .bf16)
    (L1 : List (View.Piece (Elt F) S2x512x2048 .f32)) (L2 : List (View.Piece (Elt F) S2x512x2048 .bf16)) (b : ℕ)
    (v : Vec F S2048x128 .bf16) : FVec F S512x128 .f32 :=
  weighted (w15.readCov L2 (slot b).toLoadRect)
    (concatenate S512x1 0 (cols (fun n => invRow (w14.readCov L1 (rows b n).toLoadRect)) 32 0)
      concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S512x1_d0) v

/-- Read back through the two scratch buffers, a head is the head's block. -/
theorem head_eq {w14 : View sig .tc .vmem S2x512x2048 .f32} {w15 : View sig .tc .vmem S2x512x2048 .bf16}
    {L1 : List (View.Piece (Elt F) S2x512x2048 .f32)} {L2 : List (View.Piece (Elt F) S2x512x2048 .bf16)} {b : ℕ}
    {a : FVec F S512x128 .f32} {s : Vec F S1x512x2048 .f32} {v : Vec F S2048x128 .bf16} (ha : a = headRead w14 w15 L1 L2 b v)
    (h1 : SlotIs L1 b s) (h2 : RowsAre b (fun n => pRow (w14.readCov L1 (rows b n).toLoadRect)) L2) :
    a = headBlock s v := by
  subst ha; unfold headRead
  have e1 : (fun n => w14.readCov L1 (rows b n).toLoadRect) = rowsOf s := funext fun n => readCov_rows w14 h1 n
  have e2 := readCov_slot w15 h2
  rw [e2]
  unfold headBlock
  have e3 : (fun n => pRow (w14.readCov L1 (rows b n).toLoadRect)) = fun n => pRow (rowsOf s n) :=
    funext fun n => congrArg pRow (congrFun e1 n)
  have e4 : (fun n => invRow (w14.readCov L1 (rows b n).toLoadRect)) = fun n => invRow (rowsOf s n) :=
    funext fun n => congrArg invRow (congrFun e1 n)
  rw [e3]
  congr 1
  exact concatenate_congr (by rw [e4])

/-! ## The assembled keys -/

/-- Half `o` (128 lanes) of head `h`'s plane of the assembled keys. -/
abbrev kHalf (h o : ℕ) : Rect S8x2048x256 := Rect.unit ![h % 8, 0, 128 * (o % 2)] S1x2048x128.size (by
  intro a; fin_cases a
  · show h % 8 + 1 ≤ 8; omega
  · exact Nat.le_refl 2048
  · show 128 * (o % 2) + 128 ≤ 256; omega)

/-- The rotated keys of a batch, from its columns and their half-swapped copy. -/
def ropeK (p w : Vec F S2048x128 .bf16) (cc ss : Vec F S2048x128 .f32) : FVec F S2048x128 .bf16 :=
  truncf .bf16 (addf
    (mulf (extf .f32 (shapeCast S2048x128 p shapeCasts_S2048x128_S2048x128) bitsLt_bf16_f32) (shapeCast S2048x128 cc shapeCasts_S2048x128_S2048x128))
    (mulf (extf .f32 (shapeCast S2048x128 w shapeCasts_S2048x128_S2048x128) bitsLt_bf16_f32) (shapeCast S2048x128 ss shapeCasts_S2048x128_S2048x128)))
    bitsLt_bf16_f32

/-- The stores that assemble heads `0 … n - 1`: each head's plain keys, then the rotated keys all heads share. -/
def keyStores (W : ℕ → Vec F S1x2048x128 .bf16) (R : Vec F S1x2048x128 .bf16) : ℕ → List (View.Piece (Elt F) S8x2048x256 .bf16)
  | 0 => []
  | n + 1 => ⟨kHalf n 1, R⟩ :: ⟨kHalf n 0, W n⟩ :: keyStores W R n

theorem not_mem_kHalf {h h' o o' : ℕ} (x : (kHalf h o).shape.Idx) (e : h % 8 ≠ h' % 8 ∨ o % 2 ≠ o' % 2) :
    (kHalf h o).emb x ∉ (kHalf h' o').set := by
  intro hm
  have h0 := (Rect.mem_set_unit.1 hm) 0
  have h2 := (Rect.mem_set_unit.1 hm) 2
  have e0 : (((kHalf h o).emb x) 0 : ℕ) = h % 8 + 1 * (x 0 : ℕ) := rfl
  have e2 : (((kHalf h o).emb x) 2 : ℕ) = 128 * (o % 2) + 1 * (x 2 : ℕ) := rfl
  have hx0 : (x 0 : ℕ) < 1 := (x 0).isLt
  have hx2 : (x 2 : ℕ) < 128 := (x 2).isLt
  have a1 : h' % 8 ≤ (((kHalf h o).emb x) 0 : ℕ) := h0.1
  have a2 : (((kHalf h o).emb x) 0 : ℕ) < h' % 8 + 1 := h0.2
  have a3 : 128 * (o' % 2) ≤ (((kHalf h o).emb x) 2 : ℕ) := h2.1
  have a4 : (((kHalf h o).emb x) 2 : ℕ) < 128 * (o' % 2) + 128 := h2.2
  omega

theorem canonK_off {r : Rect S8x2048x256} {w : Vec F r.shape .bf16} {L : List (View.Piece (Elt F) S8x2048x256 .bf16)}
    {y : S8x2048x256.Idx} (h : y ∉ r.set) : View.canon (⟨r, w⟩ :: L) y = View.canon L y :=
  View.canon_cons_of_not_mem ⟨r, w⟩ L h

/-- After the stores, head `h`'s halves hold its plain keys and the rotated keys. -/
theorem canon_keyStores (W : ℕ → Vec F S1x2048x128 .bf16) (R : Vec F S1x2048x128 .bf16) :
    ∀ n ≤ 8, ∀ h < n, ∀ x : S1x2048x128.Idx, View.canon (keyStores W R n) ((kHalf h 0).emb x) = W h x
      ∧ View.canon (keyStores W R n) ((kHalf h 1).emb x) = R x
  | 0, _, h, hh, _ => absurd hh (Nat.not_lt_zero h)
  | n + 1, hn, h, hh, x => by
    by_cases e : h = n
    · subst e
      exact ⟨(canonK_off (r := kHalf h 1) (w := R) (not_mem_kHalf x (Or.inr (by decide)))).trans
        (View.canon_cons_emb (kHalf h 0) (W h) _ x), View.canon_cons_emb (kHalf h 1) R _ x⟩
    · have ih := canon_keyStores W R n (by omega) h (by omega) x
      have off : ∀ o, View.canon (keyStores W R (n + 1)) ((kHalf h o).emb x) = View.canon (keyStores W R n) ((kHalf h o).emb x) := fun o =>
        (canonK_off (r := kHalf n 1) (w := R) (not_mem_kHalf x (Or.inl (by omega)))).trans
          (canonK_off (r := kHalf n 0) (w := W n) (not_mem_kHalf x (Or.inl (by omega))))
      exact ⟨(off 0).trans ih.1, (off 1).trans ih.2⟩

/-- The keys as assembled: for each head its 128 plain columns, then the 128 rotated lanes. -/
def keysOf (k : Vec F S2048x1024 .bf16) (R : Vec F S2048x128 .bf16) : Vec F S8x2048x256 .bf16 := fun y =>
  if (y 2 : ℕ) < 128 then
    shapeCast S1x2048x128 (shapeCast S2048x128 (View.ld k (kCol (y 0 : ℕ))) shapeCasts_S2048x128_S2048x128) shapeCasts_S2048x128_S1x2048x128
      (ix3 (0 : Fin 1) (y 1 : Fin 2048) (⟨(y 2 : ℕ) % 128, Nat.mod_lt _ (by decide)⟩ : Fin 128))
  else shapeCast S1x2048x128 R shapeCasts_S2048x128_S1x2048x128
      (ix3 (0 : Fin 1) (y 1 : Fin 2048) (⟨(y 2 : ℕ) % 128, Nat.mod_lt _ (by decide)⟩ : Fin 128))

/-- What the sixteen stores leave in the key scratch. -/
theorem canon_keys (k : Vec F S2048x1024 .bf16) (R : Vec F S2048x128 .bf16) :
    View.canon (keyStores (fun n => shapeCast S1x2048x128 (shapeCast S2048x128 (View.ld k (kCol n)) shapeCasts_S2048x128_S2048x128) shapeCasts_S2048x128_S1x2048x128)
      (shapeCast S1x2048x128 R shapeCasts_S2048x128_S1x2048x128) 8) = keysOf k R := by
  funext y
  have h0 : (y 0 : ℕ) < 8 := (y 0).isLt
  have h2 : (y 2 : ℕ) < 256 := (y 2).isLt
  have e : ∀ o, (y 2 : ℕ) / 128 = o → y = (kHalf (y 0 : ℕ) o).emb
      (ix3 (0 : Fin 1) (y 1 : Fin 2048) (⟨(y 2 : ℕ) % 128, Nat.mod_lt _ (by decide)⟩ : Fin 128)) := fun o ho =>
    funext fun a => Fin.ext (by
      fin_cases a
      · show (y 0 : ℕ) = (y 0 : ℕ) % 8 + 1 * 0; omega
      · show (y 1 : ℕ) = 0 + 1 * (y 1 : ℕ); omega
      · show (y 2 : ℕ) = 128 * (o % 2) + 1 * ((y 2 : ℕ) % 128); omega)
  unfold keysOf
  split
  · exact (congrArg _ (e 0 (by omega))).trans (canon_keyStores _ _ 8 le_rfl _ h0 _).1
  · exact (congrArg _ (e 1 (by omega))).trans (canon_keyStores _ _ 8 le_rfl _ h0 _).2

end Cert.KernelIdeal.Attn
-- ==== Proof.Body.lean ====
/-
  The attention call's body at one grid point: whichever case of its conditional runs, the block it leaves in the
  output's staging buffer is the block's operations over the point's input blocks and the assembled keys.
-/
module

public import proofs.«01_k».proof.Proof.Block

@[expose] public section

set_option maxRecDepth 16384

noncomputable section

namespace Cert.KernelIdeal.Attn

open Idealize.ShloMosaic Idealize.ShloMosaic.TcCoe
open Cert.KernelIdeal Cert.KernelIdeal.Gen

variable {F : FTy → Type} [FloatOps F] [Named F]

/-- The cosine or sine rows of a query block, loaded whole. -/
abbrev lanes (x : Vec F S512x128 .f32) : Vec F S512x128 .f32 :=
  View.ld x (Rect.unit (s := S512x128) ![0, 0] S512x128.size inb_S512x128_S512x128_0_0)

/-- An even head's scores over the query block `Q` and the assembled keys `K`. -/
def scoresE (Q : Vec F S512x2048 .bf16) (K : Vec F S8x2048x256 .bf16) (cc ss : Vec F S512x128 .f32) (h : ℕ) : FVec F S1x512x2048 .f32 :=
  scores keepE (lanes cc) (lanes ss) (View.ld Q (qCol (8 + h / 2))) (View.ld Q (qCol (12 + h / 2))) (View.ld Q (qCol h)) (View.ld K (kHead h))

/-- An odd head's scores. -/
def scoresO (Q : Vec F S512x2048 .bf16) (K : Vec F S8x2048x256 .bf16) (cc ss : Vec F S512x128 .f32) (h : ℕ) : FVec F S1x512x2048 .f32 :=
  scores keepO (lanes cc) (lanes ss) (View.ld Q (qCol (8 + h / 2))) (View.ld Q (qCol (12 + h / 2))) (View.ld Q (qCol h)) (View.ld K (kHead h))

/-- The output block over the query block, the assembled keys, the value block, the rotation tables and the gain. -/
def block (Q : Vec F S512x2048 .bf16) (K : Vec F S8x2048x256 .bf16) (V : Vec F S2048x1024 .bf16) (cc ss : Vec F S512x128 .f32)
    (g : Vec F S1x1024 .f32) : FVec F S512x1024 .bf16 :=
  normed (heads
      (headBlock (scoresE Q K cc ss 0) (View.ld V (kCol 0))) (headBlock (scoresO Q K cc ss 1) (View.ld V (kCol 1)))
      (headBlock (scoresE Q K cc ss 2) (View.ld V (kCol 2))) (headBlock (scoresO Q K cc ss 3) (View.ld V (kCol 3)))
      (headBlock (scoresE Q K cc ss 4) (View.ld V (kCol 4))) (headBlock (scoresO Q K cc ss 5) (View.ld V (kCol 5)))
      (headBlock (scoresE Q K cc ss 6) (View.ld V (kCol 6))) (headBlock (scoresO Q K cc ss 7) (View.ld V (kCol 7))))
    (View.ld g (Rect.unit (s := S1x1024) ![0, 0] S1x1024.size inb_S1x1024_S1x1024_0_0))

theorem normed_congr {a0 a1 a2 a3 a4 a5 a6 a7 b0 b1 b2 b3 b4 b5 b6 b7 : FVec F S512x128 .f32} {g : Vec F S1x1024 .f32}
    (e0 : a0 = b0) (e1 : a1 = b1) (e2 : a2 = b2) (e3 : a3 = b3) (e4 : a4 = b4) (e5 : a5 = b5) (e6 : a6 = b6) (e7 : a7 = b7) :
    normed (heads a0 a1 a2 a3 a4 a5 a6 a7) g = normed (heads b0 b1 b2 b3 b4 b5 b6 b7) g := by
  subst e0 e1 e2 e3 e4 e5 e6 e7; rfl

theorem hz : (![0, 0] : Fin 2 → Nat) = fun _ => 0 := funext fun a => by fin_cases a <;> rfl

set_option maxHeartbeats 1000000 in
/-- Where the assembled keys are carried over, the block the body leaves, from what its buffers hold. -/
theorem out_B_raw (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S8x2048x256 .bf16) (harg13 : arg13.IsWhole) (arg14 : Memref sig .tc .vmem S2x512x2048 .f32) (harg14 : arg14.IsWhole) (arg15 : Memref sig .tc .vmem S2x512x2048 .bf16) (harg15 : arg15.IsWhole) (hc0 : ¬cond0_0 i)
    (x0 : Vec F S512x2048 .bf16) (x1 : Vec F S2048x1024 .bf16) (x2 : Vec F S2048x1024 .bf16) (x3 : Vec F S2048x128 .bf16) (x4 : Vec F S2048x128 .bf16) (x5 : Vec F S2048x128 .f32) (x6 : Vec F S2048x128 .f32) (x7 : Vec F S512x128 .f32) (x8 : Vec F S512x128 .f32) (x9 : Vec F S1x1024 .f32) (xs0 : Vec F S8x2048x256 .bf16) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0
      = block (arg2.view.read (Elt F) (harg2.unread x0)) (arg13.view.read (Elt F) (harg13.unread xs0)) (arg4.view.read (Elt F) (harg4.unread x2))
          (arg9.view.read (Elt F) (harg9.unread x7)) (arg10.view.read (Elt F) (harg10.unread x8)) (arg11.view.read (Elt F) (harg11.unread x9)) := by
  unfold out0_B_10
  rw [View.read_writes_junk_eq_canon]
  unfold kernelRun0_B
  dsimp only
  rw [View.canon_unit_zero hz]
  unfold block
  refine Eq.trans (b := normed (heads _ _ _ _ _ _ _ _)
    (View.ld (arg11.view.read (Elt F) (harg11.unread x9)) (Rect.unit (s := S1x1024) ![0, 0] S1x1024.size inb_S1x1024_S1x1024_0_0))) rfl ?_
  refine normed_congr ?_ ?_ ?_ ?_ ?_ ?_ ?_ ?_
  · refine head_eq (w14 := arg14.view) (w15 := arg15.view) (b := 0) rfl ?_ ?_
    · exact SlotIs.skip (b' := 1) (by decide) SlotIs.top
    · exact RowsAre.skipP (w14 := arg14.view) (b' := 1) (by decide) RowsAre.top
  · refine head_eq (w14 := arg14.view) (w15 := arg15.view) (b := 1) rfl ?_ ?_
    · exact SlotIs.skip (b' := 0) (by decide) SlotIs.top
    · exact RowsAre.skipP (w14 := arg14.view) (b' := 0) (by decide) RowsAre.top
  · refine head_eq (w14 := arg14.view) (w15 := arg15.view) (b := 0) rfl ?_ ?_
    · exact SlotIs.skip (b' := 1) (by decide) SlotIs.top
    · exact RowsAre.skipP (w14 := arg14.view) (b' := 1) (by decide) RowsAre.top
  · refine head_eq (w14 := arg14.view) (w15 := arg15.view) (b := 1) rfl ?_ ?_
    · exact SlotIs.skip (b' := 0) (by decide) SlotIs.top
    · exact RowsAre.skipP (w14 := arg14.view) (b' := 0) (by decide) RowsAre.top
  · refine head_eq (w14 := arg14.view) (w15 := arg15.view) (b := 0) rfl ?_ ?_
    · exact SlotIs.skip (b' := 1) (by decide) SlotIs.top
    · exact RowsAre.skipP (w14 := arg14.view) (b' := 1) (by decide) RowsAre.top
  · refine head_eq (w14 := arg14.view) (w15 := arg15.view) (b := 1) rfl ?_ ?_
    · exact SlotIs.skip (b' := 0) (by decide) SlotIs.top
    · exact RowsAre.skipP (w14 := arg14.view) (b' := 0) (by decide) RowsAre.top
  · refine head_eq (w14 := arg14.view) (w15 := arg15.view) (b := 0) rfl ?_ ?_
    · exact SlotIs.skip (b' := 1) (by decide) SlotIs.top
    · exact RowsAre.skipP (w14 := arg14.view) (b' := 1) (by decide) RowsAre.top
  · refine head_eq (w14 := arg14.view) (w15 := arg15.view) (b := 1) rfl ?_ ?_
    · exact SlotIs.top
    · exact RowsAre.top

set_option maxHeartbeats 1000000 in
/-- Where the keys are assembled first, the block the body leaves, from what its buffers hold and the stores that assemble the keys. -/
theorem out_A_raw (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S8x2048x256 .bf16) (harg13 : arg13.IsWhole) (arg14 : Memref sig .tc .vmem S2x512x2048 .f32) (harg14 : arg14.IsWhole) (arg15 : Memref sig .tc .vmem S2x512x2048 .bf16) (harg15 : arg15.IsWhole) (hc0 : cond0_0 i)
    (x0 : Vec F S512x2048 .bf16) (x1 : Vec F S2048x1024 .bf16) (x2 : Vec F S2048x1024 .bf16) (x3 : Vec F S2048x128 .bf16) (x4 : Vec F S2048x128 .bf16) (x5 : Vec F S2048x128 .f32) (x6 : Vec F S2048x128 .f32) (x7 : Vec F S512x128 .f32) (x8 : Vec F S512x128 .f32) (x9 : Vec F S1x1024 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9
      = block (arg2.view.read (Elt F) (harg2.unread x0)) (arg13.view.read (Elt F) (arg13.view.writes (Elt F) arg13.view.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1)) (arg4.view.read (Elt F) (harg4.unread x2))
          (arg9.view.read (Elt F) (harg9.unread x7)) (arg10.view.read (Elt F) (harg10.unread x8)) (arg11.view.read (Elt F) (harg11.unread x9)) := by
  unfold out0_A_10
  rw [View.read_writes_junk_eq_canon]
  unfold kernelRun0_A
  dsimp only
  rw [View.canon_unit_zero hz]
  unfold block
  refine Eq.trans (b := normed (heads _ _ _ _ _ _ _ _)
    (View.ld (arg11.view.read (Elt F) (harg11.unread x9)) (Rect.unit (s := S1x1024) ![0, 0] S1x1024.size inb_S1x1024_S1x1024_0_0))) rfl ?_
  refine normed_congr ?_ ?_ ?_ ?_ ?_ ?_ ?_ ?_
  · refine head_eq (w14 := arg14.view) (w15 := arg15.view) (b := 0) rfl ?_ ?_
    · exact SlotIs.skip (b' := 1) (by decide) SlotIs.top
    · exact RowsAre.skipP (w14 := arg14.view) (b' := 1) (by decide) RowsAre.top
  · refine head_eq (w14 := arg14.view) (w15 := arg15.view) (b := 1) rfl ?_ ?_
    · exact SlotIs.skip (b' := 0) (by decide) SlotIs.top
    · exact RowsAre.skipP (w14 := arg14.view) (b' := 0) (by decide) RowsAre.top
  · refine head_eq (w14 := arg14.view) (w15 := arg15.view) (b := 0) rfl ?_ ?_
    · exact SlotIs.skip (b' := 1) (by decide) SlotIs.top
    · exact RowsAre.skipP (w14 := arg14.view) (b' := 1) (by decide) RowsAre.top
  · refine head_eq (w14 := arg14.view) (w15 := arg15.view) (b := 1) rfl ?_ ?_
    · exact SlotIs.skip (b' := 0) (by decide) SlotIs.top
    · exact RowsAre.skipP (w14 := arg14.view) (b' := 0) (by decide) RowsAre.top
  · refine head_eq (w14 := arg14.view) (w15 := arg15.view) (b := 0) rfl ?_ ?_
    · exact SlotIs.skip (b' := 1) (by decide) SlotIs.top
    · exact RowsAre.skipP (w14 := arg14.view) (b' := 1) (by decide) RowsAre.top
  · refine head_eq (w14 := arg14.view) (w15 := arg15.view) (b := 1) rfl ?_ ?_
    · exact SlotIs.skip (b' := 0) (by decide) SlotIs.top
    · exact RowsAre.skipP (w14 := arg14.view) (b' := 0) (by decide) RowsAre.top
  · refine head_eq (w14 := arg14.view) (w15 := arg15.view) (b := 0) rfl ?_ ?_
    · exact SlotIs.skip (b' := 1) (by decide) SlotIs.top
    · exact RowsAre.skipP (w14 := arg14.view) (b' := 1) (by decide) RowsAre.top
  · refine head_eq (w14 := arg14.view) (w15 := arg15.view) (b := 1) rfl ?_ ?_
    · exact SlotIs.top
    · exact RowsAre.top

/-- The stores that assemble the keys leave them assembled. -/
theorem keys_A (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S8x2048x256 .bf16) (harg13 : arg13.IsWhole) (arg14 : Memref sig .tc .vmem S2x512x2048 .f32) (harg14 : arg14.IsWhole) (arg15 : Memref sig .tc .vmem S2x512x2048 .bf16) (harg15 : arg15.IsWhole) (hc0 : cond0_0 i)
    (x0 : Vec F S512x2048 .bf16) (x1 : Vec F S2048x1024 .bf16) (x2 : Vec F S2048x1024 .bf16) (x3 : Vec F S2048x128 .bf16) (x4 : Vec F S2048x128 .bf16) (x5 : Vec F S2048x128 .f32) (x6 : Vec F S2048x128 .f32) (x7 : Vec F S512x128 .f32) (x8 : Vec F S512x128 .f32) (x9 : Vec F S1x1024 .f32) :
    View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1 = keysOf x1
      (ropeK (View.ld x3 (Rect.unit (s := S2048x128) ![0, 0] S2048x128.size inb_S2048x128_S2048x128_0_0)) (View.ld x4 (Rect.unit (s := S2048x128) ![0, 0] S2048x128.size inb_S2048x128_S2048x128_0_0))
        (View.ld x5 (Rect.unit (s := S2048x128) ![0, 0] S2048x128.size inb_S2048x128_S2048x128_0_0)) (View.ld x6 (Rect.unit (s := S2048x128) ![0, 0] S2048x128.size inb_S2048x128_S2048x128_0_0))) := by
  have e : (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9).2.1
      = keyStores (fun n => shapeCast S1x2048x128 (shapeCast S2048x128 (View.ld (arg3.view.read (Elt F) (harg3.unread x1)) (kCol n)) shapeCasts_S2048x128_S2048x128) shapeCasts_S2048x128_S1x2048x128)
        (shapeCast S1x2048x128 (ropeK (View.ld (arg5.view.read (Elt F) (harg5.unread x3)) (Rect.unit (s := S2048x128) ![0, 0] S2048x128.size inb_S2048x128_S2048x128_0_0)) (View.ld (arg6.view.read (Elt F) (harg6.unread x4)) (Rect.unit (s := S2048x128) ![0, 0] S2048x128.size inb_S2048x128_S2048x128_0_0))
        (View.ld (arg7.view.read (Elt F) (harg7.unread x5)) (Rect.unit (s := S2048x128) ![0, 0] S2048x128.size inb_S2048x128_S2048x128_0_0)) (View.ld (arg8.view.read (Elt F) (harg8.unread x6)) (Rect.unit (s := S2048x128) ![0, 0] S2048x128.size inb_S2048x128_S2048x128_0_0))) shapeCasts_S2048x128_S1x2048x128) 8 := by
    unfold kernelRun0_A
    rfl
  rw [e, canon_keys, harg3.read_unread, harg5.read_unread, harg6.read_unread, harg7.read_unread, harg8.read_unread]

/-- Where the keys are assembled first, the carried scratch afterwards. -/
theorem sout_A (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S8x2048x256 .bf16) (harg13 : arg13.IsWhole) (arg14 : Memref sig .tc .vmem S2x512x2048 .f32) (harg14 : arg14.IsWhole) (arg15 : Memref sig .tc .vmem S2x512x2048 .bf16) (harg15 : arg15.IsWhole) (hc0 : cond0_0 i)
    (x0 : Vec F S512x2048 .bf16) (x1 : Vec F S2048x1024 .bf16) (x2 : Vec F S2048x1024 .bf16) (x3 : Vec F S2048x128 .bf16) (x4 : Vec F S2048x128 .bf16) (x5 : Vec F S2048x128 .f32) (x6 : Vec F S2048x128 .f32) (x7 : Vec F S512x128 .f32) (x8 : Vec F S512x128 .f32) (x9 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = keysOf x1
      (ropeK (View.ld x3 (Rect.unit (s := S2048x128) ![0, 0] S2048x128.size inb_S2048x128_S2048x128_0_0)) (View.ld x4 (Rect.unit (s := S2048x128) ![0, 0] S2048x128.size inb_S2048x128_S2048x128_0_0))
        (View.ld x5 (Rect.unit (s := S2048x128) ![0, 0] S2048x128.size inb_S2048x128_S2048x128_0_0)) (View.ld x6 (Rect.unit (s := S2048x128) ![0, 0] S2048x128.size inb_S2048x128_S2048x128_0_0))) := by
  unfold sout0_A_0
  rw [View.read_writes_junk_eq_canon, keys_A]

/-- Where the keys are assembled first, the block the body leaves. -/
theorem out_A (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S8x2048x256 .bf16) (harg13 : arg13.IsWhole) (arg14 : Memref sig .tc .vmem S2x512x2048 .f32) (harg14 : arg14.IsWhole) (arg15 : Memref sig .tc .vmem S2x512x2048 .bf16) (harg15 : arg15.IsWhole) (hc0 : cond0_0 i)
    (x0 : Vec F S512x2048 .bf16) (x1 : Vec F S2048x1024 .bf16) (x2 : Vec F S2048x1024 .bf16) (x3 : Vec F S2048x128 .bf16) (x4 : Vec F S2048x128 .bf16) (x5 : Vec F S2048x128 .f32) (x6 : Vec F S2048x128 .f32) (x7 : Vec F S512x128 .f32) (x8 : Vec F S512x128 .f32) (x9 : Vec F S1x1024 .f32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 = block x0 (keysOf x1
      (ropeK (View.ld x3 (Rect.unit (s := S2048x128) ![0, 0] S2048x128.size inb_S2048x128_S2048x128_0_0)) (View.ld x4 (Rect.unit (s := S2048x128) ![0, 0] S2048x128.size inb_S2048x128_S2048x128_0_0))
        (View.ld x5 (Rect.unit (s := S2048x128) ![0, 0] S2048x128.size inb_S2048x128_S2048x128_0_0)) (View.ld x6 (Rect.unit (s := S2048x128) ![0, 0] S2048x128.size inb_S2048x128_S2048x128_0_0)))) x2 x7 x8 x9 := by
  rw [out_A_raw, View.read_writes_junk_eq_canon, keys_A, harg2.read_unread, harg4.read_unread, harg9.read_unread, harg10.read_unread, harg11.read_unread]

/-- Where the assembled keys are carried over, the block the body leaves. -/
theorem out_B (c : Dev nD) (i : grid0.Coords) (arg2 : Memref sig .tc .vmem S512x2048 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S1x1024 .f32) (harg11 : arg11.IsWhole) (arg12 : Memref sig .tc .vmem S512x1024 .bf16) (harg12 : arg12.IsWhole) (arg13 : Memref sig .tc .vmem S8x2048x256 .bf16) (harg13 : arg13.IsWhole) (arg14 : Memref sig .tc .vmem S2x512x2048 .f32) (harg14 : arg14.IsWhole) (arg15 : Memref sig .tc .vmem S2x512x2048 .bf16) (harg15 : arg15.IsWhole) (hc0 : ¬cond0_0 i)
    (x0 : Vec F S512x2048 .bf16) (x1 : Vec F S2048x1024 .bf16) (x2 : Vec F S2048x1024 .bf16) (x3 : Vec F S2048x128 .bf16) (x4 : Vec F S2048x128 .bf16) (x5 : Vec F S2048x128 .f32) (x6 : Vec F S2048x128 .f32) (x7 : Vec F S512x128 .f32) (x8 : Vec F S512x128 .f32) (x9 : Vec F S1x1024 .f32) (xs0 : Vec F S8x2048x256 .bf16) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 xs0 = block x0 xs0 x2 x7 x8 x9 := by
  rw [out_B_raw, harg2.read_unread, harg13.read_unread, harg4.read_unread, harg9.read_unread, harg10.read_unread, harg11.read_unread]

end Cert.KernelIdeal.Attn
-- ==== Proof.Array.lean ====
/-
  The attention call's result array: the block at every grid point over that point's input blocks, the keys assembled at
  the batch's first point being those of the batch at each of its four points.
-/
module

public import proofs.«01_k».proof.Proof.Body
public import proofs.«01_k».proof.Proof.Gen.KernelIdeal.Value
public import Idealize.ShloMosaic.Lib.Pipeline.ValueKit

@[expose] public section

noncomputable section

namespace Cert.KernelIdeal.Attn

open Idealize.ShloMosaic Idealize.ShloMosaic.TcCoe
open Cert.KernelIdeal Cert.KernelIdeal.Gen Cert.KernelIdeal.Value
open Idealize.ShloMosaic.Pipeline (Dat Cfg Window)

variable {F : FTy → Type} [FloatOps F] [Named F]
variable (m : (ℓ : Loc nD τ sig) → Buf (Elt F) ℓ)

/-- Where each input window's block lies at a grid point: query blocks by the point, key and value blocks by the batch. -/
theorem idx_facts : ∀ t : Fin cfg0.N,
    (win0_0.index t = ![t.val, 0] ∧ win0_1.index t = ![t.val / 4, 0] ∧ win0_2.index t = ![t.val / 4, 1]
      ∧ win0_3.index t = ![t.val / 4, 30] ∧ win0_4.index t = ![t.val / 4, 31]) ∧ win0_5.index t = ![0, 0] ∧ win0_6.index t = ![0, 0]
      ∧ win0_7.index t = ![t.val % 4, 0] ∧ win0_8.index t = ![t.val % 4, 0] ∧ win0_9.index t = ![0, 0] :=
  (by decide +kernel : ∀ t : Fin grid0.N, _)

/-- Two arrays of two axes are one when they agree at every pair of places. -/
theorem ext2 {α : Type} {n0 n1 : ℕ} {f g : (⟨2, ![n0, n1]⟩ : Shape).Idx → α} (h : ∀ (a : Fin n0) (b : Fin n1), f (ix2 a b) = g (ix2 a b)) : f = g :=
  funext fun x => by
    have e : x = ix2 (x 0) (x 1) := funext fun a => match a with
      | ⟨0, _⟩ => rfl
      | ⟨1, _⟩ => rfl
    rw [e]; exact h _ _

theorem lt32 (t : Fin cfg0.N) : t.val < 32 := lt_of_lt_of_eq t.isLt N_0

/-- The query block at a point, off its array. -/
theorem blk_0 (c : Dev nD) (t : Fin cfg0.N) (r : Fin 512) (l : Fin 2048) : (iblk m c 0 t : Vec F S512x2048 .bf16) (ix2 r l)
    = (V m c main_v11 : Vec F S16384x2048 .bf16) (ix2 (⟨512 * t.val + r.val, by have := lt32 t; omega⟩ : Fin 16384) (⟨0 + l.val, by omega⟩ : Fin 2048)) := by
  have h := idx_facts t
  have key : ∀ W : Vec F S16384x2048 .bf16, ((win0_0.blk t).view.read (Elt F) W : Vec F S512x2048 .bf16) (ix2 r l)
      = W (ix2 (⟨512 * t.val + r.val, by have := lt32 t; omega⟩ : Fin 16384) (⟨0 + l.val, by omega⟩ : Fin 2048)) := fun W => by
    rw [View.read_apply]
    refine congrArg W (funext fun a => Fin.ext ?_)
    match a with
    | ⟨0, _⟩ => show win0_0.index t 0 * 512 + 1 * r.val = 512 * t.val + r.val; rw [h.1.1]; simp; try omega
    | ⟨1, _⟩ => show win0_0.index t 1 * 2048 + 1 * l.val = 0 + l.val; rw [h.1.1]; simp
  exact key _

/-- The key block at a point, off its array. -/
theorem blk_1 (c : Dev nD) (t : Fin cfg0.N) (r : Fin 2048) (l : Fin 1024) : (iblk m c 1 t : Vec F S2048x1024 .bf16) (ix2 r l)
    = (V m c main_v19 : Vec F S16384x2048 .bf16) (ix2 (⟨2048 * (t.val / 4) + r.val, by have := lt32 t; omega⟩ : Fin 16384) (⟨0 + l.val, by omega⟩ : Fin 2048)) := by
  have h := idx_facts t
  have key : ∀ W : Vec F S16384x2048 .bf16, ((win0_1.blk t).view.read (Elt F) W : Vec F S2048x1024 .bf16) (ix2 r l)
      = W (ix2 (⟨2048 * (t.val / 4) + r.val, by have := lt32 t; omega⟩ : Fin 16384) (⟨0 + l.val, by omega⟩ : Fin 2048)) := fun W => by
    rw [View.read_apply]
    refine congrArg W (funext fun a => Fin.ext ?_)
    match a with
    | ⟨0, _⟩ => show win0_1.index t 0 * 2048 + 1 * r.val = 2048 * (t.val / 4) + r.val; rw [h.1.2.1]; simp; try omega
    | ⟨1, _⟩ => show win0_1.index t 1 * 1024 + 1 * l.val = 0 + l.val; rw [h.1.2.1]; simp
  exact key _

/-- The value block at a point, off its array. -/
theorem blk_2 (c : Dev nD) (t : Fin cfg0.N) (r : Fin 2048) (l : Fin 1024) : (iblk m c 2 t : Vec F S2048x1024 .bf16) (ix2 r l)
    = (V m c main_v19 : Vec F S16384x2048 .bf16) (ix2 (⟨2048 * (t.val / 4) + r.val, by have := lt32 t; omega⟩ : Fin 16384) (⟨1024 + l.val, by omega⟩ : Fin 2048)) := by
  have h := idx_facts t
  have key : ∀ W : Vec F S16384x2048 .bf16, ((win0_2.blk t).view.read (Elt F) W : Vec F S2048x1024 .bf16) (ix2 r l)
      = W (ix2 (⟨2048 * (t.val / 4) + r.val, by have := lt32 t; omega⟩ : Fin 16384) (⟨1024 + l.val, by omega⟩ : Fin 2048)) := fun W => by
    rw [View.read_apply]
    refine congrArg W (funext fun a => Fin.ext ?_)
    match a with
    | ⟨0, _⟩ => show win0_2.index t 0 * 2048 + 1 * r.val = 2048 * (t.val / 4) + r.val; rw [h.1.2.2.1]; simp; try omega
    | ⟨1, _⟩ => show win0_2.index t 1 * 1024 + 1 * l.val = 1024 + l.val; rw [h.1.2.2.1]; simp
  exact key _

/-- The shared rotated key block at a point, off its array. -/
theorem blk_3 (c : Dev nD) (t : Fin cfg0.N) (r : Fin 2048) (l : Fin 128) : (iblk m c 3 t : Vec F S2048x128 .bf16) (ix2 r l)
    = (V m c main_v29 : Vec F S16384x4096 .bf16) (ix2 (⟨2048 * (t.val / 4) + r.val, by have := lt32 t; omega⟩ : Fin 16384) (⟨3840 + l.val, by omega⟩ : Fin 4096)) := by
  have h := idx_facts t
  have key : ∀ W : Vec F S16384x4096 .bf16, ((win0_3.blk t).view.read (Elt F) W : Vec F S2048x128 .bf16) (ix2 r l)
      = W (ix2 (⟨2048 * (t.val / 4) + r.val, by have := lt32 t; omega⟩ : Fin 16384) (⟨3840 + l.val, by omega⟩ : Fin 4096)) := fun W => by
    rw [View.read_apply]
    refine congrArg W (funext fun a => Fin.ext ?_)
    match a with
    | ⟨0, _⟩ => show win0_3.index t 0 * 2048 + 1 * r.val = 2048 * (t.val / 4) + r.val; rw [h.1.2.2.2.1]; simp; try omega
    | ⟨1, _⟩ => show win0_3.index t 1 * 128 + 1 * l.val = 3840 + l.val; rw [h.1.2.2.2.1]; simp
  exact key _

/-- The swapped shared key block at a point, off its array. -/
theorem blk_4 (c : Dev nD) (t : Fin cfg0.N) (r : Fin 2048) (l : Fin 128) : (iblk m c 4 t : Vec F S2048x128 .bf16) (ix2 r l)
    = (V m c main_v29 : Vec F S16384x4096 .bf16) (ix2 (⟨2048 * (t.val / 4) + r.val, by have := lt32 t; omega⟩ : Fin 16384) (⟨3968 + l.val, by omega⟩ : Fin 4096)) := by
  have h := idx_facts t
  have key : ∀ W : Vec F S16384x4096 .bf16, ((win0_4.blk t).view.read (Elt F) W : Vec F S2048x128 .bf16) (ix2 r l)
      = W (ix2 (⟨2048 * (t.val / 4) + r.val, by have := lt32 t; omega⟩ : Fin 16384) (⟨3968 + l.val, by omega⟩ : Fin 4096)) := fun W => by
    rw [View.read_apply]
    refine congrArg W (funext fun a => Fin.ext ?_)
    match a with
    | ⟨0, _⟩ => show win0_4.index t 0 * 2048 + 1 * r.val = 2048 * (t.val / 4) + r.val; rw [h.1.2.2.2.2]; simp; try omega
    | ⟨1, _⟩ => show win0_4.index t 1 * 128 + 1 * l.val = 3968 + l.val; rw [h.1.2.2.2.2]; simp
  exact key _

/-- The cosine block at a point, off its array. -/
theorem blk_5 (c : Dev nD) (t : Fin cfg0.N) (r : Fin 2048) (l : Fin 128) : (iblk m c 5 t : Vec F S2048x128 .f32) (ix2 r l)
    = (V m c main_v48 : Vec F S2048x128 .f32) (ix2 (⟨0 + r.val, by have := lt32 t; omega⟩ : Fin 2048) (⟨0 + l.val, by omega⟩ : Fin 128)) := by
  have h := idx_facts t
  have key : ∀ W : Vec F S2048x128 .f32, ((win0_5.blk t).view.read (Elt F) W : Vec F S2048x128 .f32) (ix2 r l)
      = W (ix2 (⟨0 + r.val, by have := lt32 t; omega⟩ : Fin 2048) (⟨0 + l.val, by omega⟩ : Fin 128)) := fun W => by
    rw [View.read_apply]
    refine congrArg W (funext fun a => Fin.ext ?_)
    match a with
    | ⟨0, _⟩ => show win0_5.index t 0 * 2048 + 1 * r.val = 0 + r.val; rw [h.2.1]; simp; try omega
    | ⟨1, _⟩ => show win0_5.index t 1 * 128 + 1 * l.val = 0 + l.val; rw [h.2.1]; simp
  exact key _

/-- The sine block at a point, off its array. -/
theorem blk_6 (c : Dev nD) (t : Fin cfg0.N) (r : Fin 2048) (l : Fin 128) : (iblk m c 6 t : Vec F S2048x128 .f32) (ix2 r l)
    = (V m c main_v51 : Vec F S2048x128 .f32) (ix2 (⟨0 + r.val, by have := lt32 t; omega⟩ : Fin 2048) (⟨0 + l.val, by omega⟩ : Fin 128)) := by
  have h := idx_facts t
  have key : ∀ W : Vec F S2048x128 .f32, ((win0_6.blk t).view.read (Elt F) W : Vec F S2048x128 .f32) (ix2 r l)
      = W (ix2 (⟨0 + r.val, by have := lt32 t; omega⟩ : Fin 2048) (⟨0 + l.val, by omega⟩ : Fin 128)) := fun W => by
    rw [View.read_apply]
    refine congrArg W (funext fun a => Fin.ext ?_)
    match a with
    | ⟨0, _⟩ => show win0_6.index t 0 * 2048 + 1 * r.val = 0 + r.val; rw [h.2.2.1]; simp; try omega
    | ⟨1, _⟩ => show win0_6.index t 1 * 128 + 1 * l.val = 0 + l.val; rw [h.2.2.1]; simp
  exact key _

/-- The queries' cosine block at a point, off its array. -/
theorem blk_7 (c : Dev nD) (t : Fin cfg0.N) (r : Fin 512) (l : Fin 128) : (iblk m c 7 t : Vec F S512x128 .f32) (ix2 r l)
    = (V m c main_v48 : Vec F S2048x128 .f32) (ix2 (⟨512 * (t.val % 4) + r.val, by have := lt32 t; omega⟩ : Fin 2048) (⟨0 + l.val, by omega⟩ : Fin 128)) := by
  have h := idx_facts t
  have key : ∀ W : Vec F S2048x128 .f32, ((win0_7.blk t).view.read (Elt F) W : Vec F S512x128 .f32) (ix2 r l)
      = W (ix2 (⟨512 * (t.val % 4) + r.val, by have := lt32 t; omega⟩ : Fin 2048) (⟨0 + l.val, by omega⟩ : Fin 128)) := fun W => by
    rw [View.read_apply]
    refine congrArg W (funext fun a => Fin.ext ?_)
    match a with
    | ⟨0, _⟩ => show win0_7.index t 0 * 512 + 1 * r.val = 512 * (t.val % 4) + r.val; rw [h.2.2.2.1]; simp; try omega
    | ⟨1, _⟩ => show win0_7.index t 1 * 128 + 1 * l.val = 0 + l.val; rw [h.2.2.2.1]; simp
  exact key _

/-- The queries' sine block at a point, off its array. -/
theorem blk_8 (c : Dev nD) (t : Fin cfg0.N) (r : Fin 512) (l : Fin 128) : (iblk m c 8 t : Vec F S512x128 .f32) (ix2 r l)
    = (V m c main_v51 : Vec F S2048x128 .f32) (ix2 (⟨512 * (t.val % 4) + r.val, by have := lt32 t; omega⟩ : Fin 2048) (⟨0 + l.val, by omega⟩ : Fin 128)) := by
  have h := idx_facts t
  have key : ∀ W : Vec F S2048x128 .f32, ((win0_8.blk t).view.read (Elt F) W : Vec F S512x128 .f32) (ix2 r l)
      = W (ix2 (⟨512 * (t.val % 4) + r.val, by have := lt32 t; omega⟩ : Fin 2048) (⟨0 + l.val, by omega⟩ : Fin 128)) := fun W => by
    rw [View.read_apply]
    refine congrArg W (funext fun a => Fin.ext ?_)
    match a with
    | ⟨0, _⟩ => show win0_8.index t 0 * 512 + 1 * r.val = 512 * (t.val % 4) + r.val; rw [h.2.2.2.2.1]; simp; try omega
    | ⟨1, _⟩ => show win0_8.index t 1 * 128 + 1 * l.val = 0 + l.val; rw [h.2.2.2.2.1]; simp
  exact key _

/-- The gain block at a point, off its array. -/
theorem blk_9 (c : Dev nD) (t : Fin cfg0.N) (r : Fin 1) (l : Fin 1024) : (iblk m c 9 t : Vec F S1x1024 .f32) (ix2 r l)
    = (V m c main_v52 : Vec F S1x1024 .f32) (ix2 (⟨0 + r.val, by have := lt32 t; omega⟩ : Fin 1) (⟨0 + l.val, by omega⟩ : Fin 1024)) := by
  have h := idx_facts t
  have key : ∀ W : Vec F S1x1024 .f32, ((win0_9.blk t).view.read (Elt F) W : Vec F S1x1024 .f32) (ix2 r l)
      = W (ix2 (⟨0 + r.val, by have := lt32 t; omega⟩ : Fin 1) (⟨0 + l.val, by omega⟩ : Fin 1024)) := fun W => by
    rw [View.read_apply]
    refine congrArg W (funext fun a => Fin.ext ?_)
    match a with
    | ⟨0, _⟩ => show win0_9.index t 0 * 1 + 1 * r.val = 0 + r.val; rw [h.2.2.2.2.2]; simp; try omega
    | ⟨1, _⟩ => show win0_9.index t 1 * 1024 + 1 * l.val = 0 + l.val; rw [h.2.2.2.2.2]; simp
  exact key _

/-- Two points of one batch read the same keys. -/
theorem iblk_congr (c : Dev nD) {t t' : Fin cfg0.N} (e : t.val / 4 = t'.val / 4) :
    (iblk m c 1 t : Vec F S2048x1024 .bf16) = iblk m c 1 t' ∧ (iblk m c 3 t : Vec F S2048x128 .bf16) = iblk m c 3 t'
      ∧ (iblk m c 4 t : Vec F S2048x128 .bf16) = iblk m c 4 t' ∧ (iblk m c 5 t : Vec F S2048x128 .f32) = iblk m c 5 t'
      ∧ (iblk m c 6 t : Vec F S2048x128 .f32) = iblk m c 6 t' := by
  refine ⟨ext2 fun r l => ?_, ext2 fun r l => ?_, ext2 fun r l => ?_, ext2 fun r l => ?_, ext2 fun r l => ?_⟩
  · rw [blk_1, blk_1]; simp only [e]
  · rw [blk_3, blk_3]; simp only [e]
  · rw [blk_4, blk_4]; simp only [e]
  · rw [blk_5, blk_5]
  · rw [blk_6, blk_6]

/-- The keys of the batch a point belongs to, assembled. -/
def keysAt (c : Dev nD) (t : Fin cfg0.N) : Vec F S8x2048x256 .bf16 :=
  keysOf (iblk m c 1 t) (ropeK
    (View.ld (iblk m c 3 t : Vec F S2048x128 .bf16) (Rect.unit (s := S2048x128) ![0, 0] S2048x128.size inb_S2048x128_S2048x128_0_0))
    (View.ld (iblk m c 4 t : Vec F S2048x128 .bf16) (Rect.unit (s := S2048x128) ![0, 0] S2048x128.size inb_S2048x128_S2048x128_0_0))
    (View.ld (iblk m c 5 t : Vec F S2048x128 .f32) (Rect.unit (s := S2048x128) ![0, 0] S2048x128.size inb_S2048x128_S2048x128_0_0))
    (View.ld (iblk m c 6 t : Vec F S2048x128 .f32) (Rect.unit (s := S2048x128) ![0, 0] S2048x128.size inb_S2048x128_S2048x128_0_0)))

/-- After every point the carried scratch holds the keys of the point's batch. -/
theorem carried (c : Dev nD) : ∀ (n : ℕ) (h : n < cfg0.N), (outsAt0 m c n h).2 = keysAt m c ⟨n, h⟩
  | n, h => by
    by_cases h0 : n % 4 = 0
    · refine (congrArg Prod.snd (outsAt0_A m c ⟨n, h⟩ h0)).trans ?_
      dsimp only
      rw [sout_A]
      rfl
    · obtain ⟨k, rfl⟩ : ∃ k, n = k + 1 := ⟨n - 1, by omega⟩
      refine (congrArg Prod.snd (outsAt0_B m c ⟨k + 1, h⟩ h0)).trans ?_
      dsimp only
      have ih := carried c k (Nat.lt_of_succ_lt h)
      refine ih.trans ?_
      have e := iblk_congr m c (t := ⟨k, Nat.lt_of_succ_lt h⟩) (t' := ⟨k + 1, h⟩) (by show k / 4 = (k + 1) / 4; omega)
      unfold keysAt
      rw [e.1, e.2.1, e.2.2.1, e.2.2.2.1, e.2.2.2.2]

/-- After every point the output's staging buffer holds the point's block. -/
theorem outs (c : Dev nD) (t : Fin cfg0.N) : (outsAt0 m c t.val t.isLt).1
    = block (iblk m c 0 t) (keysAt m c t) (iblk m c 2 t) (iblk m c 7 t) (iblk m c 8 t) (iblk m c 9 t) := by
  by_cases h0 : t.val % 4 = 0
  · refine (congrArg Prod.fst (outsAt0_A m c t h0)).trans ?_
    dsimp only
    rw [out_A]
    rfl
  · refine (congrArg Prod.fst (outsAt0_B m c t h0)).trans ?_
    dsimp only
    rw [out_B]
    obtain ⟨n, h⟩ := t
    obtain ⟨k, rfl⟩ : ∃ k, n = k + 1 := ⟨n - 1, by dsimp only at h0; omega⟩
    have ih := (carried m c k (Nat.lt_of_succ_lt h))
    have e := iblk_congr m c (t := ⟨k, Nat.lt_of_succ_lt h⟩) (t' := ⟨k + 1, h⟩) (by dsimp only at h0; show k / 4 = (k + 1) / 4; omega)
    have e' : keysAt m c ⟨k, Nat.lt_of_succ_lt h⟩ = keysAt m c ⟨k + 1, h⟩ := by
      unfold keysAt
      rw [e.1, e.2.1, e.2.2.1, e.2.2.2.1, e.2.2.2.2]
    exact congrArg (fun K => block _ K _ _ _ _) (ih.trans e')

/-- The grid point that writes row `r` of the result. -/
def ptOf (r : Fin 16384) : Fin cfg0.N := ⟨r.val / 512, lt_of_lt_of_eq (by omega) N_0.symm⟩

/-- The result array at an index: its row block's value there. -/
theorem result_at (c : Dev nD) (r : Fin 16384) (j : Fin 1024) : G10 m c (ix2 r j)
    = block (iblk m c 0 (ptOf r)) (keysAt m c (ptOf r)) (iblk m c 2 (ptOf r)) (iblk m c 7 (ptOf r)) (iblk m c 8 (ptOf r)) (iblk m c 9 (ptOf r))
        (ix2 (⟨r.val % 512, Nat.mod_lt _ (by decide)⟩ : Fin 512) j) := by
  have hp : pt10Of (ix2 r j) = (ptOf r).val := by
    show 1 * (r.val / 512 - 0) + 1 * (j.val / 1024 - 0) = r.val / 512; omega
  have hlt : pt10Of (ix2 r j) < cfg0.N := hp ▸ (ptOf r).isLt
  unfold G10
  rw [dif_pos hlt]
  have e := (outsAt0_sweep m c (pt10Of (ix2 r j)) hlt).symm
  have e2 : outsAt0 m c (pt10Of (ix2 r j)) hlt = outsAt0 m c (ptOf r).val (ptOf r).isLt := by congr 1
  have hl : loc10Of (ix2 r j) = ix2 (⟨r.val % 512, Nat.mod_lt _ (by decide)⟩ : Fin 512) j := by
    funext a; apply Fin.ext
    match a with
    | ⟨0, _⟩ => rfl
    | ⟨1, _⟩ => show j.val % 1024 = j.val; omega
  rw [hl, ← outs m c (ptOf r), ← e2]
  exact congrFun (congrArg Prod.fst e) _

end Cert.KernelIdeal.Attn
-- ==== Proof.Host.lean ====
/-
  What the operations before the attention call leave in its operands, at an index: the arguments' columns, head by
  head, and the rotation tables.
-/
module

public import proofs.«01_k».proof.Proof.Gen.KernelIdeal.Frame
public import proofs.«01_k».proof.Proof.Spec
public import Idealize.ShloMosaic.Lib.StableHlo.ReadAt

@[expose] public section

set_option maxRecDepth 16384

noncomputable section

namespace Cert.KernelIdeal.Attn

open Idealize.ShloMosaic Idealize.ShloMosaic.TcCoe Idealize.ShloMosaic.StableHlo
open Cert.KernelIdeal Cert.KernelIdeal.Gen
open _root_.Attn

variable (m : (ℓ : Loc nD τ sig) → Buf (Elt Ideal) ℓ) (c : Dev nD)

/-- The queries, at a row and a column. -/
def qA : ℕ → ℕ → EReal := at2 (m ((c : Thread nD τ).loc main_arg0) : Vec Ideal S16384x1536 .bf16)
/-- The keys and values, at a row and a column. -/
def kA : ℕ → ℕ → EReal := at2 (m ((c : Thread nD τ).loc main_arg1) : Vec Ideal S16384x2048 .bf16)
/-- The projected rows, at a row and a column. -/
def pA : ℕ → ℕ → EReal := at2 (m ((c : Thread nD τ).loc main_arg2) : Vec Ideal S16384x3904 .bf16)

set_option maxHeartbeats 2000000 in
/-- The queries as the call takes them: plain columns of all heads, then the rotated columns, then these with their
    halves swapped. -/
theorem queries_at (r : Fin 16384) (l : Fin 2048) : (V m c main_v11 : Vec Ideal S16384x2048 .bf16) (ix2 r l)
    = if l.val < 1024 then qA m c r (l / 128 * 192 + l % 128)
      else if l.val - 1024 < 512 then qA m c r ((l - 1024) / 64 * 192 + (128 + (l - 1024) % 64))
      else if (l.val - 1024 - 512) % 64 < 32 then qA m c r ((l - 1024 - 512) / 64 * 192 + (128 + (32 + (l - 1024 - 512) % 64)))
      else qA m c r ((l - 1024 - 512) / 64 * 192 + (128 + ((l - 1024 - 512) % 64 - 32))) := by
  unfold V
  repeat after_reads_at
  split_ifs <;> exact at2_eq _ _ _ _ _ rfl (by first | rfl | (show _ = _; omega))

set_option maxHeartbeats 2000000 in
/-- The keys as the call takes them: plain keys of all heads, then values. -/
theorem keys_at (r : Fin 16384) (l : Fin 2048) : (V m c main_v19 : Vec Ideal S16384x2048 .bf16) (ix2 r l)
    = if l.val < 1024 then kA m c r (l / 128 * 256 + l % 128) else kA m c r ((l - 1024) / 128 * 256 + (128 + (l - 1024) % 128)) := by
  unfold V
  repeat after_reads_at
  split_ifs <;> exact at2_eq _ _ _ _ _ rfl rfl

/-- The projected rows' column a last column of the call's operand holds. -/
def sharedCol (l : ℕ) : ℕ :=
  if l < 3968 then 768 + (l - 3840) % 64 else if (l - 3968) % 64 < 32 then 768 + (32 + (l - 3968) % 64) else 768 + ((l - 3968) % 64 - 32)

set_option maxHeartbeats 2000000 in
/-- The last columns of the projected rows as the call takes them: the rotated key twice, then twice with its halves
    swapped. -/
theorem shared_at (r : Fin 16384) (l : Fin 4096) (hl : 3840 ≤ l.val) : (V m c main_v29 : Vec Ideal S16384x4096 .bf16) (ix2 r l)
    = pA m c r (sharedCol l) := by
  unfold V
  repeat after_reads_at
  have e : ∀ (k k' : ℕ) (hk : k < 3904), k = k' →
      (m (c, Proc.tc.devRef main_arg2) : Vec Ideal S16384x3904 .bf16) (ix2 r (⟨k, hk⟩ : Fin 3904)) = pA m c r k' :=
    fun k k' hk h => at2_eq _ _ _ _ _ rfl h
  split_ifs <;> first
    | (exfalso; omega)
    | exact e _ _ _ (by unfold sharedCol; split_ifs <;> omega)

set_option maxHeartbeats 2000000 in
/-- The cosine table. -/
theorem cos_at (r : Fin 2048) (l : Fin 128) : (V m c main_v48 : Vec Ideal S2048x128 .f32) (ix2 r l) = cosT r (l % 32) := by
  unfold V
  repeat after_reads_at
  split_ifs <;> exact congrArg (cosT r) (by omega)

set_option maxHeartbeats 2000000 in
/-- The sine table, negated on the first half of each 64 lanes. -/
theorem sin_at (r : Fin 2048) (l : Fin 128) : (V m c main_v51 : Vec Ideal S2048x128 .f32) (ix2 r l)
    = if l.val % 64 < 32 then -sinT r (l % 32) else sinT r (l % 32) := by
  unfold V
  repeat after_reads_at
  split_ifs <;> first | omega | exact congrArg (fun f => -sinT r f) (by omega) | exact congrArg (sinT r) (by omega)

set_option maxHeartbeats 2000000 in
/-- The gain. -/
theorem gain_at (l : Fin 1024) : (V m c main_v52 : Vec Ideal S1x1024 .f32) (ix2 (0 : Fin 1) l)
    = (m ((c : Thread nD τ).loc main_arg3) : Vec Ideal S1024 .f32) (ix1 l) := by
  unfold V
  repeat after_reads_at

end Cert.KernelIdeal.Attn

end
-- ==== Proof.BlockAt.lean ====
/-
  The attention call's block over extended reals, at an index: a head's output from its scores and values, and the
  block from its heads.
-/
module

public import proofs.«01_k».proof.Proof.Body
public import proofs.«01_k».proof.Proof.Spec
public import Idealize.ShloMosaic.Lib.Pipeline.Value

@[expose] public section

set_option maxRecDepth 16384

noncomputable section

namespace Cert.KernelIdeal.Attn

open Idealize.ShloMosaic Idealize.ShloMosaic.TcCoe
open Cert.KernelIdeal Cert.KernelIdeal.Gen
open _root_.Attn

/-- `2 ^ ((s − max s) · c)` at a query and a key. -/
def expo (s : Vec Ideal S1x512x2048 .f32) (i : Fin 512) (k : Fin 2048) : EReal :=
  Ideal.exp2 ((s (ix3 (0 : Fin 1) i k) - Finset.univ.fold max ⊥ fun x => s (ix3 (0 : Fin 1) i x)) * Named.named (F := Ideal) (φ := FTy.f32) κ "scale_log2e" 0x3DD53B95#32)

theorem rowsOf_at (s : Vec Ideal S1x512x2048 .f32) (i : Fin 512) (k : Fin 2048) :
    rowsOf s (i.val / 16) (ix3 (0 : Fin 1) (⟨i.val % 16, Nat.mod_lt _ (by decide)⟩ : Fin 16) k) = s (ix3 (0 : Fin 1) i k) := by
  unfold rowsOf
  rw [View.ld]
  refine congrArg s (funext fun a => Fin.ext ?_)
  match a with
  | ⟨0, _⟩ => rfl
  | ⟨1, _⟩ =>
    show 16 * (i.val / 16 % 32) + 1 * (i.val % 16) = i.val
    have := i.isLt; omega
  | ⟨2, _⟩ => show 0 + 1 * k.val = k.val; omega

theorem pRow_at (s : Vec Ideal S1x16x2048 .f32) (i : Fin 16) (k : Fin 2048) : pRow s (ix3 (0 : Fin 1) i k)
    = Ideal.exp2 ((s (ix3 (0 : Fin 1) i k) - Finset.univ.fold max ⊥ fun x => s (ix3 (0 : Fin 1) i x)) * Named.named (F := Ideal) (φ := FTy.f32) κ "scale_log2e" 0x3DD53B95#32) := by
  pointwise [pRow, expRow]
  rw [ofBits_bot]
  rfl

theorem invRow_at (s : Vec Ideal S1x16x2048 .f32) (i : Fin 16) : invRow s (ix2 i (0 : Fin 1))
    = Ideal.div 1 (∑ k, Ideal.exp2 ((s (ix3 (0 : Fin 1) i k) - Finset.univ.fold max ⊥ fun x => s (ix3 (0 : Fin 1) i x)) * Named.named (F := Ideal) (φ := FTy.f32) κ "scale_log2e" 0x3DD53B95#32)) := by
  pointwise [invRow, expRow]
  rw [ofBits_bot]
  rfl

/-- A head's stored exponentials, at an index. -/
theorem gather_at (s : Vec Ideal S1x512x2048 .f32) (i : Fin 512) (k : Fin 2048) :
    gather (F := Ideal) (e := .bf16) (fun n => pRow (rowsOf s n)) (ix3 (0 : Fin 1) i k) = expo s i k := by
  show pRow (rowsOf s (i.val / 16)) (ix3 (0 : Fin 1) (⟨i.val % 16, Nat.mod_lt _ (by decide)⟩ : Fin 16) k) = _
  rw [pRow_at]
  simp only [rowsOf_at]
  rfl

/-- A head's reciprocal sums, at an index. -/
theorem inv_at (s : Vec Ideal S1x512x2048 .f32) (i : Fin 512) :
    concatenate S512x1 0 (cols (fun n => invRow (rowsOf s n)) 32 0) concatenates_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S16x1_S512x1_d0 (ix2 i (0 : Fin 1))
      = Ideal.div 1 (∑ k, expo s i k) := by
  have hi := i.isLt
  refine (concatenate_ofFn_apply (t := S512x1) (s₁ := S16x1) 0 (N := 32) (fun n => invRow (rowsOf s n.val)) _ rfl 16 rfl
    (ix2 i (0 : Fin 1)) (⟨i.val / 16, by omega⟩ : Fin 32) rfl
    (ix2 (⟨i.val % 16, Nat.mod_lt _ (by decide)⟩ : Fin 16) (0 : Fin 1)) rfl ?_).trans ?_
  · intro b hb
    match b with
    | ⟨0, _⟩ => exact absurd rfl hb
    | ⟨1, _⟩ => rfl
  · show invRow (rowsOf s (i.val / 16)) _ = _
    rw [invRow_at]
    simp only [rowsOf_at]
    rfl

/-- A head's output at a query and a value column. -/
theorem headBlock_at (s : Vec Ideal S1x512x2048 .f32) (v : Vec Ideal S2048x128 .bf16) (i : Fin 512) (d : Fin 128) :
    headBlock s v (ix2 i d) = (∑ k, expo s i k * v (ix2 k d)) * Ideal.div 1 (∑ k, expo s i k) := by
  have hw : ∀ p inv, weighted (F := Ideal) p inv v (ix2 i d) = (∑ x, p (ix3 (0 : Fin 1) i x) * v (ix2 x d)) * inv (ix2 i (0 : Fin 1)) := by
    intro p inv; pointwise [weighted]
  unfold headBlock
  rw [hw, inv_at]
  simp only [gather_at]

theorem lt_lane : ∀ x : Fin 128, IntOp.cmpi CmpIPredicate.slt (BitVec.ofNat 32 x) 64#32 = if x.val < 64 then 1#1 else 0#1 := by decide
theorem ge_lane : ∀ x : Fin 128, IntOp.cmpi CmpIPredicate.sge (BitVec.ofNat 32 x) 64#32 = if x.val < 64 then 0#1 else 1#1 := by decide

/-- The sum over the first 64 of 128 lanes. -/
def firstLanes (f : Fin 128 → EReal) : EReal := ∑ x : Fin 128, if x.val < 64 then f x else 0
/-- The sum over the last 64 of 128 lanes. -/
def lastLanes (f : Fin 128 → EReal) : EReal := ∑ x : Fin 128, if x.val < 64 then 0 else f x

/-- An even head's scores: plain part, then the rotated part on the first 64 lanes. -/
theorem scoresE_at (Q : Vec Ideal S512x2048 .bf16) (K : Vec Ideal S8x2048x256 .bf16) (cc ss : Vec Ideal S512x128 .f32) (h : ℕ)
    (i : Fin 512) (j : Fin 2048) : scoresE Q K cc ss h (ix3 (0 : Fin 1) i j) =
      ∑ x : Fin 128, Q (ix2 i (⟨128 * (h % 16) + x, by omega⟩ : Fin 2048)) * K (ix3 (⟨h % 8, by omega⟩ : Fin 8) j (⟨x, by omega⟩ : Fin 256)) +
      firstLanes fun x : Fin 128 => (Q (ix2 i (⟨128 * ((8 + h / 2) % 16) + x, by omega⟩ : Fin 2048)) * cc (ix2 i x) +
              Q (ix2 i (⟨128 * ((12 + h / 2) % 16) + x, by omega⟩ : Fin 2048)) * ss (ix2 i x)) *
            K (ix3 (⟨h % 8, by omega⟩ : Fin 8) j (⟨128 + x, by omega⟩ : Fin 256)) := by
  pointwise [scoresE, scores, masked, rope, keepE, lanes]
  unfold firstLanes
  refine congrArg₂ (· + ·) rfl (Finset.sum_congr rfl fun x _ => ?_)
  rw [lt_lane]
  by_cases hx : x.val < 64
  · simp only [hx, if_true]; rfl
  · simp only [hx, if_false]; rfl

/-- An odd head's scores: plain part, then the rotated part on the last 64 lanes. -/
theorem scoresO_at (Q : Vec Ideal S512x2048 .bf16) (K : Vec Ideal S8x2048x256 .bf16) (cc ss : Vec Ideal S512x128 .f32) (h : ℕ)
    (i : Fin 512) (j : Fin 2048) : scoresO Q K cc ss h (ix3 (0 : Fin 1) i j) =
      ∑ x : Fin 128, Q (ix2 i (⟨128 * (h % 16) + x, by omega⟩ : Fin 2048)) * K (ix3 (⟨h % 8, by omega⟩ : Fin 8) j (⟨x, by omega⟩ : Fin 256)) +
      lastLanes fun x : Fin 128 => (Q (ix2 i (⟨128 * ((8 + h / 2) % 16) + x, by omega⟩ : Fin 2048)) * cc (ix2 i x) +
              Q (ix2 i (⟨128 * ((12 + h / 2) % 16) + x, by omega⟩ : Fin 2048)) * ss (ix2 i x)) *
            K (ix3 (⟨h % 8, by omega⟩ : Fin 8) j (⟨128 + x, by omega⟩ : Fin 256)) := by
  pointwise [scoresO, scores, masked, rope, keepO, lanes]
  unfold lastLanes
  refine congrArg₂ (· + ·) rfl (Finset.sum_congr rfl fun x _ => ?_)
  rw [ge_lane]
  by_cases hx : x.val < 64
  · simp only [hx, if_true]; rfl
  · simp only [hx, if_false]; rfl

/-- The rows divided by their root mean square, times the gain. -/
theorem normed_at (o : Vec Ideal S512x1024 .f32) (g : Vec Ideal S1x1024 .f32) (i : Fin 512) (d : Fin 1024) :
    normed o g (ix2 i d) = o (ix2 i d) * Ideal.rsqrt (Ideal.div (∑ x, o (ix2 i x) * o (ix2 i x)) (Ideal.ofBits .f32 1149239296#32)
      + Ideal.ofBits .f32 897988541#32) * g (ix2 (0 : Fin 1) d) := by
  pointwise [normed]

/-- The assembled keys' first 128 lanes are a head's plain keys. -/
theorem keysOf_lo (k : Vec Ideal S2048x1024 .bf16) (R : Vec Ideal S2048x128 .bf16) (h : Fin 8) (j : Fin 2048) (x : Fin 256) (hx : x.val < 128) :
    keysOf k R (ix3 h j x) = k (ix2 j (⟨128 * h.val + x.val, by omega⟩ : Fin 1024)) := by
  have e : ∀ K : Vec Ideal S2048x128 .bf16, ∀ y : Fin 128, shapeCast S1x2048x128 (shapeCast S2048x128 K shapeCasts_S2048x128_S2048x128) shapeCasts_S2048x128_S1x2048x128
      (ix3 (0 : Fin 1) j y) = K (ix2 j y) := fun K y => by pointwise
  show (if x.val < 128 then shapeCast S1x2048x128 (shapeCast S2048x128 (View.ld k (kCol h.val)) shapeCasts_S2048x128_S2048x128) shapeCasts_S2048x128_S1x2048x128
      (ix3 (0 : Fin 1) j (⟨x.val % 128, Nat.mod_lt _ (by decide)⟩ : Fin 128)) else _) = _
  rw [if_pos hx, e, View.ld]
  refine congrArg k (funext fun a => Fin.ext ?_)
  match a with
  | ⟨0, _⟩ => show 0 + 1 * j.val = j.val; omega
  | ⟨1, _⟩ =>
    show 128 * (h.val % 8) + 1 * (x.val % 128) = 128 * h.val + x.val
    omega

/-- The assembled keys' last 128 lanes are the rotated keys. -/
theorem keysOf_hi (k : Vec Ideal S2048x1024 .bf16) (R : Vec Ideal S2048x128 .bf16) (h : Fin 8) (j : Fin 2048) (x : Fin 256) (y : Fin 128)
    (hx : x.val = 128 + y.val) : keysOf k R (ix3 h j x) = R (ix2 j y) := by
  have e : ∀ z : Fin 128, shapeCast S1x2048x128 R shapeCasts_S2048x128_S1x2048x128 (ix3 (0 : Fin 1) j z) = R (ix2 j z) := fun z => by pointwise
  show (if x.val < 128 then _ else shapeCast S1x2048x128 R shapeCasts_S2048x128_S1x2048x128
      (ix3 (0 : Fin 1) j (⟨x.val % 128, Nat.mod_lt _ (by decide)⟩ : Fin 128))) = _
  rw [if_neg (by omega), e]
  refine congrArg R (congrArg (ix2 j) (Fin.ext ?_))
  show x.val % 128 = y.val
  omega

/-- The rotated keys, at an index. -/
theorem ropeK_at (p w : Vec Ideal S2048x128 .bf16) (cc ss : Vec Ideal S2048x128 .f32) (j : Fin 2048) (y : Fin 128) :
    ropeK p w cc ss (ix2 j y) = p (ix2 j y) * cc (ix2 j y) + w (ix2 j y) * ss (ix2 j y) := by
  pointwise [ropeK]

/-- The heads side by side, at an index. -/
theorem heads_at (o : ℕ → FVec Ideal S512x128 .f32) (i : Fin 512) (j : Fin 1024) :
    heads (o 0) (o 1) (o 2) (o 3) (o 4) (o 5) (o 6) (o 7) (ix2 i j) = o (j.val / 128) (ix2 i (⟨j.val % 128, Nat.mod_lt _ (by decide)⟩ : Fin 128)) := by
  pointwise [heads]
  have e : ∀ (n n' : ℕ) (d d' : ℕ) (hd : d < 128) (hd' : d' < 128), n = n' → d = d' →
      o n (ix2 i (⟨d, hd⟩ : Fin 128)) = o n' (ix2 i (⟨d', hd'⟩ : Fin 128)) := by
    intro n n' d d' hd hd' h1 h2; subst h1 h2; rfl
  split_ifs <;> exact e _ _ _ _ _ _ (by omega) (by omega)

end Cert.KernelIdeal.Attn

end
-- ==== Proof.Score.lean ====
/-
  The attention call's scores at a grid point are the queries' scores against the keys.
-/
module

public import proofs.«01_k».proof.Proof.Array
public import proofs.«01_k».proof.Proof.Host
public import proofs.«01_k».proof.Proof.BlockAt

@[expose] public section

set_option maxRecDepth 16384

noncomputable section

namespace Cert.KernelIdeal.Attn

open Idealize.ShloMosaic Idealize.ShloMosaic.TcCoe Idealize.ShloMosaic.StableHlo
open Cert.KernelIdeal Cert.KernelIdeal.Gen
open _root_.Attn

variable (m : (ℓ : Loc nD τ sig) → Buf (Elt Ideal) ℓ) (c : Dev nD)

/-- A rotated lane from its 64 columns: the column times the cosine, its partner times the signed sine. -/
def rotLane (A : ℕ → EReal) (p l : ℕ) : EReal :=
  if l < 32 then A l * cosT p l + A (32 + l) * -sinT p l else A l * cosT p (l - 32) + A (l - 32) * sinT p (l - 32)

theorem rotLane_lo (A : ℕ → EReal) (p : ℕ) (x : Fin 32) : rotLane A p x = A x * cosT p x - A (32 + x) * sinT p x := by
  rw [rotLane, if_pos x.isLt, mul_neg, sub_eq_add_neg]

theorem rotLane_hi (A : ℕ → EReal) (p : ℕ) (x : Fin 32) : rotLane A p (32 + x) = A (32 + x) * cosT p x + A x * sinT p x := by
  rw [rotLane, if_neg (by omega)]
  have : 32 + x.val - 32 = x.val := by omega
  rw [this]

/-- A rotated lane from the two blocks and the two tables that make it. -/
theorem rotLane_of {A : ℕ → EReal} {p l : ℕ} (hl : l < 64) {a w u v : EReal} (ha : a = A l)
    (hw : w = if l < 32 then A (32 + l) else A (l - 32)) (hu : u = cosT p (l % 32))
    (hv : v = if l < 32 then -sinT p (l % 32) else sinT p (l % 32)) : a * u + w * v = rotLane A p l := by
  subst ha hw hu hv
  rw [rotLane]
  by_cases h : l < 32
  · have e : l % 32 = l := by omega
    simp only [h, if_true, e]
  · have e : l % 32 = l - 32 := by omega
    simp only [h, if_false, e]

/-- A plain query element. -/
theorem plainQ (t : Fin cfg0.N) (i : Fin 512) (h : ℕ) (hh : h < 8) (x : Fin 128) :
    (iblk m c 0 t : Vec Ideal S512x2048 .bf16) (ix2 i (⟨128 * (h % 16) + x, by omega⟩ : Fin 2048))
      = qA m c (t.val / 4 * 2048 + (512 * (t.val % 4) + i)) (h * 192 + x) := by
  have ht := lt32 t
  rw [blk_0, queries_at, if_pos (by show 0 + (128 * (h % 16) + x.val) < 1024; omega)]
  exact congrArg₂ (qA m c) (by show 512 * t.val + i.val = _; omega) (by show (0 + (128 * (h % 16) + x.val)) / 128 * 192 + (0 + (128 * (h % 16) + x.val)) % 128 = _; omega)

/-- A plain key element. -/
theorem plainK (t : Fin cfg0.N) (j : Fin 2048) (h : ℕ) (hh : h < 8) (x : Fin 128) :
    keysAt m c t (ix3 (⟨h % 8, by omega⟩ : Fin 8) j (⟨x, by omega⟩ : Fin 256)) = kA m c (t.val / 4 * 2048 + j) (h * 256 + x) := by
  have ht := lt32 t
  unfold keysAt
  rw [keysOf_lo _ _ _ _ _ (by show x.val < 128; omega), blk_1, keys_at, if_pos (by show 0 + (128 * (h % 8) + x.val) < 1024; omega)]
  exact congrArg₂ (kA m c) (by show 2048 * (t.val / 4) + j.val = _; omega) (by show (0 + (128 * (h % 8) + x.val)) / 128 * 256 + (0 + (128 * (h % 8) + x.val)) % 128 = _; omega)

/-- A value element. -/
theorem value_at (t : Fin cfg0.N) (j : Fin 2048) (l : Fin 1024) :
    (iblk m c 2 t : Vec Ideal S2048x1024 .bf16) (ix2 j l) = kA m c (t.val / 4 * 2048 + j) (l / 128 * 256 + (128 + l % 128)) := by
  have ht := lt32 t
  rw [blk_2, keys_at, if_neg (by show ¬ 1024 + l.val < 1024; omega)]
  exact congrArg₂ (kA m c) (by show 2048 * (t.val / 4) + j.val = _; omega) (by show (1024 + l.val - 1024) / 128 * 256 + (128 + (1024 + l.val - 1024) % 128) = _; omega)

/-- A rotated query lane of head `h`, on the lanes the head keeps. -/
theorem rotQ (t : Fin cfg0.N) (i : Fin 512) (h : ℕ) (hh : h < 8) (x : Fin 128) (hx : x.val / 64 = h % 2)
    (Q : Vec Ideal S512x2048 .bf16) (C S : Vec Ideal S512x128 .f32) (hQ : Q = iblk m c 0 t) (hC : C = iblk m c 7 t) (hS : S = iblk m c 8 t) :
    Q (ix2 i (⟨128 * ((8 + h / 2) % 16) + x, by omega⟩ : Fin 2048)) * C (ix2 i x)
      + Q (ix2 i (⟨128 * ((12 + h / 2) % 16) + x, by omega⟩ : Fin 2048)) * S (ix2 i x)
      = rotLane (fun n => qA m c (t.val / 4 * 2048 + (512 * (t.val % 4) + i)) (h * 192 + (128 + n))) (512 * (t.val % 4) + i) (x % 64) := by
  have ht := lt32 t
  have hr : 512 * t.val + i.val = t.val / 4 * 2048 + (512 * (t.val % 4) + i) := by omega
  refine rotLane_of (by omega) ?_ ?_ ?_ ?_
  · rw [hQ, blk_0, queries_at, if_neg (by show ¬ 0 + (128 * ((8 + h / 2) % 16) + x.val) < 1024; omega), if_pos (by show 0 + (128 * ((8 + h / 2) % 16) + x.val) - 1024 < 512; omega)]
    exact congrArg₂ (qA m c) hr (by show (0 + (128 * ((8 + h / 2) % 16) + x.val) - 1024) / 64 * 192 + (128 + (0 + (128 * ((8 + h / 2) % 16) + x.val) - 1024) % 64) = _; omega)
  · rw [hQ, blk_0, queries_at, if_neg (by show ¬ 0 + (128 * ((12 + h / 2) % 16) + x.val) < 1024; omega), if_neg (by show ¬ 0 + (128 * ((12 + h / 2) % 16) + x.val) - 1024 < 512; omega)]
    have hm : (0 + (128 * ((12 + h / 2) % 16) + x.val) - 1024 - 512) % 64 = x.val % 64 := by omega
    have hd : (0 + (128 * ((12 + h / 2) % 16) + x.val) - 1024 - 512) / 64 = h := by omega
    by_cases hl : x.val % 64 < 32
    · rw [if_pos (hm.trans_lt hl), if_pos hl]
      exact congrArg₂ (qA m c) hr (by show (0 + (128 * ((12 + h / 2) % 16) + x.val) - 1024 - 512) / 64 * 192 + (128 + (32 + (0 + (128 * ((12 + h / 2) % 16) + x.val) - 1024 - 512) % 64)) = _; rw [hm, hd])
    · rw [if_neg (fun h' => hl (hm.symm.trans_lt h')), if_neg hl]
      exact congrArg₂ (qA m c) hr (by show (0 + (128 * ((12 + h / 2) % 16) + x.val) - 1024 - 512) / 64 * 192 + (128 + ((0 + (128 * ((12 + h / 2) % 16) + x.val) - 1024 - 512) % 64 - 32)) = _; rw [hm, hd])
  · rw [hC, blk_7, cos_at]
    exact congrArg₂ cosT rfl (by show (0 + x.val) % 32 = _; omega)
  · rw [hS, blk_8, sin_at]
    have e : (0 + x.val) % 32 = x.val % 64 % 32 := by omega
    have e' : (0 + x.val) % 64 = x.val % 64 := by omega
    show (if (0 + x.val) % 64 < 32 then -sinT (512 * (t.val % 4) + i.val) ((0 + x.val) % 32) else sinT (512 * (t.val % 4) + i.val) ((0 + x.val) % 32)) = _
    rw [e, e']

theorem ropeK_ld (p w : Vec Ideal S2048x128 .bf16) (cc ss : Vec Ideal S2048x128 .f32) (j : Fin 2048) (y : Fin 128) :
    ropeK (View.ld p (Rect.unit (s := S2048x128) ![0, 0] S2048x128.size inb_S2048x128_S2048x128_0_0))
      (View.ld w (Rect.unit (s := S2048x128) ![0, 0] S2048x128.size inb_S2048x128_S2048x128_0_0))
      (View.ld cc (Rect.unit (s := S2048x128) ![0, 0] S2048x128.size inb_S2048x128_S2048x128_0_0))
      (View.ld ss (Rect.unit (s := S2048x128) ![0, 0] S2048x128.size inb_S2048x128_S2048x128_0_0)) (ix2 j y)
      = p (ix2 j y) * cc (ix2 j y) + w (ix2 j y) * ss (ix2 j y) := by
  rw [View.ld_unit_zero hz, View.ld_unit_zero hz, View.ld_unit_zero hz, View.ld_unit_zero hz, ropeK_at]

/-- A rotated key lane. -/
theorem rotK (t : Fin cfg0.N) (j : Fin 2048) (h : ℕ) (x : Fin 128) :
    keysAt m c t (ix3 (⟨h % 8, by omega⟩ : Fin 8) j (⟨128 + x, by omega⟩ : Fin 256))
      = rotLane (fun n => pA m c (t.val / 4 * 2048 + j) (768 + n)) j (x % 64) := by
  have ht := lt32 t
  have hr : 2048 * (t.val / 4) + j.val = t.val / 4 * 2048 + j := by omega
  unfold keysAt
  rw [keysOf_hi _ _ _ _ _ x rfl]
  refine (ropeK_ld _ _ _ _ j x).trans (rotLane_of (by omega) ?_ ?_ ?_ ?_)
  · rw [blk_3, shared_at _ _ _ _ (by show 3840 ≤ 3840 + x.val; omega)]
    exact congrArg₂ (pA m c) hr (by show sharedCol (3840 + x.val) = _; unfold sharedCol; rw [if_pos (by omega)]; omega)
  · rw [blk_4, shared_at _ _ _ _ (by show 3840 ≤ 3968 + x.val; omega)]
    by_cases hl : x.val % 64 < 32
    · rw [if_pos hl]
      exact congrArg₂ (pA m c) hr (by show sharedCol (3968 + x.val) = _; unfold sharedCol; rw [if_neg (by omega), if_pos (by omega)]; omega)
    · rw [if_neg hl]
      exact congrArg₂ (pA m c) hr (by show sharedCol (3968 + x.val) = _; unfold sharedCol; rw [if_neg (by omega), if_neg (by omega)]; omega)
  · rw [blk_5, cos_at]
    exact congrArg₂ cosT (by show 0 + j.val = _; omega) (by show (0 + x.val) % 32 = _; omega)
  · rw [blk_6, sin_at]
    have e : (0 + x.val) % 32 = x.val % 64 % 32 := by omega
    have e' : (0 + x.val) % 64 = x.val % 64 := by omega
    have e0 : 0 + j.val = j.val := by omega
    show (if (0 + x.val) % 64 < 32 then -sinT (0 + j.val) ((0 + x.val) % 32) else sinT (0 + j.val) ((0 + x.val) % 32)) = _
    rw [e, e', e0]

/-- The two halves of the rotated lanes' products are the score's rotated part. -/
theorem rot_halves (b h i k : ℕ) :
    (∑ x : Fin 32, rotLane (fun n => qA m c (b * 2048 + i) (h * 192 + (128 + n))) i x * rotLane (fun n => pA m c (b * 2048 + k) (768 + n)) k x)
      + (∑ x : Fin 32, rotLane (fun n => qA m c (b * 2048 + i) (h * 192 + (128 + n))) i (32 + x) * rotLane (fun n => pA m c (b * 2048 + k) (768 + n)) k (32 + x))
      + 0 = (∑ x : Fin 32,
        (pA m c (b * 2048 + k) (768 + x) * cosT k x - pA m c (b * 2048 + k) (768 + (32 + x)) * sinT k x) *
          (qA m c (b * 2048 + i) (h * 192 + (128 + x)) * cosT i x - qA m c (b * 2048 + i) (h * 192 + (128 + (32 + x))) * sinT i x)) +
      ∑ x : Fin 32,
        (pA m c (b * 2048 + k) (768 + (32 + x)) * cosT k x + pA m c (b * 2048 + k) (768 + x) * sinT k x) *
          (qA m c (b * 2048 + i) (h * 192 + (128 + (32 + x))) * cosT i x + qA m c (b * 2048 + i) (h * 192 + (128 + x)) * sinT i x) := by
  rw [add_zero]
  refine congrArg₂ (· + ·) (Finset.sum_congr rfl fun x _ => ?_) (Finset.sum_congr rfl fun x _ => ?_)
  · rw [rotLane_lo, rotLane_lo, mul_comm]
  · rw [rotLane_hi, rotLane_hi, mul_comm]

/-- The rotated part of a score, over the products of rotated lanes. -/
def rotated (b h i k : ℕ) (n : ℕ) : EReal :=
  rotLane (fun n => qA m c (b * 2048 + i) (h * 192 + (128 + n))) i n * rotLane (fun n => pA m c (b * 2048 + k) (768 + n)) k n

/-- An even head's scores at a grid point. -/
theorem even_at (t : Fin cfg0.N) (h : ℕ) (hh : h < 8) (he : h % 2 = 0) (i : Fin 512) (j : Fin 2048) :
    scoresE (iblk m c 0 t : Vec Ideal S512x2048 .bf16) (keysAt m c t) (iblk m c 7 t : Vec Ideal S512x128 .f32) (iblk m c 8 t : Vec Ideal S512x128 .f32) h (ix3 (0 : Fin 1) i j)
      = score (qA m c) (kA m c) (pA m c) (t.val / 4) h (512 * (t.val % 4) + i) j := by
  rw [scoresE_at, score, ← rot_halves, add_zero]
  refine congrArg₂ (· + ·) (Finset.sum_congr rfl fun x _ => ?_) ?_
  · rw [plainQ m c t i h hh x, plainK m c t j h hh x]
  · unfold firstLanes
    refine sum_first _ (rotated m c (t.val / 4) h (512 * (t.val % 4) + i) j) (fun x hx => ?_) (fun x hx => if_neg (by omega))
    rw [if_pos hx]
    refine (congrArg₂ (· * ·) (rotQ m c t i h hh x (by omega) _ _ _ rfl rfl rfl) (rotK m c t j h x)).trans ?_
    rw [rotated]
    have e : x.val % 64 = x.val := by omega
    rw [e]

/-- An odd head's scores at a grid point. -/
theorem odd_at (t : Fin cfg0.N) (h : ℕ) (hh : h < 8) (he : h % 2 = 1) (i : Fin 512) (j : Fin 2048) :
    scoresO (iblk m c 0 t : Vec Ideal S512x2048 .bf16) (keysAt m c t) (iblk m c 7 t : Vec Ideal S512x128 .f32) (iblk m c 8 t : Vec Ideal S512x128 .f32) h (ix3 (0 : Fin 1) i j)
      = score (qA m c) (kA m c) (pA m c) (t.val / 4) h (512 * (t.val % 4) + i) j := by
  rw [scoresO_at, score, ← rot_halves, add_zero]
  refine congrArg₂ (· + ·) (Finset.sum_congr rfl fun x _ => ?_) ?_
  · rw [plainQ m c t i h hh x, plainK m c t j h hh x]
  · unfold lastLanes
    refine sum_last _ (rotated m c (t.val / 4) h (512 * (t.val % 4) + i) j) (fun x hx => ?_) (fun x hx => if_pos hx)
    rw [if_neg (by omega)]
    refine (congrArg₂ (· * ·) (rotQ m c t i h hh x (by omega) _ _ _ rfl rfl rfl) (rotK m c t j h x)).trans ?_
    rw [rotated]
    have e : x.val % 64 = x.val - 64 := by omega
    rw [e]

end Cert.KernelIdeal.Attn

end
-- ==== Proof.Softmax.lean ====
module

public import Idealize.ShloMosaic.PureOps.Ideal

@[expose] public section

noncomputable section

namespace Attn

open Idealize.ShloMosaic
open scoped BigOperators

/-- A finite sum of reals, read as an extended real, is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum from `⊥` of a nonempty row of reals is one of them, and scaling the row by a nonnegative factor
    scales it. -/
theorem fold_max_real {n : ℕ} (hn : 0 < n) (s : Fin n → ℝ) :
    ∃ m : ℝ, (Finset.univ : Finset (Fin n)).fold max ⊥ (fun k => (s k : EReal)) = (m : EReal) ∧
      ∀ σ : ℝ, 0 ≤ σ →
        (Finset.univ : Finset (Fin n)).fold max ⊥ (fun k => (s k : EReal) * (σ : EReal)) = ((m * σ : ℝ) : EReal) := by
  obtain ⟨k0, -, h0⟩ := Finset.exists_max_image (Finset.univ : Finset (Fin n)) s ⟨⟨0, hn⟩, Finset.mem_univ _⟩
  have hsup : ∀ f : Fin n → EReal, (∀ k, f k ≤ f k0) → (Finset.univ : Finset (Fin n)).fold max ⊥ f = f k0 := by
    intro f hf
    change Finset.univ.sup f = f k0
    exact le_antisymm (Finset.sup_le fun k _ => hf k) (Finset.le_sup (Finset.mem_univ k0))
  refine ⟨s k0, hsup _ fun k => EReal.coe_le_coe_iff.2 (h0 k (Finset.mem_univ k)), fun σ hσ => ?_⟩
  rw [hsup _ fun k => ?_, EReal.coe_mul]
  rw [← EReal.coe_mul, ← EReal.coe_mul]
  exact EReal.coe_le_coe_iff.2 (mul_le_mul_of_nonneg_right (h0 k (Finset.mem_univ k)) hσ)

/-- A power of two of a number scaled by `σ / log 2` is the exponential of the number scaled by `σ`. -/
theorem rpow_two (x σ : ℝ) : Real.rpow 2 (x * (σ * (Real.log 2)⁻¹)) = Real.exp (x * σ) := by
  have h2 : Real.log 2 ≠ 0 := (Real.log_pos (by norm_num)).ne'
  change (2 : ℝ) ^ (x * (σ * (Real.log 2)⁻¹)) = _
  rw [Real.rpow_def_of_pos (by norm_num)]
  congr 1
  field_simp

/-- ONE HEAD'S ROW. The kernel's row of outputs (powers of two of the scores less their maximum, the weighted sum of the
    values scaled afterwards by the reciprocal of the powers' sum) is the softmax of the scaled scores applied to the
    values, for real scores and values. -/
theorem head_eq {n : ℕ} (hn : 0 < n) (σ : ℝ) (hσ : 0 ≤ σ) (s v : Fin n → ℝ) :
    (∑ k, Ideal.exp2 (((s k : EReal) - Finset.univ.fold max ⊥ fun k => (s k : EReal)) * ((σ * (Real.log 2)⁻¹ : ℝ) : EReal))
          * (v k : EReal))
        * Ideal.div 1 (∑ k, Ideal.exp2 (((s k : EReal) - Finset.univ.fold max ⊥ fun k => (s k : EReal))
            * ((σ * (Real.log 2)⁻¹ : ℝ) : EReal)))
      = ∑ k, (v k : EReal) * Ideal.div
          (Ideal.exp ((s k : EReal) * (σ : EReal) - Finset.univ.fold max ⊥ fun k => (s k : EReal) * (σ : EReal)))
          (∑ k, Ideal.exp ((s k : EReal) * (σ : EReal) - Finset.univ.fold max ⊥ fun k => (s k : EReal) * (σ : EReal))) := by
  obtain ⟨m, hm, hmσ⟩ := fold_max_real hn s
  rw [hm, hmσ σ hσ]
  have hk : ∀ k, Ideal.exp2 (((s k : EReal) - (m : EReal)) * ((σ * (Real.log 2)⁻¹ : ℝ) : EReal))
      = ((Real.exp ((s k - m) * σ) : ℝ) : EReal) := by
    intro k
    rw [← EReal.coe_sub, ← EReal.coe_mul, Ideal.exp2_coe, rpow_two]
  have hr : ∀ k, Ideal.exp ((s k : EReal) * (σ : EReal) - ((m * σ : ℝ) : EReal))
      = ((Real.exp ((s k - m) * σ) : ℝ) : EReal) := by
    intro k
    rw [← EReal.coe_mul, ← EReal.coe_sub, Ideal.exp_coe, sub_mul]
  simp only [hk, hr]
  have hpos : 0 < ∑ k : Fin n, Real.exp ((s k - m) * σ) :=
    Finset.sum_pos (fun k _ => Real.exp_pos _) ⟨⟨0, hn⟩, Finset.mem_univ _⟩
  rw [← coe_sum]
  have hdiv : ∀ x : ℝ, Ideal.div (x : EReal) ((∑ k : Fin n, Real.exp ((s k - m) * σ) : ℝ) : EReal)
      = ((x * (∑ k : Fin n, Real.exp ((s k - m) * σ))⁻¹ : ℝ) : EReal) := by
    intro x
    rw [Ideal.div, if_neg (by rw [EReal.coe_eq_zero]; exact hpos.ne'), ← EReal.coe_inv, ← EReal.coe_mul]
  have h1 : (1 : EReal) = ((1 : ℝ) : EReal) := rfl
  rw [h1, hdiv]
  simp only [hdiv, ← EReal.coe_mul]
  rw [← coe_sum, ← coe_sum, ← EReal.coe_mul, EReal.coe_eq_coe_iff, Finset.sum_mul]
  exact Finset.sum_congr rfl fun k _ => by ring

end Attn

end
-- ==== Proof.Ref.lean ====
/-
  The reference's attention at an index: its scores, its softmax, its heads and its normalized rows.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Attn

open Idealize.ShloMosaic Idealize.ShloMosaic.TcCoe Idealize.ShloMosaic.StableHlo
open Cert.ReferenceIdeal Cert.ReferenceIdeal.Gen Cert.ReferenceIdeal.Value
open _root_.Attn

variable (V0 : Valuation τ sig (Elt Ideal))

/-- The queries, at a row and a column. -/
def qR : ℕ → ℕ → EReal := at2 (V0 (Proc.devRef .tc main_arg0) : Vec Ideal S16384x1536 .bf16)
/-- The keys and values, at a row and a column. -/
def kR : ℕ → ℕ → EReal := at2 (V0 (Proc.devRef .tc main_arg1) : Vec Ideal S16384x2048 .bf16)
/-- The projected rows, at a row and a column. -/
def pR : ℕ → ℕ → EReal := at2 (V0 (Proc.devRef .tc main_arg2) : Vec Ideal S16384x3904 .bf16)

theorem qR_eq (a : Fin 16384) (b : Fin 1536) : (V0 (Proc.devRef .tc main_arg0) : Vec Ideal S16384x1536 .bf16) (ix2 a b) = qR V0 a b := at2_eq _ _ _ _ _ rfl rfl
theorem kR_eq (a : Fin 16384) (b : Fin 2048) : (V0 (Proc.devRef .tc main_arg1) : Vec Ideal S16384x2048 .bf16) (ix2 a b) = kR V0 a b := at2_eq _ _ _ _ _ rfl rfl
theorem pR_eq (a : Fin 16384) (b : Fin 3904) : (V0 (Proc.devRef .tc main_arg2) : Vec Ideal S16384x3904 .bf16) (ix2 a b) = pR V0 a b := at2_eq _ _ _ _ _ rfl rfl

theorem cosR (s : Fin 2048) (f : Fin 32) : (res_main_v16 V0 : Vec Ideal S2048x32 .f32) (ix2 s f) = cosT s f := by
  pointwise [res_main_v16, res_main_v15]
  rfl

theorem sinR (s : Fin 2048) (f : Fin 32) : (res_main_v17 V0 : Vec Ideal S2048x32 .f32) (ix2 s f) = sinT s f := by
  pointwise [res_main_v17, res_main_v15]
  rfl

/-- The reference's scaled scores. -/
theorem scaled_at (b h : Fin 8) (i k : Fin 2048) : (res_main_v76 V0 : Vec Ideal S8x8x2048x2048 .f32) (ix4 b h i k)
    = score (qR V0) (kR V0) (pR V0) b h i k * Ideal.rsqrt (Ideal.ofBits FTy.f32 0x43400000#32) := by
  pointwise [res_main_v76, fn_main_v48, fn_main_v65, res_main_v67, res_main_v50, res_main_v49,res_main_v33,res_main_v32,res_main_v31,res_main_v30,res_main_v29,res_main_v24,res_main_v21,res_main_v19]
  simp only [qR_eq, kR_eq, pR_eq, cosR, sinR]
  rfl

/-- The greatest score of each row. -/
def greatest (s : FVec Ideal S8x8x2048x2048 .f32) : FVec Ideal S8x8x2048 .f32 :=
  Host.reduce FloatOps.maximumf s (constant S_ .f32 0xFF800000#32) reducesTo_S8x8x2048x2048_S8x8x2048_d3 h_S_

theorem greatest_at (s : FVec Ideal S8x8x2048x2048 .f32) (b h : Fin 8) (i : Fin 2048) : greatest s (ix3 b h i)
    = Finset.univ.fold max (Ideal.ofBits FTy.f32 4286578688#32) (fun x => s (ix4 b h i x)) := by
  pointwise [greatest]

/-- The softmax's numerators over scaled scores `s`, less `m`. -/
def numer (s : FVec Ideal S8x8x2048x2048 .f32) (m : FVec Ideal S8x8x2048 .f32) : FVec Ideal S8x8x2048x2048 .f32 :=
  Host.exp (subf s (broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 (constant S_ .f32 0xFF800000#32)) m))))

theorem numer_at (s : FVec Ideal S8x8x2048x2048 .f32) (m : FVec Ideal S8x8x2048 .f32) (b h : Fin 8) (i k : Fin 2048) : numer s m (ix4 b h i k)
    = Ideal.exp (s (ix4 b h i k) - max (Ideal.ofBits FTy.f32 4286578688#32) (m (ix3 b h i))) := by
  pointwise [numer]

theorem numer_eq : res_main_v83 V0 = numer (res_main_v76 V0) (greatest (res_main_v76 V0)) := rfl

/-- The reference's softmax numerators. -/
theorem exp_at (b h : Fin 8) (i k : Fin 2048) (s : FVec Ideal S8x8x2048x2048 .f32) (hs : res_main_v76 V0 = s) : (res_main_v83 V0 : Vec Ideal S8x8x2048x2048 .f32) (ix4 b h i k)
    = Ideal.exp (s (ix4 b h i k)
        - Finset.univ.fold max ⊥ fun x => s (ix4 b h i x)) := by
  rw [numer_eq, hs, numer_at, greatest_at, ofBits_bot, max_eq_right bot_le]

/-- The reference's heads: values weighted by the softmax. -/
theorem heads_at (b : Fin 8) (i : Fin 2048) (j : Fin 1024) : (res_main_v90 V0 : Vec Ideal S8x2048x1024 .f32) (ix3 b i j)
    = ∑ x : Fin 2048, kR V0 (b * 2048 + x) (j / 128 * 256 + (128 + j % 128)) *
        Ideal.div ((res_main_v83 V0 : Vec Ideal S8x8x2048x2048 .f32) (ix4 b (⟨j / 128, by omega⟩ : Fin 8) i x))
          (∑ y : Fin 2048, (res_main_v83 V0 : Vec Ideal S8x8x2048x2048 .f32) (ix4 b (⟨j / 128, by omega⟩ : Fin 8) i y)) := by
  pointwise [res_main_v90, res_main_v67]
  simp only [kR_eq]

/-- The reference's rows, normalized and times the gain, over its heads. -/
def outR (o : FVec Ideal S8x2048x1024 .f32) (g : FVec Ideal S1024 .f32) : FVec Ideal S16384x1024 .bf16 :=
  truncf .bf16 (shapeCast _ (mulf (mulf o (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf o o) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 g))) shapeCasts_S8x2048x1024_S16384x1024) bitsLt_bf16_f32

theorem outR_at (o : FVec Ideal S8x2048x1024 .f32) (g : FVec Ideal S1024 .f32) (r : Fin 16384) (j : Fin 1024) : outR o g (ix2 r j)
    = o (ix3 (⟨r / 2048, by omega⟩ : Fin 8) (⟨r % 2048, Nat.mod_lt _ (by decide)⟩ : Fin 2048) j)
      * Ideal.rsqrt (Ideal.div (∑ x, o (ix3 (⟨r / 2048, by omega⟩ : Fin 8) (⟨r % 2048, Nat.mod_lt _ (by decide)⟩ : Fin 2048) x)
          * o (ix3 (⟨r / 2048, by omega⟩ : Fin 8) (⟨r % 2048, Nat.mod_lt _ (by decide)⟩ : Fin 2048) x)) (Ideal.ofBits .f32 1149239296#32)
        + Ideal.ofBits .f32 897988541#32) * g (ix1 j) := by
  pointwise [outR]

end Cert.ReferenceIdeal.Attn

end
-- ==== Proof.Equation.lean ====
/-
  The kernel's block and the reference's rows are one function of the queries, the keys and values, the projected rows
  and the gain: softmax-weighted values, divided by their root mean square.
-/
module

public import proofs.«01_k».proof.Proof.Softmax
public import proofs.«01_k».proof.Proof.BlockAt
public import proofs.«01_k».proof.Proof.Ref

@[expose] public section

set_option maxRecDepth 16384

noncomputable section

namespace Attn

open Idealize.ShloMosaic

/-- A head's output: the values weighted by the softmax of the scaled scores. -/
def headOut (Q K P : ℕ → ℕ → EReal) (b i j : ℕ) : EReal :=
  ∑ x : Fin 2048, K (b * 2048 + x) (j / 128 * 256 + (128 + j % 128)) *
    Ideal.div (Ideal.exp (score Q K P b (j / 128) i x * Ideal.rsqrt (Ideal.ofBits FTy.f32 0x43400000#32)
        - Finset.univ.fold max ⊥ fun z : Fin 2048 => score Q K P b (j / 128) i z * Ideal.rsqrt (Ideal.ofBits FTy.f32 0x43400000#32)))
      (∑ y : Fin 2048, Ideal.exp (score Q K P b (j / 128) i y * Ideal.rsqrt (Ideal.ofBits FTy.f32 0x43400000#32)
        - Finset.univ.fold max ⊥ fun z : Fin 2048 => score Q K P b (j / 128) i z * Ideal.rsqrt (Ideal.ofBits FTy.f32 0x43400000#32)))

/-- A row divided by its root mean square, times the gain. -/
def normRow (f : Fin 1024 → EReal) (g : EReal) (j : Fin 1024) : EReal :=
  f j * Ideal.rsqrt (Ideal.div (∑ x, f x * f x) (Ideal.ofBits .f32 1149239296#32) + Ideal.ofBits .f32 897988541#32) * g

theorem rsqrt_192 : Ideal.rsqrt (Ideal.ofBits FTy.f32 0x43400000#32) = (((Real.sqrt 192)⁻¹ : ℝ) : EReal) := by
  rw [ofBits_192, Ideal.rsqrt_coe, if_neg (by norm_num), if_neg (by norm_num)]

end Attn

namespace Cert.ReferenceIdeal.Attn

open Idealize.ShloMosaic Idealize.ShloMosaic.TcCoe Idealize.ShloMosaic.StableHlo
open Cert.ReferenceIdeal Cert.ReferenceIdeal.Gen Cert.ReferenceIdeal.Value
open _root_.Attn

/-- The reference's result at an index. -/
theorem reference_at (V0 : Valuation τ sig (Elt Ideal)) (g : FVec Ideal S1024 .f32) (r : Fin 16384) (j : Fin 1024) :
    outR (res_main_v90 V0) g (ix2 r j)
      = normRow (fun x => headOut (qR V0) (kR V0) (pR V0) (r / 2048) (r % 2048) x) (g (ix1 j)) j := by
  have e : ∀ x : Fin 1024, (res_main_v90 V0 : Vec Ideal S8x2048x1024 .f32) (ix3 (⟨r / 2048, by omega⟩ : Fin 8) (⟨r % 2048, Nat.mod_lt _ (by decide)⟩ : Fin 2048) x)
      = headOut (qR V0) (kR V0) (pR V0) (r / 2048) (r % 2048) x := by
    intro x
    rw [heads_at]
    simp only [exp_at V0 _ _ _ _ _ rfl]
    simp only [scaled_at]
    rfl
  rw [outR_at]
  generalize res_main_v90 V0 = o at e ⊢
  simp only [e]
  rfl

end Cert.ReferenceIdeal.Attn

namespace Cert.KernelIdeal.Attn

open Idealize.ShloMosaic Idealize.ShloMosaic.TcCoe
open Cert.KernelIdeal Cert.KernelIdeal.Gen
open _root_.Attn

theorem scale_log2e : Named.named (F := Ideal) κ "scale_log2e" (φ := .f32) 0x3DD53B95#32 = (((Real.sqrt 192)⁻¹ * (Real.log 2)⁻¹ : ℝ) : EReal) :=
  IdealRules.named_const.ideal_named_scalar _ _ _ _ rfl

/-- A head's columns of the values. -/
theorem valueCols_at (V : Vec Ideal S2048x1024 .bf16) (n : ℕ) (hn : n < 8) (k : Fin 2048) (d : Fin 128) :
    View.ld V (kCol n) (ix2 k d) = V (ix2 k (⟨128 * n + d, by omega⟩ : Fin 1024)) := by
  rw [View.ld]
  refine congrArg V (funext fun a => Fin.ext ?_)
  match a with
  | ⟨0, _⟩ => show 0 + 1 * k.val = k.val; omega
  | ⟨1, _⟩ => show 128 * (n % 8) + 1 * d.val = 128 * n + d.val; omega

/-- A head's block at a query and a value column is the head's output. -/
theorem head_at (Q K P : ℕ → ℕ → EReal) (hQ : ∀ a b, IsReal (Q a b)) (hK : ∀ a b, IsReal (K a b)) (hP : ∀ a b, IsReal (P a b))
    (s : Vec Ideal S1x512x2048 .f32) (v : Vec Ideal S2048x128 .bf16) (b r j : ℕ) (i : Fin 512) (d : Fin 128)
    (hs : ∀ k : Fin 2048, s (ix3 (0 : Fin 1) i k) = score Q K P b (j / 128) r k)
    (hv : ∀ k : Fin 2048, v (ix2 k d) = K (b * 2048 + k) (j / 128 * 256 + (128 + j % 128))) :
    headBlock s v (ix2 i d) = headOut Q K P b r j := by
  choose S hS using fun k : Fin 2048 => score_real hQ hK hP b (j / 128) r k
  choose W hW using fun k : Fin 2048 => hK (b * 2048 + k) (j / 128 * 256 + (128 + j % 128))
  rw [headBlock_at]
  simp only [expo, hs, hv, scale_log2e, headOut, rsqrt_192, hS, hW]
  exact _root_.Attn.head_eq (by norm_num) _ (inv_nonneg.mpr (Real.sqrt_nonneg _)) S W

/-- The block at a row and a column is the row's heads, normalized. -/
theorem block_at (Q K P : ℕ → ℕ → EReal) (hQ : ∀ a b, IsReal (Q a b)) (hK : ∀ a b, IsReal (K a b)) (hP : ∀ a b, IsReal (P a b))
    (q : Vec Ideal S512x2048 .bf16) (k : Vec Ideal S8x2048x256 .bf16) (v : Vec Ideal S2048x1024 .bf16) (cc ss : Vec Ideal S512x128 .f32)
    (g : Vec Ideal S1x1024 .f32) (b r : ℕ) (i : Fin 512)
    (hE : ∀ n < 8, n % 2 = 0 → ∀ x : Fin 2048, scoresE q k cc ss n (ix3 (0 : Fin 1) i x) = score Q K P b n r x)
    (hO : ∀ n < 8, n % 2 = 1 → ∀ x : Fin 2048, scoresO q k cc ss n (ix3 (0 : Fin 1) i x) = score Q K P b n r x)
    (hV : ∀ (x : Fin 2048) (l : Fin 1024), v (ix2 x l) = K (b * 2048 + x) (l / 128 * 256 + (128 + l % 128))) (j : Fin 1024) :
    block q k v cc ss g (ix2 i j) = normRow (fun x => headOut Q K P b r x) (g (ix2 (0 : Fin 1) j)) j := by
  let o : ℕ → FVec Ideal S512x128 .f32 := fun n =>
    if n % 2 = 0 then headBlock (scoresE q k cc ss n) (View.ld v (kCol n)) else headBlock (scoresO q k cc ss n) (View.ld v (kCol n))
  have ho : ∀ x : Fin 1024, heads (o 0) (o 1) (o 2) (o 3) (o 4) (o 5) (o 6) (o 7) (ix2 i x) = headOut Q K P b r x := by
    intro x
    have hx : x.val / 128 < 8 := by omega
    have hv : ∀ y : Fin 2048, View.ld v (kCol (x.val / 128)) (ix2 y (⟨x.val % 128, Nat.mod_lt _ (by decide)⟩ : Fin 128))
        = K (b * 2048 + y) (x / 128 * 256 + (128 + x % 128)) := by
      intro y
      rw [valueCols_at _ _ hx, hV]
      exact congrArg₂ K rfl (by show (128 * (x.val / 128) + x.val % 128) / 128 * 256 + (128 + (128 * (x.val / 128) + x.val % 128) % 128) = _; omega)
    rw [heads_at]
    show (if x.val / 128 % 2 = 0 then _ else _ : FVec Ideal S512x128 .f32) _ = _
    by_cases h : x.val / 128 % 2 = 0
    · rw [if_pos h]
      exact head_at Q K P hQ hK hP _ _ b r x i _ (hE _ hx h) hv
    · rw [if_neg h]
      exact head_at Q K P hQ hK hP _ _ b r x i _ (hO _ hx (by omega)) hv
  have hb : block q k v cc ss g = normed (heads (o 0) (o 1) (o 2) (o 3) (o 4) (o 5) (o 6) (o 7))
      (View.ld g (Rect.unit (s := S1x1024) ![0, 0] S1x1024.size inb_S1x1024_S1x1024_0_0)) := rfl
  rw [hb, View.ld_unit_zero hz, normed_at]
  generalize heads (o 0) (o 1) (o 2) (o 3) (o 4) (o 5) (o 6) (o 7) = O at ho ⊢
  simp only [ho]
  rfl

end Cert.KernelIdeal.Attn

end
-- ==== Proof.Claims.lean ====
/-
  The claims: the kernel and the reference run and leave their arguments unchanged, the named constant is the value it
  names, and from equal finite arguments the kernel's result is the reference's.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Finite
public import proofs.«01_k».proof.Proof.Score
public import proofs.«01_k».proof.Proof.Equation
public import Idealize.ShloMosaic.Lib.Quiescent

@[expose] public section

set_option maxRecDepth 16384

noncomputable section

open Idealize.ShloMosaic Idealize.ShloMosaic.TcCoe Idealize.SL.Sem

namespace Cert.Proof.AttnClaims

open _root_.Attn

/-- The kernel runs and leaves its arguments unchanged. -/
theorem frame_p : Cert.quiescent_Kernel := fun m ρ _ => Cert.Kernel.Gen.frame m ρ
/-- The idealized kernel runs and leaves its arguments unchanged. -/
theorem frame_pi : Cert.quiescent_KernelIdeal := fun m ρ _ => Cert.KernelIdeal.Gen.frame m ρ
/-- The same under the precondition. -/
theorem frame_pi_pre : Cert.quiescent_KernelIdeal_pre_finite := fun m ρ _ => Cert.KernelIdeal.Gen.frame m ρ
/-- The reference runs and leaves its arguments unchanged. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The same under the precondition. -/
theorem frame_ri_pre : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The scale's pattern names the reciprocal root of 192 over the logarithm of two. -/
theorem preserves : Cert.preserves_Kernel_KernelIdeal := by
  have h := IdealRules.named_const.statement Cert.KernelIdeal.κ "scale_log2e" .f32 0x3DD53B95#32 (((Real.sqrt 192)⁻¹ * (Real.log 2)⁻¹ : ℝ) : EReal) rfl
  unfold Cert.preserves_Kernel_KernelIdeal
  repeat' first | exact h | refine ⟨h, ?_⟩

/-- From finite arguments the kernel's result is the reference's function of them. -/
theorem result_eq (m : (ℓ : Loc Cert.KernelIdeal.nD Cert.KernelIdeal.τ Cert.KernelIdeal.sig) → Buf (Elt Ideal) ℓ) (c : Dev Cert.KernelIdeal.nD)
    (hpre : Cert.Pre_KernelIdeal_finite (hPre_finite := Cert.Pre_finite.Gen.facts) m)
    (V0 : Valuation Cert.ReferenceIdeal.τ Cert.ReferenceIdeal.sig (Elt Ideal)) (g : FVec Ideal Cert.ReferenceIdeal.S1024 .f32)
    (h0 : Cert.ReferenceIdeal.Attn.qR V0 = Cert.KernelIdeal.Attn.qA m c)
    (h1 : Cert.ReferenceIdeal.Attn.kR V0 = Cert.KernelIdeal.Attn.kA m c)
    (h2 : Cert.ReferenceIdeal.Attn.pR V0 = Cert.KernelIdeal.Attn.pA m c)
    (h3 : g = m ((c : Thread Cert.KernelIdeal.nD Cert.KernelIdeal.τ).loc Cert.KernelIdeal.main_arg3)) :
    Cert.ReferenceIdeal.Attn.outR (Cert.ReferenceIdeal.Value.res_main_v90 V0) g = Cert.KernelIdeal.Value.G10 m c := by
  obtain ⟨ha, hb, hc⟩ := Cert.Pre_finite.reals _ _ _ _ (hpre c)
  have hQ : ∀ a b, IsReal (Cert.KernelIdeal.Attn.qA m c a b) := at2_real _ ha
  have hK : ∀ a b, IsReal (Cert.KernelIdeal.Attn.kA m c a b) := at2_real _ hb
  have hP : ∀ a b, IsReal (Cert.KernelIdeal.Attn.pA m c a b) := at2_real _ hc
  refine funext fun i => ?_
  have hi : i = ix2 (i 0 : Fin 16384) (i 1 : Fin 1024) := by
    funext a
    match a with
    | ⟨0, _⟩ => rfl
    | ⟨1, _⟩ => rfl
  generalize (i 0 : Fin 16384) = r at hi
  generalize (i 1 : Fin 1024) = j at hi
  subst hi
  have hq : (Cert.KernelIdeal.Attn.ptOf r).val / 4 = r.val / 2048 := by show r.val / 512 / 4 = _; omega
  have hr : 512 * ((Cert.KernelIdeal.Attn.ptOf r).val % 4) + r.val % 512 = r.val % 2048 := by
    show 512 * (r.val / 512 % 4) + r.val % 512 = _; omega
  refine (Cert.ReferenceIdeal.Attn.reference_at V0 g r j).trans ?_
  rw [h0, h1, h2]
  refine Eq.trans ?_ (Cert.KernelIdeal.Attn.result_at m c r j).symm
  refine Eq.trans ?_ (Cert.KernelIdeal.Attn.block_at _ _ _ hQ hK hP _ _ _ _ _ _ (r.val / 2048) (r.val % 2048) _
    (fun n hn he x => ?_) (fun n hn he x => ?_) (fun x l => ?_) j).symm
  · refine congrArg (fun z => normRow _ z j) ?_
    rw [h3]
    exact ((Cert.KernelIdeal.Attn.blk_9 m c _ _ _).trans ((congrArg _ (by congr 1 <;> exact Fin.ext (Nat.zero_add _))).trans
      (Cert.KernelIdeal.Attn.gain_at m c j))).symm
  · refine (Cert.KernelIdeal.Attn.even_at m c _ n hn he _ x).trans ?_
    exact congrArg₂ (fun a b => score _ _ _ a n b x) hq hr
  · refine (Cert.KernelIdeal.Attn.odd_at m c _ n hn he _ x).trans ?_
    exact congrArg₂ (fun a b => score _ _ _ a n b x) hq hr
  · refine (Cert.KernelIdeal.Attn.value_at m c _ x l).trans ?_
    rw [hq]

/-- From equal finite arguments the idealized kernel's result is the idealized reference's. -/
theorem algebraic : Cert.algebraic_KernelIdeal_ReferenceIdeal_pre_finite := by
  intro m ρ m' ρ' hpre hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := hagree c
  exact result_eq m c hpre _ _ (congrArg at2 e0) (congrArg at2 e1) (congrArg at2 e2) e3

end Cert.Proof.AttnClaims

end
-- ==== Proof.Linear.lean ====
/-
  The projections' mathematics: a row scaled to root mean square one and by a gain, and its product with a column of
  weights, over functions of the row's places.
-/
module

public import Idealize.ShloMosaic.PureOps.Ideal
public import Idealize.ShloMosaic.Lib.Pointwise

@[expose] public section

noncomputable section

namespace Linear

open Idealize.ShloMosaic
open scoped BigOperators

/-- Place `k` of the row `f` scaled to root mean square one, then by the gain `g`; `len` is the pattern of the row's length. -/
def rms {n : ℕ} (len : BitVec 32) (f g : Fin n → EReal) (k : Fin n) : EReal :=
  f k * Ideal.rsqrt (Ideal.div (∑ x, f x * f x) (Ideal.ofBits FTy.f32 len) + Ideal.ofBits FTy.f32 897988541#32) * g k

/-- The scaled row times a column of weights. -/
def proj {n : ℕ} (len : BitVec 32) (f g w : Fin n → EReal) : EReal := ∑ k, rms len f g k * w k

theorem proj_congr {n : ℕ} {len : BitVec 32} {f f' g g' w w' : Fin n → EReal} (hf : ∀ k, f k = f' k) (hg : ∀ k, g k = g' k) (hw : ∀ k, w k = w' k) :
    proj len f g w = proj len f' g' w' := by
  rw [funext hf, funext hg, funext hw]

/-- Two arrays of two axes are one when they agree at every pair of places. -/
theorem ext2 {α : Type} {n0 n1 : ℕ} {f g : (⟨2, ![n0, n1]⟩ : Shape).Idx → α} (h : ∀ (a : Fin n0) (b : Fin n1), f (ix2 a b) = g (ix2 a b)) : f = g :=
  funext fun x => by
    have e : x = ix2 (x 0) (x 1) := funext fun a => match a with
      | ⟨0, _⟩ => rfl
      | ⟨1, _⟩ => rfl
    rw [e]; exact h _ _

theorem congr3 {α β γ δ : Type} (f : α → β → γ → δ) {a a' : α} {b b' : β} {c c' : γ} (ha : a = a') (hb : b = b') (hc : c = c') : f a b c = f a' b' c' := by
  rw [ha, hb, hc]

theorem congr4 {α β γ δ ε : Type} (f : α → β → γ → δ → ε) {a a' : α} {b b' : β} {c c' : γ} {d d' : δ} (ha : a = a') (hb : b = b') (hc : c = c')
    (hd : d = d') : f a b c d = f a' b' c' d' := by
  rw [ha, hb, hc, hd]

theorem zero2 : (![0, 0] : Fin 2 → ℕ) = fun _ => 0 := by decide
theorem zero3 : (![0, 0, 0] : Fin 3 → ℕ) = fun _ => 0 := by decide

end Linear

end
-- ==== Proof.ProjIn.lean ====
/-
  The first projection: at every place its result is the row's normalized projection, on both sides, and the claims.
-/
module

public import proofs.«01_k».proof.Defs
public import proofs.«01_k».proof.Proof.Gen.ProjIn.Frame
public import proofs.«01_k».proof.Proof.Gen.ProjInIdeal.Value
public import proofs.«01_k».proof.Proof.Gen.RefProjInIdeal.Run
public import proofs.«01_k».proof.Proof.Linear
public import Idealize.ShloMosaic.Lib.Pipeline.ValueKit
public import Idealize.ShloMosaic.Lib.StableHlo.ReadAt
public import Idealize.ShloMosaic.Lib.Quiescent

@[expose] public section

set_option maxRecDepth 16384

noncomputable section

namespace Cert.ProjInIdeal.Proj

open Idealize.ShloMosaic Idealize.ShloMosaic.TcCoe
open Cert.ProjInIdeal Cert.ProjInIdeal.Gen Cert.ProjInIdeal.Value
open Linear

/-- The body's normalized rows at a place. -/
theorem rows_at (x : Vec Ideal S512x2048 .f32) (g : Vec Ideal S1x2048 .f32) (r : Fin 512) (k : Fin 2048) :
    k0_pay1 x g (ix2 r k) = rms (n := 2048) 0x45000000#32 (fun k => x (ix2 r k)) (fun k => g (ix2 0 k)) k := by
  unfold k0_pay1
  pointwise []
  rfl

/-- The body's product at a place. -/
theorem product_at (x : Vec Ideal S512x2048 .bf16) (w : Vec Ideal S1x2048x2048 .bf16) (r : Fin 512) (j : Fin 2048) :
    k0_pay2 x w (ix2 r j) = ∑ k : Fin 2048, (x (ix2 r k) * w (ix3 0 k j) : EReal) := by
  unfold k0_pay2
  pointwise []

variable (c : Dev nD) (i : grid0.Coords) (a2 : Memref sig .tc .vmem S512x2048 .f32) (h2 : a2.IsWhole) (a3 : Memref sig .tc .vmem S1x2048 .f32) (h3 : a3.IsWhole)
  (a4 : Memref sig .tc .vmem S1x2048x2048 .bf16) (h4 : a4.IsWhole) (a5 : Memref sig .tc .vmem S512x2048 .bf16) (h5 : a5.IsWhole) (a6 : Memref sig .tc .vmem S512x2048 .bf16) (h6 : a6.IsWhole)
  (x0 : Vec Ideal S512x2048 .f32) (x1 : Vec Ideal S1x2048 .f32) (x2 : Vec Ideal S1x2048x2048 .bf16) (xs : Vec Ideal S512x2048 .bf16)

/-- At a row block's first point the body leaves the product of the normalized rows and the weights. -/
theorem out_A (hc : cond0_0 i) : out0_A_3 c i a2 h2 a3 h3 a4 h4 a5 h5 a6 h6 hc x0 x1 x2 = k0_pay2 (k0_pay1 x0 x1) x2 := by
  unfold out0_A_3
  rw [View.read_writes_junk_eq_canon]
  unfold kernelRun0_A
  dsimp only
  rw [View.canon_unit_zero zero2]
  unfold kernelRun0_A.sl.v3 kernelRun0_A.sl.HS0_1
  rw [View.readCov_unit_zero _ zero2]
  refine congrArg₂ k0_pay2 (congrArg₂ k0_pay1 ?_ ?_) ?_
  · exact (View.ld_unit_zero zero2 _ _).trans (h2.read_unread _)
  · exact (View.ld_unit_zero zero2 _ _).trans (h3.read_unread _)
  · exact (View.ld_unit_zero zero3 _ _).trans (h4.read_unread _)

/-- There the carried scratch is left at the normalized rows. -/
theorem carry_A (hc : cond0_0 i) : sout0_A_0 c i a2 h2 a3 h3 a4 h4 a5 h5 a6 h6 hc x0 x1 x2 = k0_pay1 x0 x1 := by
  unfold sout0_A_0
  rw [View.read_writes_junk_eq_canon]
  unfold kernelRun0_A
  dsimp only
  unfold kernelRun0_A.sl.HS0_1
  rw [View.canon_unit_zero zero2]
  refine congrArg₂ k0_pay1 ?_ ?_
  · exact (View.ld_unit_zero zero2 _ _).trans (h2.read_unread _)
  · exact (View.ld_unit_zero zero2 _ _).trans (h3.read_unread _)

/-- At the other point it leaves the product of the carried rows and the weights. -/
theorem out_B (hc : ¬cond0_0 i) : out0_B_3 c i a2 h2 a3 h3 a4 h4 a5 h5 a6 h6 hc x0 x1 x2 xs = k0_pay2 xs x2 := by
  unfold out0_B_3
  rw [View.read_writes_junk_eq_canon]
  unfold kernelRun0_B
  dsimp only
  rw [View.canon_unit_zero zero2]
  refine congrArg₂ k0_pay2 ?_ ?_
  · exact (View.ld_unit_zero zero2 _ _).trans (h6.read_unread _)
  · exact (View.ld_unit_zero zero3 _ _).trans (h4.read_unread _)

variable (m : (ℓ : Loc nD τ sig) → Buf (Elt Ideal) ℓ)

/-- Where each window's block lies at a grid point. -/
theorem idx_facts : ∀ t : Fin cfg0.N, win0_0.index t = ![t.val / 2, 0] ∧ win0_1.index t = ![0, 0] ∧ win0_2.index t = ![0, 0, t.val % 2] ∧ win0_3.index t = ![t.val / 2, t.val % 2] :=
  (by decide +kernel : ∀ t : Fin grid0.N, _)
theorem lt64 (t : Fin cfg0.N) : t.val < 64 := lt_of_lt_of_eq t.isLt N_0
theorem flushes : ∀ t : Fin cfg0.N, (cfg0.win 3).flush t = true := (by decide +kernel : ∀ t : Fin grid0.N, win0_3.flush t = true)

/-- The input rows at a point. -/
theorem blk_0 (c : Dev nD) (t : Fin cfg0.N) (r : Fin 512) (l : Fin 2048) : (iblk m c 0 t : Vec Ideal S512x2048 .f32) (ix2 r l)
    = (m ((c : Thread nD τ).loc main_arg0) : Vec Ideal S16384x2048 .f32) (ix2 (⟨512 * (t.val / 2) + r.val, by have := lt64 t; omega⟩ : Fin 16384) l) := by
  have key : ∀ W : Vec Ideal S16384x2048 .f32, ((win0_0.blk t).view.read (Elt Ideal) W : Vec Ideal S512x2048 .f32) (ix2 r l)
      = W (ix2 (⟨512 * (t.val / 2) + r.val, by have := lt64 t; omega⟩ : Fin 16384) l) := fun W => by
    rw [View.read_apply]
    refine congrArg W (funext fun a => Fin.ext ?_)
    match a with
    | ⟨0, _⟩ => show win0_0.index t 0 * 512 + 1 * r.val = 512 * (t.val / 2) + r.val; rw [(idx_facts t).1]; simp; omega
    | ⟨1, _⟩ => show win0_0.index t 1 * 2048 + 1 * l.val = l.val; rw [(idx_facts t).1]; simp
  exact (key _).trans (congrFun (V_main_arg0 m c) _)

/-- The gain at a point. -/
theorem blk_1 (c : Dev nD) (t : Fin cfg0.N) (l : Fin 2048) : (iblk m c 1 t : Vec Ideal S1x2048 .f32) (ix2 0 l)
    = (m ((c : Thread nD τ).loc main_arg1) : Vec Ideal S2048 .f32) (ix1 l) := by
  have key : ∀ W : Vec Ideal S1x2048 .f32, ((win0_1.blk t).view.read (Elt Ideal) W : Vec Ideal S1x2048 .f32) (ix2 0 l) = W (ix2 0 l) := fun W => by
    rw [View.read_apply]
    refine congrArg W (funext fun a => Fin.ext ?_)
    match a with
    | ⟨0, _⟩ => show win0_1.index t 0 * 1 + 1 * 0 = 0; rw [(idx_facts t).2.1]; simp
    | ⟨1, _⟩ => show win0_1.index t 1 * 2048 + 1 * l.val = l.val; rw [(idx_facts t).2.1]; simp
  refine (key _).trans ?_
  show (V m c main_v0 : Vec Ideal S1x2048 .f32) (ix2 0 l) = _
  unfold V
  repeat after_reads_at

/-- The weights at a point. -/
theorem blk_2 (c : Dev nD) (t : Fin cfg0.N) (k : Fin 2048) (j : Fin 2048) : (iblk m c 2 t : Vec Ideal S1x2048x2048 .bf16) (ix3 0 k j)
    = (m ((c : Thread nD τ).loc main_arg2) : Vec Ideal S4x2048x4096 .bf16) (ix3 0 k (⟨2048 * (t.val % 2) + j.val, by omega⟩ : Fin 4096)) := by
  have key : ∀ W : Vec Ideal S4x2048x4096 .bf16, ((win0_2.blk t).view.read (Elt Ideal) W : Vec Ideal S1x2048x2048 .bf16) (ix3 0 k j)
      = W (ix3 0 k (⟨2048 * (t.val % 2) + j.val, by omega⟩ : Fin 4096)) := fun W => by
    rw [View.read_apply]
    refine congrArg W (funext fun a => Fin.ext ?_)
    match a with
    | ⟨0, _⟩ => show win0_2.index t 0 * 1 + 1 * 0 = 0; rw [(idx_facts t).2.2.1]; simp
    | ⟨1, _⟩ => show win0_2.index t 1 * 2048 + 1 * k.val = k.val; rw [(idx_facts t).2.2.1]; simp
    | ⟨2, _⟩ => show win0_2.index t 2 * 2048 + 1 * j.val = 2048 * (t.val % 2) + j.val; rw [(idx_facts t).2.2.1]; simp; omega
  exact (key _).trans (congrFun (V_main_arg2 m c) _)

/-- The normalized rows of a point's row block. -/
def rowsOf (c : Dev nD) (t : Fin cfg0.N) : Vec Ideal S512x2048 .bf16 := k0_pay1 (iblk m c 0 t : Vec Ideal S512x2048 .f32) (iblk m c 1 t : Vec Ideal S1x2048 .f32)

theorem rowsOf_at (c : Dev nD) (t : Fin cfg0.N) (r : Fin 512) (k : Fin 2048) : rowsOf m c t (ix2 r k)
    = rms (n := 2048) 0x45000000#32 (fun k => (m ((c : Thread nD τ).loc main_arg0) : Vec Ideal S16384x2048 .f32) (ix2 (⟨512 * (t.val / 2) + r.val, by have := lt64 t; omega⟩ : Fin 16384) k))
        (fun k => (m ((c : Thread nD τ).loc main_arg1) : Vec Ideal S2048 .f32) (ix1 k)) k := by
  unfold rowsOf
  rw [rows_at]
  simp only [blk_0, blk_1]

/-- Two points of one row block have the same normalized rows. -/
theorem rowsOf_congr (c : Dev nD) {t t' : Fin cfg0.N} (e : t.val / 2 = t'.val / 2) : rowsOf m c t = rowsOf m c t' :=
  ext2 (n0 := 512) (n1 := 2048) fun r k => by rw [rowsOf_at, rowsOf_at]; simp only [e]

/-- After every point the carried scratch holds the point's normalized rows. -/
theorem carried (c : Dev nD) : ∀ (n : ℕ) (h : n < cfg0.N), (outsAt0 m c n h).2 = rowsOf m c ⟨n, h⟩
  | n, h => by
    by_cases h0 : n % 2 = 0
    · refine (congrArg Prod.snd (outsAt0_A m c ⟨n, h⟩ h0)).trans ?_
      dsimp only
      rw [carry_A]
      rfl
    · obtain ⟨k, rfl⟩ : ∃ k, n = k + 1 := ⟨n - 1, by omega⟩
      refine (congrArg Prod.snd (outsAt0_B m c ⟨k + 1, h⟩ h0)).trans ?_
      exact (carried c k (Nat.lt_of_succ_lt h)).trans (rowsOf_congr m c (by show k / 2 = (k + 1) / 2; omega))

/-- After every point the output's staging buffer holds the product of the point's normalized rows and weights. -/
theorem outs (c : Dev nD) (t : Fin cfg0.N) : (outsAt0 m c t.val t.isLt).1 = k0_pay2 (rowsOf m c t) (iblk m c 2 t : Vec Ideal S1x2048x2048 .bf16) := by
  by_cases h0 : t.val % 2 = 0
  · refine (congrArg Prod.fst (outsAt0_A m c t h0)).trans ?_
    dsimp only
    rw [out_A]
    rfl
  · refine (congrArg Prod.fst (outsAt0_B m c t h0)).trans ?_
    dsimp only
    rw [out_B]
    obtain ⟨n, h⟩ := t
    obtain ⟨k, rfl⟩ : ∃ k, n = k + 1 := ⟨n - 1, by dsimp only at h0; omega⟩
    exact congrArg (fun z => k0_pay2 z _) ((carried m c k (Nat.lt_of_succ_lt h)).trans
      (rowsOf_congr m c (by dsimp only at h0; show k / 2 = (k + 1) / 2; omega)))

/-- The projection at a place, from the arguments. -/
def at2 (x : Vec Ideal S16384x2048 .f32) (g : Vec Ideal S2048 .f32) (w : Vec Ideal S4x2048x4096 .bf16) (r : Fin 16384) (j : Fin 4096) : EReal :=
  proj (n := 2048) 0x45000000#32 (fun k => x (ix2 r k)) (fun k => g (ix1 k)) (fun k => w (ix3 0 k j))

/-- What the body leaves at a point, at a place. -/
theorem outs_at (c : Dev nD) (t : Fin cfg0.N) (r : Fin 512) (j : Fin 2048) : (outsAt0 m c t.val t.isLt).1 (ix2 r j)
    = at2 (m ((c : Thread nD τ).loc main_arg0)) (m ((c : Thread nD τ).loc main_arg1)) (m ((c : Thread nD τ).loc main_arg2))
        (⟨512 * (t.val / 2) + r.val, by have := lt64 t; omega⟩ : Fin 16384) (⟨2048 * (t.val % 2) + j.val, by omega⟩ : Fin 4096) := by
  rw [outs, product_at]
  simp only [rowsOf_at, blk_2]
  rfl

/-- The result array at a place. -/
theorem result_at (c : Dev nD) (r : Fin 16384) (j : Fin 4096) : ((dats m 0 c).arrAt 3 cfg0.N : Vec Ideal S16384x4096 .bf16) (ix2 r j)
    = at2 (m ((c : Thread nD τ).loc main_arg0)) (m ((c : Thread nD τ).loc main_arg1)) (m ((c : Thread nD τ).loc main_arg2)) r j := by
  have ht : 2 * (r.val / 512) + j.val / 2048 < cfg0.N := lt_of_lt_of_eq (by omega : 2 * (r.val / 512) + j.val / 2048 < 64) N_0.symm
  obtain ⟨t, et⟩ : ∃ t : Fin cfg0.N, t.val = 2 * (r.val / 512) + j.val / 2048 := ⟨⟨_, ht⟩, rfl⟩
  have h := congrFun ((blocks3 m c t (flushes _)).trans (flushed3 m c t))
    (ix2 (⟨r.val % 512, Nat.mod_lt _ (by decide)⟩ : Fin 512) (⟨j.val % 2048, Nat.mod_lt _ (by decide)⟩ : Fin 2048))
  have key : ∀ W : Vec Ideal S16384x4096 .bf16, ((win0_3.blk t).view.read (Elt Ideal) W : Vec Ideal S512x2048 .bf16)
      (ix2 (⟨r.val % 512, Nat.mod_lt _ (by decide)⟩ : Fin 512) (⟨j.val % 2048, Nat.mod_lt _ (by decide)⟩ : Fin 2048)) = W (ix2 r j) := fun W => by
    rw [View.read_apply]
    refine congrArg W (funext fun a => Fin.ext ?_)
    match a with
    | ⟨0, _⟩ => show win0_3.index t 0 * 512 + 1 * (r.val % 512) = r.val; rw [(idx_facts _).2.2.2]; simp; omega
    | ⟨1, _⟩ => show win0_3.index t 1 * 2048 + 1 * (j.val % 2048) = j.val; rw [(idx_facts _).2.2.2]; simp; omega
  refine (key _).symm.trans (h.trans ?_)
  refine (outs_at m c t _ _).trans ?_
  congr 1
  · exact Fin.ext (by show 512 * (t.val / 2) + r.val % 512 = r.val; omega)
  · exact Fin.ext (by show 2048 * (t.val % 2) + j.val % 2048 = j.val; omega)

end Cert.ProjInIdeal.Proj

namespace Cert.Proof.ProjInClaims

open Idealize.ShloMosaic Idealize.ShloMosaic.TcCoe Idealize.SL.Sem

/-- The projection runs and leaves its arguments unchanged. -/
theorem frame_p : Cert.quiescent_ProjIn := fun m ρ _ => Cert.ProjIn.Gen.frame m ρ
/-- The idealized projection runs and leaves its arguments unchanged. -/
theorem frame_pi : Cert.quiescent_ProjInIdeal := fun m ρ _ => Cert.ProjInIdeal.Gen.frame m ρ
/-- The reference runs and leaves its arguments unchanged. -/
theorem frame_ri : Cert.quiescent_RefProjInIdeal := fun m ρ _ =>
  (θ_run Cert.RefProjInIdeal.defs _ _).mono (fun r h => ⟨fun c => (h c).2, sem_eq_zero_of_no_sems (by decide) r.2⟩)
    (Cert.RefProjInIdeal.Value.run (F := Ideal) m ρ)

/-- From equal arguments the idealized projection's result is the idealized reference's. -/
theorem algebraic : Cert.algebraic_ProjInIdeal_RefProjInIdeal := by
  intro m ρ m' ρ' _ hagree
  refine ⟨_, Cert.ProjInIdeal.Value.run_blocks (F := Ideal) m ρ, ?_⟩
  refine (θ_run Cert.RefProjInIdeal.defs _ _).mono (fun _ h c => ⟨(h c).1.trans ?_, (h c).2⟩)
    (Cert.RefProjInIdeal.Value.run (F := Ideal) m' ρ')
  obtain ⟨e0, e1, e2⟩ := hagree c
  refine Linear.ext2 (n0 := 16384) (n1 := 4096) fun r j => ?_
  refine Eq.trans ?_ (Cert.ProjInIdeal.Proj.result_at m c r j).symm
  rw [e0, e1, e2]
  pointwise []
  rfl

end Cert.Proof.ProjInClaims

end
-- ==== Proof.QUp.lean ====
/-
  The queries' projection: at every place its result is the row's normalized projection, on both sides, and the claims.
-/
module

public import proofs.«01_k».proof.Defs
public import proofs.«01_k».proof.Proof.Gen.QUp.Frame
public import proofs.«01_k».proof.Proof.Gen.QUpIdeal.Value
public import proofs.«01_k».proof.Proof.Gen.RefQUpIdeal.Run
public import proofs.«01_k».proof.Proof.Linear
public import Idealize.ShloMosaic.Lib.Pipeline.ValueKit
public import Idealize.ShloMosaic.Lib.StableHlo.ReadAt
public import Idealize.ShloMosaic.Lib.Quiescent

@[expose] public section

set_option maxRecDepth 16384

noncomputable section

namespace Cert.QUpIdeal.Proj

open Idealize.ShloMosaic Idealize.ShloMosaic.TcCoe
open Cert.QUpIdeal Cert.QUpIdeal.Gen Cert.QUpIdeal.Value
open Linear

/-- The body's normalized rows at a place. -/
theorem rows_at (x : Vec Ideal S512x512 .bf16) (g : Vec Ideal S1x512 .f32) (r : Fin 512) (k : Fin 512) :
    k0_pay1 x g (ix2 r k) = rms (n := 512) 0x44000000#32 (fun k => x (ix2 r k)) (fun k => g (ix2 0 k)) k := by
  unfold k0_pay1
  pointwise []
  rfl

/-- The body's product at a place. -/
theorem product_at (x : Vec Ideal S512x512 .bf16) (w : Vec Ideal S1x512x2048 .bf16) (r : Fin 512) (j : Fin 2048) :
    k0_pay2 x w (ix2 r j) = ∑ k : Fin 512, (x (ix2 r k) * w (ix3 0 k j) : EReal) := by
  unfold k0_pay2
  pointwise []

/-- The block the body leaves: the product of the normalized rows and the weights. -/
theorem out_eq (c : Dev nD) (i : grid0.Coords) (a2 : Memref sig .tc .vmem S512x512 .bf16) (h2 : a2.IsWhole) (a3 : Memref sig .tc .vmem S1x512 .f32) (h3 : a3.IsWhole)
    (a4 : Memref sig .tc .vmem S1x512x2048 .bf16) (h4 : a4.IsWhole) (a5 : Memref sig .tc .vmem S512x2048 .bf16) (h5 : a5.IsWhole) (a6 : Memref sig .tc .vmem S512x512 .bf16) (h6 : a6.IsWhole)
    (hc : cond0_0 i) (x0 : Vec Ideal S512x512 .bf16) (x1 : Vec Ideal S1x512 .f32) (x2 : Vec Ideal S1x512x2048 .bf16) :
    out0_A_3 c i a2 h2 a3 h3 a4 h4 a5 h5 a6 h6 hc x0 x1 x2 = k0_pay2 (k0_pay1 x0 x1) x2 := by
  unfold out0_A_3
  rw [View.read_writes_junk_eq_canon]
  unfold kernelRun0_A
  dsimp only
  rw [View.canon_unit_zero zero2]
  unfold kernelRun0_A.sl.v3 kernelRun0_A.sl.HS0_1
  rw [View.readCov_unit_zero _ zero2]
  refine congrArg₂ k0_pay2 (congrArg₂ k0_pay1 ?_ ?_) ?_
  · exact (View.ld_unit_zero zero2 _ _).trans (h2.read_unread _)
  · exact (View.ld_unit_zero zero2 _ _).trans (h3.read_unread _)
  · exact (View.ld_unit_zero zero3 _ _).trans (h4.read_unread _)

variable (m : (ℓ : Loc nD τ sig) → Buf (Elt Ideal) ℓ)

/-- Where each window's block lies at a grid point. -/
theorem idx_facts : ∀ t : Fin cfg0.N, win0_0.index t = ![t.val, 6] ∧ win0_1.index t = ![0, 0] ∧ win0_2.index t = ![0, 0, 0] ∧ win0_3.index t = ![t.val, 0] :=
  (by decide +kernel : ∀ t : Fin grid0.N, _)
theorem lt32 (t : Fin cfg0.N) : t.val < 32 := lt_of_lt_of_eq t.isLt N_0
theorem flushes : ∀ t : Fin cfg0.N, (cfg0.win 3).flush t = true := (by decide +kernel : ∀ t : Fin grid0.N, win0_3.flush t = true)

/-- The input rows at a point. -/
theorem blk_0 (c : Dev nD) (t : Fin cfg0.N) (r : Fin 512) (l : Fin 512) : (iblk m c 0 t : Vec Ideal S512x512 .bf16) (ix2 r l)
    = (m ((c : Thread nD τ).loc main_arg0) : Vec Ideal S16384x4096 .bf16) (ix2 (⟨512 * t.val + r.val, by have := lt32 t; omega⟩ : Fin 16384) (⟨3072 + l.val, by omega⟩ : Fin 4096)) := by
  have key : ∀ W : Vec Ideal S16384x4096 .bf16, ((win0_0.blk t).view.read (Elt Ideal) W : Vec Ideal S512x512 .bf16) (ix2 r l)
      = W (ix2 (⟨512 * t.val + r.val, by have := lt32 t; omega⟩ : Fin 16384) (⟨3072 + l.val, by omega⟩ : Fin 4096)) := fun W => by
    rw [View.read_apply]
    refine congrArg W (funext fun a => Fin.ext ?_)
    match a with
    | ⟨0, _⟩ => show win0_0.index t 0 * 512 + 1 * r.val = 512 * t.val + r.val; rw [(idx_facts t).1]; simp; omega
    | ⟨1, _⟩ => show win0_0.index t 1 * 512 + 1 * l.val = 3072 + l.val; rw [(idx_facts t).1]; simp
  exact (key _).trans (congrFun (V_main_arg0 m c) _)

/-- The gain at a point. -/
theorem blk_1 (c : Dev nD) (t : Fin cfg0.N) (l : Fin 512) : (iblk m c 1 t : Vec Ideal S1x512 .f32) (ix2 0 l)
    = (m ((c : Thread nD τ).loc main_arg1) : Vec Ideal S512 .f32) (ix1 l) := by
  have key : ∀ W : Vec Ideal S1x512 .f32, ((win0_1.blk t).view.read (Elt Ideal) W : Vec Ideal S1x512 .f32) (ix2 0 l) = W (ix2 0 l) := fun W => by
    rw [View.read_apply]
    refine congrArg W (funext fun a => Fin.ext ?_)
    match a with
    | ⟨0, _⟩ => show win0_1.index t 0 * 1 + 1 * 0 = 0; rw [(idx_facts t).2.1]; simp
    | ⟨1, _⟩ => show win0_1.index t 1 * 512 + 1 * l.val = l.val; rw [(idx_facts t).2.1]; simp
  refine (key _).trans ?_
  show (V m c main_v0 : Vec Ideal S1x512 .f32) (ix2 0 l) = _
  unfold V
  repeat after_reads_at

/-- The weights at a point. -/
theorem blk_2 (c : Dev nD) (t : Fin cfg0.N) (k : Fin 512) (j : Fin 2048) : (iblk m c 2 t : Vec Ideal S1x512x2048 .bf16) (ix3 0 k j)
    = (m ((c : Thread nD τ).loc main_arg2) : Vec Ideal S4x512x2048 .bf16) (ix3 0 k j) := by
  have key : ∀ W : Vec Ideal S4x512x2048 .bf16, ((win0_2.blk t).view.read (Elt Ideal) W : Vec Ideal S1x512x2048 .bf16) (ix3 0 k j) = W (ix3 0 k j) := fun W => by
    rw [View.read_apply]
    refine congrArg W (funext fun a => Fin.ext ?_)
    match a with
    | ⟨0, _⟩ => show win0_2.index t 0 * 1 + 1 * 0 = 0; rw [(idx_facts t).2.2.1]; simp
    | ⟨1, _⟩ => show win0_2.index t 1 * 512 + 1 * k.val = k.val; rw [(idx_facts t).2.2.1]; simp
    | ⟨2, _⟩ => show win0_2.index t 2 * 2048 + 1 * j.val = j.val; rw [(idx_facts t).2.2.1]; simp
  exact (key _).trans (congrFun (V_main_arg2 m c) _)

/-- The projection at a place, from the arguments. -/
def at2 (x : Vec Ideal S16384x4096 .bf16) (g : Vec Ideal S512 .f32) (w : Vec Ideal S4x512x2048 .bf16) (r : Fin 16384) (j : Fin 2048) : EReal :=
  proj (n := 512) 0x44000000#32 (fun k => x (ix2 r (⟨3072 + k.val, by omega⟩ : Fin 4096))) (fun k => g (ix1 k)) (fun k => w (ix3 0 k j))

/-- What the body leaves at a point. -/
theorem outs_at (c : Dev nD) (t : Fin cfg0.N) (r : Fin 512) (j : Fin 2048) : outsAt0 m c t (ix2 r j)
    = at2 (m ((c : Thread nD τ).loc main_arg0)) (m ((c : Thread nD τ).loc main_arg1)) (m ((c : Thread nD τ).loc main_arg2))
        (⟨512 * t.val + r.val, by have := lt32 t; omega⟩ : Fin 16384) j := by
  unfold outsAt0
  rw [out_eq, product_at]
  simp only [rows_at]
  exact proj_congr (fun k => blk_0 m c t r k) (fun k => blk_1 m c t k) (fun k => blk_2 m c t k j)

/-- The result array at a place. -/
theorem result_at (c : Dev nD) (r : Fin 16384) (j : Fin 2048) : ((dats m 0 c).arrAt 3 cfg0.N : Vec Ideal S16384x2048 .bf16) (ix2 r j)
    = at2 (m ((c : Thread nD τ).loc main_arg0)) (m ((c : Thread nD τ).loc main_arg1)) (m ((c : Thread nD τ).loc main_arg2)) r j := by
  have ht : r.val / 512 < cfg0.N := lt_of_lt_of_eq (by omega : r.val / 512 < 32) N_0.symm
  have h := congrFun ((blocks3 m c ⟨r.val / 512, ht⟩ (flushes _)).trans (flushed3 m c ⟨r.val / 512, ht⟩)) (ix2 (⟨r.val % 512, Nat.mod_lt _ (by decide)⟩ : Fin 512) j)
  have key : ∀ W : Vec Ideal S16384x2048 .bf16, ((win0_3.blk ⟨r.val / 512, ht⟩).view.read (Elt Ideal) W : Vec Ideal S512x2048 .bf16)
      (ix2 (⟨r.val % 512, Nat.mod_lt _ (by decide)⟩ : Fin 512) j) = W (ix2 r j) := fun W => by
    rw [View.read_apply]
    refine congrArg W (funext fun a => Fin.ext ?_)
    match a with
    | ⟨0, _⟩ => show win0_3.index ⟨r.val / 512, ht⟩ 0 * 512 + 1 * (r.val % 512) = r.val; rw [(idx_facts _).2.2.2]; simp; omega
    | ⟨1, _⟩ => show win0_3.index ⟨r.val / 512, ht⟩ 1 * 2048 + 1 * j.val = j.val; rw [(idx_facts _).2.2.2]; simp
  refine (key _).symm.trans (h.trans ?_)
  refine (outs_at m c ⟨r.val / 512, ht⟩ _ j).trans ?_
  congr 1
  exact Fin.ext (by show 512 * (r.val / 512) + r.val % 512 = r.val; omega)

end Cert.QUpIdeal.Proj

namespace Cert.Proof.QUpClaims

open Idealize.ShloMosaic Idealize.ShloMosaic.TcCoe Idealize.SL.Sem

/-- The projection runs and leaves its arguments unchanged. -/
theorem frame_p : Cert.quiescent_QUp := fun m ρ _ => Cert.QUp.Gen.frame m ρ
/-- The idealized projection runs and leaves its arguments unchanged. -/
theorem frame_pi : Cert.quiescent_QUpIdeal := fun m ρ _ => Cert.QUpIdeal.Gen.frame m ρ
/-- The reference runs and leaves its arguments unchanged. -/
theorem frame_ri : Cert.quiescent_RefQUpIdeal := fun m ρ _ =>
  (θ_run Cert.RefQUpIdeal.defs _ _).mono (fun r h => ⟨fun c => (h c).2, sem_eq_zero_of_no_sems (by decide) r.2⟩)
    (Cert.RefQUpIdeal.Value.run (F := Ideal) m ρ)

/-- From equal arguments the idealized projection's result is the idealized reference's. -/
theorem algebraic : Cert.algebraic_QUpIdeal_RefQUpIdeal := by
  intro m ρ m' ρ' _ hagree
  refine ⟨_, Cert.QUpIdeal.Value.run_blocks (F := Ideal) m ρ, ?_⟩
  refine (θ_run Cert.RefQUpIdeal.defs _ _).mono (fun _ h c => ⟨(h c).1.trans ?_, (h c).2⟩)
    (Cert.RefQUpIdeal.Value.run (F := Ideal) m' ρ')
  obtain ⟨e0, e1, e2⟩ := hagree c
  refine Linear.ext2 (n0 := 16384) (n1 := 2048) fun r j => ?_
  refine Eq.trans ?_ (Cert.QUpIdeal.Proj.result_at m c r j).symm
  rw [e0, e1, e2]
  pointwise []
  rfl

end Cert.Proof.QUpClaims

end
-- ==== Proof.KvUp.lean ====
/-
  The keys' and values' projection: at every place its result is the row's normalized projection, on both sides, and the claims.
-/
module

public import proofs.«01_k».proof.Defs
public import proofs.«01_k».proof.Proof.Gen.KvUp.Frame
public import proofs.«01_k».proof.Proof.Gen.KvUpIdeal.Value
public import proofs.«01_k».proof.Proof.Gen.RefKvUpIdeal.Run
public import proofs.«01_k».proof.Proof.Linear
public import Idealize.ShloMosaic.Lib.Pipeline.ValueKit
public import Idealize.ShloMosaic.Lib.StableHlo.ReadAt
public import Idealize.ShloMosaic.Lib.Quiescent

@[expose] public section

set_option maxRecDepth 16384

noncomputable section

namespace Cert.KvUpIdeal.Proj

open Idealize.ShloMosaic Idealize.ShloMosaic.TcCoe
open Cert.KvUpIdeal Cert.KvUpIdeal.Gen Cert.KvUpIdeal.Value
open Linear

/-- The body's normalized rows at a place. -/
theorem rows_at (x : Vec Ideal S512x256 .bf16) (g : Vec Ideal S1x256 .f32) (r : Fin 512) (k : Fin 256) :
    k0_pay1 x g (ix2 r k) = rms (n := 256) 0x43800000#32 (fun k => x (ix2 r k)) (fun k => g (ix2 0 k)) k := by
  unfold k0_pay1
  pointwise []
  rfl

/-- The body's product at a place. -/
theorem product_at (x : Vec Ideal S512x256 .bf16) (w : Vec Ideal S1x256x2048 .bf16) (r : Fin 512) (j : Fin 2048) :
    k0_pay2 x w (ix2 r j) = ∑ k : Fin 256, (x (ix2 r k) * w (ix3 0 k j) : EReal) := by
  unfold k0_pay2
  pointwise []

/-- The block the body leaves: the product of the normalized rows and the weights. -/
theorem out_eq (c : Dev nD) (i : grid0.Coords) (a2 : Memref sig .tc .vmem S512x256 .bf16) (h2 : a2.IsWhole) (a3 : Memref sig .tc .vmem S1x256 .f32) (h3 : a3.IsWhole)
    (a4 : Memref sig .tc .vmem S1x256x2048 .bf16) (h4 : a4.IsWhole) (a5 : Memref sig .tc .vmem S512x2048 .bf16) (h5 : a5.IsWhole) (a6 : Memref sig .tc .vmem S512x256 .bf16) (h6 : a6.IsWhole)
    (hc : cond0_0 i) (x0 : Vec Ideal S512x256 .bf16) (x1 : Vec Ideal S1x256 .f32) (x2 : Vec Ideal S1x256x2048 .bf16) :
    out0_A_3 c i a2 h2 a3 h3 a4 h4 a5 h5 a6 h6 hc x0 x1 x2 = k0_pay2 (k0_pay1 x0 x1) x2 := by
  unfold out0_A_3
  rw [View.read_writes_junk_eq_canon]
  unfold kernelRun0_A
  dsimp only
  rw [View.canon_unit_zero zero2]
  unfold kernelRun0_A.sl.v3 kernelRun0_A.sl.HS0_1
  rw [View.readCov_unit_zero _ zero2]
  refine congrArg₂ k0_pay2 (congrArg₂ k0_pay1 ?_ ?_) ?_
  · exact (View.ld_unit_zero zero2 _ _).trans (h2.read_unread _)
  · exact (View.ld_unit_zero zero2 _ _).trans (h3.read_unread _)
  · exact (View.ld_unit_zero zero3 _ _).trans (h4.read_unread _)

variable (m : (ℓ : Loc nD τ sig) → Buf (Elt Ideal) ℓ)

/-- Where each window's block lies at a grid point. -/
theorem idx_facts : ∀ t : Fin cfg0.N, win0_0.index t = ![t.val, 14] ∧ win0_1.index t = ![0, 0] ∧ win0_2.index t = ![0, 0, 0] ∧ win0_3.index t = ![t.val, 0] :=
  (by decide +kernel : ∀ t : Fin grid0.N, _)
theorem lt32 (t : Fin cfg0.N) : t.val < 32 := lt_of_lt_of_eq t.isLt N_0
theorem flushes : ∀ t : Fin cfg0.N, (cfg0.win 3).flush t = true := (by decide +kernel : ∀ t : Fin grid0.N, win0_3.flush t = true)

/-- The input rows at a point. -/
theorem blk_0 (c : Dev nD) (t : Fin cfg0.N) (r : Fin 512) (l : Fin 256) : (iblk m c 0 t : Vec Ideal S512x256 .bf16) (ix2 r l)
    = (m ((c : Thread nD τ).loc main_arg0) : Vec Ideal S16384x4096 .bf16) (ix2 (⟨512 * t.val + r.val, by have := lt32 t; omega⟩ : Fin 16384) (⟨3584 + l.val, by omega⟩ : Fin 4096)) := by
  have key : ∀ W : Vec Ideal S16384x4096 .bf16, ((win0_0.blk t).view.read (Elt Ideal) W : Vec Ideal S512x256 .bf16) (ix2 r l)
      = W (ix2 (⟨512 * t.val + r.val, by have := lt32 t; omega⟩ : Fin 16384) (⟨3584 + l.val, by omega⟩ : Fin 4096)) := fun W => by
    rw [View.read_apply]
    refine congrArg W (funext fun a => Fin.ext ?_)
    match a with
    | ⟨0, _⟩ => show win0_0.index t 0 * 512 + 1 * r.val = 512 * t.val + r.val; rw [(idx_facts t).1]; simp; omega
    | ⟨1, _⟩ => show win0_0.index t 1 * 256 + 1 * l.val = 3584 + l.val; rw [(idx_facts t).1]; simp
  exact (key _).trans (congrFun (V_main_arg0 m c) _)

/-- The gain at a point. -/
theorem blk_1 (c : Dev nD) (t : Fin cfg0.N) (l : Fin 256) : (iblk m c 1 t : Vec Ideal S1x256 .f32) (ix2 0 l)
    = (m ((c : Thread nD τ).loc main_arg1) : Vec Ideal S256 .f32) (ix1 l) := by
  have key : ∀ W : Vec Ideal S1x256 .f32, ((win0_1.blk t).view.read (Elt Ideal) W : Vec Ideal S1x256 .f32) (ix2 0 l) = W (ix2 0 l) := fun W => by
    rw [View.read_apply]
    refine congrArg W (funext fun a => Fin.ext ?_)
    match a with
    | ⟨0, _⟩ => show win0_1.index t 0 * 1 + 1 * 0 = 0; rw [(idx_facts t).2.1]; simp
    | ⟨1, _⟩ => show win0_1.index t 1 * 256 + 1 * l.val = l.val; rw [(idx_facts t).2.1]; simp
  refine (key _).trans ?_
  show (V m c main_v0 : Vec Ideal S1x256 .f32) (ix2 0 l) = _
  unfold V
  repeat after_reads_at

/-- The weights at a point. -/
theorem blk_2 (c : Dev nD) (t : Fin cfg0.N) (k : Fin 256) (j : Fin 2048) : (iblk m c 2 t : Vec Ideal S1x256x2048 .bf16) (ix3 0 k j)
    = (m ((c : Thread nD τ).loc main_arg2) : Vec Ideal S4x256x2048 .bf16) (ix3 0 k j) := by
  have key : ∀ W : Vec Ideal S4x256x2048 .bf16, ((win0_2.blk t).view.read (Elt Ideal) W : Vec Ideal S1x256x2048 .bf16) (ix3 0 k j) = W (ix3 0 k j) := fun W => by
    rw [View.read_apply]
    refine congrArg W (funext fun a => Fin.ext ?_)
    match a with
    | ⟨0, _⟩ => show win0_2.index t 0 * 1 + 1 * 0 = 0; rw [(idx_facts t).2.2.1]; simp
    | ⟨1, _⟩ => show win0_2.index t 1 * 256 + 1 * k.val = k.val; rw [(idx_facts t).2.2.1]; simp
    | ⟨2, _⟩ => show win0_2.index t 2 * 2048 + 1 * j.val = j.val; rw [(idx_facts t).2.2.1]; simp
  exact (key _).trans (congrFun (V_main_arg2 m c) _)

/-- The projection at a place, from the arguments. -/
def at2 (x : Vec Ideal S16384x4096 .bf16) (g : Vec Ideal S256 .f32) (w : Vec Ideal S4x256x2048 .bf16) (r : Fin 16384) (j : Fin 2048) : EReal :=
  proj (n := 256) 0x43800000#32 (fun k => x (ix2 r (⟨3584 + k.val, by omega⟩ : Fin 4096))) (fun k => g (ix1 k)) (fun k => w (ix3 0 k j))

/-- What the body leaves at a point. -/
theorem outs_at (c : Dev nD) (t : Fin cfg0.N) (r : Fin 512) (j : Fin 2048) : outsAt0 m c t (ix2 r j)
    = at2 (m ((c : Thread nD τ).loc main_arg0)) (m ((c : Thread nD τ).loc main_arg1)) (m ((c : Thread nD τ).loc main_arg2))
        (⟨512 * t.val + r.val, by have := lt32 t; omega⟩ : Fin 16384) j := by
  unfold outsAt0
  rw [out_eq, product_at]
  simp only [rows_at]
  exact proj_congr (fun k => blk_0 m c t r k) (fun k => blk_1 m c t k) (fun k => blk_2 m c t k j)

/-- The result array at a place. -/
theorem result_at (c : Dev nD) (r : Fin 16384) (j : Fin 2048) : ((dats m 0 c).arrAt 3 cfg0.N : Vec Ideal S16384x2048 .bf16) (ix2 r j)
    = at2 (m ((c : Thread nD τ).loc main_arg0)) (m ((c : Thread nD τ).loc main_arg1)) (m ((c : Thread nD τ).loc main_arg2)) r j := by
  have ht : r.val / 512 < cfg0.N := lt_of_lt_of_eq (by omega : r.val / 512 < 32) N_0.symm
  have h := congrFun ((blocks3 m c ⟨r.val / 512, ht⟩ (flushes _)).trans (flushed3 m c ⟨r.val / 512, ht⟩)) (ix2 (⟨r.val % 512, Nat.mod_lt _ (by decide)⟩ : Fin 512) j)
  have key : ∀ W : Vec Ideal S16384x2048 .bf16, ((win0_3.blk ⟨r.val / 512, ht⟩).view.read (Elt Ideal) W : Vec Ideal S512x2048 .bf16)
      (ix2 (⟨r.val % 512, Nat.mod_lt _ (by decide)⟩ : Fin 512) j) = W (ix2 r j) := fun W => by
    rw [View.read_apply]
    refine congrArg W (funext fun a => Fin.ext ?_)
    match a with
    | ⟨0, _⟩ => show win0_3.index ⟨r.val / 512, ht⟩ 0 * 512 + 1 * (r.val % 512) = r.val; rw [(idx_facts _).2.2.2]; simp; omega
    | ⟨1, _⟩ => show win0_3.index ⟨r.val / 512, ht⟩ 1 * 2048 + 1 * j.val = j.val; rw [(idx_facts _).2.2.2]; simp
  refine (key _).symm.trans (h.trans ?_)
  refine (outs_at m c ⟨r.val / 512, ht⟩ _ j).trans ?_
  congr 1
  exact Fin.ext (by show 512 * (r.val / 512) + r.val % 512 = r.val; omega)

end Cert.KvUpIdeal.Proj

namespace Cert.Proof.KvUpClaims

open Idealize.ShloMosaic Idealize.ShloMosaic.TcCoe Idealize.SL.Sem

/-- The projection runs and leaves its arguments unchanged. -/
theorem frame_p : Cert.quiescent_KvUp := fun m ρ _ => Cert.KvUp.Gen.frame m ρ
/-- The idealized projection runs and leaves its arguments unchanged. -/
theorem frame_pi : Cert.quiescent_KvUpIdeal := fun m ρ _ => Cert.KvUpIdeal.Gen.frame m ρ
/-- The reference runs and leaves its arguments unchanged. -/
theorem frame_ri : Cert.quiescent_RefKvUpIdeal := fun m ρ _ =>
  (θ_run Cert.RefKvUpIdeal.defs _ _).mono (fun r h => ⟨fun c => (h c).2, sem_eq_zero_of_no_sems (by decide) r.2⟩)
    (Cert.RefKvUpIdeal.Value.run (F := Ideal) m ρ)

/-- From equal arguments the idealized projection's result is the idealized reference's. -/
theorem algebraic : Cert.algebraic_KvUpIdeal_RefKvUpIdeal := by
  intro m ρ m' ρ' _ hagree
  refine ⟨_, Cert.KvUpIdeal.Value.run_blocks (F := Ideal) m ρ, ?_⟩
  refine (θ_run Cert.RefKvUpIdeal.defs _ _).mono (fun _ h c => ⟨(h c).1.trans ?_, (h c).2⟩)
    (Cert.RefKvUpIdeal.Value.run (F := Ideal) m' ρ')
  obtain ⟨e0, e1, e2⟩ := hagree c
  refine Linear.ext2 (n0 := 16384) (n1 := 2048) fun r j => ?_
  refine Eq.trans ?_ (Cert.KvUpIdeal.Proj.result_at m c r j).symm
  rw [e0, e1, e2]
  pointwise []
  rfl

end Cert.Proof.KvUpClaims

end
-- ==== Proof.MixOut.lean ====
/-
  The output projection: at every place its first result is the input plus the mixed row's projection, its second that
  result normalized and transposed, on both sides, and the claims.
-/
module

public import proofs.«01_k».proof.Defs
public import proofs.«01_k».proof.Proof.Gen.MixOut.Frame
public import proofs.«01_k».proof.Proof.Gen.MixOutIdeal.Value
public import proofs.«01_k».proof.Proof.Gen.RefMixOutIdeal.Run
public import proofs.«01_k».proof.Proof.Linear
public import Idealize.ShloMosaic.Lib.Pipeline.ValueKit
public import Idealize.ShloMosaic.Lib.StableHlo.ReadAt
public import Idealize.ShloMosaic.Lib.Quiescent

@[expose] public section

set_option maxRecDepth 16384

noncomputable section

namespace Cert.MixOutIdeal.Proj

open Idealize.ShloMosaic Idealize.ShloMosaic.TcCoe
open Cert.MixOutIdeal Cert.MixOutIdeal.Gen Cert.MixOutIdeal.Value
open Linear

/-- Two rows set side by side. -/
def cat (f g : Fin 1024 → EReal) (k : Fin 2048) : EReal :=
  if h : k.val < 1024 then f ⟨k.val, h⟩ else g ⟨k.val - 1024, by omega⟩

/-- A sum over two rows set side by side is the sum over the first and the sum over the second. -/
theorem sum_cat (f g : Fin 1024 → EReal) (w : Fin 2048 → EReal) :
    ∑ k, cat f g k * w k = (∑ k : Fin 1024, f k * w ⟨k.val, by omega⟩) + ∑ k : Fin 1024, g k * w ⟨1024 + k.val, by omega⟩ := by
  refine (Fin.sum_univ_add (a := 1024) (b := 1024) (fun k : Fin (1024 + 1024) => cat f g k * w k)).trans ?_
  refine congrArg₂ (fun a b : EReal => a + b) (Finset.sum_congr rfl fun k _ => ?_) (Finset.sum_congr rfl fun k _ => ?_)
  · exact congrArg (fun z : EReal => z * w ⟨k.val, by omega⟩) (dif_pos k.isLt)
  · refine congrArg (fun z : EReal => z * w ⟨1024 + k.val, by omega⟩) ((dif_neg (Nat.not_lt.2 (Nat.le_add_right 1024 k.val))).trans ?_)
    exact congrArg g (Fin.ext (Nat.add_sub_cancel_left 1024 k.val))

/-- The body's mixed rows at a place. -/
theorem cat_at (x y : Vec Ideal S512x1024 .bf16) (r : Fin 512) (k : Fin 2048) :
    k0_pay1 x y (ix2 r k) = cat (fun l => x (ix2 r l)) (fun l => y (ix2 r l)) k := by
  unfold k0_pay1
  pointwise []
  rfl

/-- The body's projection plus its input at a place. -/
theorem sum_at (x : Vec Ideal S512x2048 .bf16) (w : Vec Ideal S1x2048x2048 .bf16) (y : Vec Ideal S512x2048 .f32) (r : Fin 512) (j : Fin 2048) :
    k0_pay2 x w y (ix2 r j) = ((∑ k : Fin 2048, x (ix2 r k) * w (ix3 0 k j)) + y (ix2 r j) : EReal) := by
  unfold k0_pay2
  pointwise []

/-- The body's normalized and transposed sum at a place. -/
theorem norm_at (x : Vec Ideal S512x2048 .bf16) (w : Vec Ideal S1x2048x2048 .bf16) (y : Vec Ideal S512x2048 .f32) (g : Vec Ideal S1x2048 .f32) (r : Fin 512) (j : Fin 2048) :
    k0_pay3 x w y g (ix2 j r) = rms (n := 2048) 0x45000000#32 (fun j => k0_pay2 x w y (ix2 r j)) (fun k => g (ix2 0 k)) j := by
  unfold k0_pay3
  pointwise []
  rfl

variable (c : Dev nD) (i : grid0.Coords) (a2 : Memref sig .tc .vmem S512x1024 .bf16) (h2 : a2.IsWhole) (a3 : Memref sig .tc .vmem S512x1024 .bf16) (h3 : a3.IsWhole)
  (a4 : Memref sig .tc .vmem S1x2048x2048 .bf16) (h4 : a4.IsWhole) (a5 : Memref sig .tc .vmem S512x2048 .f32) (h5 : a5.IsWhole) (a6 : Memref sig .tc .vmem S1x2048 .f32) (h6 : a6.IsWhole)
  (a7 : Memref sig .tc .vmem S512x2048 .f32) (h7 : a7.IsWhole) (a8 : Memref sig .tc .vmem S2048x512 .bf16) (h8 : a8.IsWhole) (a9 : Memref sig .tc .vmem S512x2048 .bf16) (h9 : a9.IsWhole)
  (x0 x1 : Vec Ideal S512x1024 .bf16) (x2 : Vec Ideal S1x2048x2048 .bf16) (x3 : Vec Ideal S512x2048 .f32) (x4 : Vec Ideal S1x2048 .f32)

/-- The block the body leaves in the first result. -/
theorem out_sum (hc : cond0_0 i) : out0_A_5 c i a2 h2 a3 h3 a4 h4 a5 h5 a6 h6 a7 h7 a8 h8 a9 h9 hc x0 x1 x2 x3 x4 = k0_pay2 (k0_pay1 x0 x1) x2 x3 := by
  unfold out0_A_5
  rw [View.read_writes_junk_eq_canon]
  unfold kernelRun0_A
  dsimp only
  rw [View.canon_unit_zero zero2]
  unfold kernelRun0_A.sl.v3 kernelRun0_A.sl.HS0_1
  rw [View.readCov_unit_zero _ zero2]
  refine congr3 k0_pay2 (congrArg₂ k0_pay1 ?_ ?_) ?_ ?_
  · exact (View.ld_unit_zero zero2 _ _).trans (h2.read_unread _)
  · exact (View.ld_unit_zero zero2 _ _).trans (h3.read_unread _)
  · exact (View.ld_unit_zero zero3 _ _).trans (h4.read_unread _)
  · exact (View.ld_unit_zero zero2 _ _).trans (h5.read_unread _)

/-- The block the body leaves in the second result. -/
theorem out_norm (hc : cond0_0 i) : out0_A_6 c i a2 h2 a3 h3 a4 h4 a5 h5 a6 h6 a7 h7 a8 h8 a9 h9 hc x0 x1 x2 x3 x4 = k0_pay3 (k0_pay1 x0 x1) x2 x3 x4 := by
  unfold out0_A_6
  rw [View.read_writes_junk_eq_canon]
  unfold kernelRun0_A
  dsimp only
  rw [View.canon_unit_zero zero2]
  unfold kernelRun0_A.sl.v3 kernelRun0_A.sl.HS0_1
  rw [View.readCov_unit_zero _ zero2]
  refine congr4 k0_pay3 (congrArg₂ k0_pay1 ?_ ?_) ?_ ?_ ?_
  · exact (View.ld_unit_zero zero2 _ _).trans (h2.read_unread _)
  · exact (View.ld_unit_zero zero2 _ _).trans (h3.read_unread _)
  · exact (View.ld_unit_zero zero3 _ _).trans (h4.read_unread _)
  · exact (View.ld_unit_zero zero2 _ _).trans (h5.read_unread _)
  · exact (View.ld_unit_zero zero2 _ _).trans (h6.read_unread _)

variable (m : (ℓ : Loc nD τ sig) → Buf (Elt Ideal) ℓ)

/-- Where each window's block lies at a grid point. -/
theorem idx_facts : ∀ t : Fin cfg0.N, win0_0.index t = ![t.val, 0] ∧ win0_1.index t = ![t.val, 0] ∧ win0_2.index t = ![0, 0, 0] ∧ win0_3.index t = ![t.val, 0]
    ∧ win0_4.index t = ![0, 0] ∧ win0_5.index t = ![t.val, 0] ∧ win0_6.index t = ![0, t.val] :=
  (by decide +kernel : ∀ t : Fin grid0.N, _)
theorem lt32 (t : Fin cfg0.N) : t.val < 32 := lt_of_lt_of_eq t.isLt N_0
theorem flushes5 : ∀ t : Fin cfg0.N, (cfg0.win 5).flush t = true := (by decide +kernel : ∀ t : Fin grid0.N, win0_5.flush t = true)
theorem flushes6 : ∀ t : Fin cfg0.N, (cfg0.win 6).flush t = true := (by decide +kernel : ∀ t : Fin grid0.N, win0_6.flush t = true)

/-- The first half of the mixed rows at a point. -/
theorem blk_0 (c : Dev nD) (t : Fin cfg0.N) (r : Fin 512) (l : Fin 1024) : (iblk m c 0 t : Vec Ideal S512x1024 .bf16) (ix2 r l)
    = (m ((c : Thread nD τ).loc main_arg0) : Vec Ideal S16384x1024 .bf16) (ix2 (⟨512 * t.val + r.val, by have := lt32 t; omega⟩ : Fin 16384) l) := by
  have key : ∀ W : Vec Ideal S16384x1024 .bf16, ((win0_0.blk t).view.read (Elt Ideal) W : Vec Ideal S512x1024 .bf16) (ix2 r l)
      = W (ix2 (⟨512 * t.val + r.val, by have := lt32 t; omega⟩ : Fin 16384) l) := fun W => by
    rw [View.read_apply]
    refine congrArg W (funext fun a => Fin.ext ?_)
    match a with
    | ⟨0, _⟩ => show win0_0.index t 0 * 512 + 1 * r.val = 512 * t.val + r.val; rw [(idx_facts t).1]; simp; omega
    | ⟨1, _⟩ => show win0_0.index t 1 * 1024 + 1 * l.val = l.val; rw [(idx_facts t).1]; simp
  exact (key _).trans (congrFun (V_main_arg0 m c) _)

/-- The second half of the mixed rows at a point. -/
theorem blk_1 (c : Dev nD) (t : Fin cfg0.N) (r : Fin 512) (l : Fin 1024) : (iblk m c 1 t : Vec Ideal S512x1024 .bf16) (ix2 r l)
    = (m ((c : Thread nD τ).loc main_arg1) : Vec Ideal S16384x1024 .bf16) (ix2 (⟨512 * t.val + r.val, by have := lt32 t; omega⟩ : Fin 16384) l) := by
  have key : ∀ W : Vec Ideal S16384x1024 .bf16, ((win0_1.blk t).view.read (Elt Ideal) W : Vec Ideal S512x1024 .bf16) (ix2 r l)
      = W (ix2 (⟨512 * t.val + r.val, by have := lt32 t; omega⟩ : Fin 16384) l) := fun W => by
    rw [View.read_apply]
    refine congrArg W (funext fun a => Fin.ext ?_)
    match a with
    | ⟨0, _⟩ => show win0_1.index t 0 * 512 + 1 * r.val = 512 * t.val + r.val; rw [(idx_facts t).2.1]; simp; omega
    | ⟨1, _⟩ => show win0_1.index t 1 * 1024 + 1 * l.val = l.val; rw [(idx_facts t).2.1]; simp
  exact (key _).trans (congrFun (V_main_arg1 m c) _)

/-- The weights at a point. -/
theorem blk_2 (c : Dev nD) (t : Fin cfg0.N) (k : Fin 2048) (j : Fin 2048) : (iblk m c 2 t : Vec Ideal S1x2048x2048 .bf16) (ix3 0 k j)
    = (m ((c : Thread nD τ).loc main_arg2) : Vec Ideal S4x2048x2048 .bf16) (ix3 0 k j) := by
  have key : ∀ W : Vec Ideal S4x2048x2048 .bf16, ((win0_2.blk t).view.read (Elt Ideal) W : Vec Ideal S1x2048x2048 .bf16) (ix3 0 k j) = W (ix3 0 k j) := fun W => by
    rw [View.read_apply]
    refine congrArg W (funext fun a => Fin.ext ?_)
    match a with
    | ⟨0, _⟩ => show win0_2.index t 0 * 1 + 1 * 0 = 0; rw [(idx_facts t).2.2.1]; simp
    | ⟨1, _⟩ => show win0_2.index t 1 * 2048 + 1 * k.val = k.val; rw [(idx_facts t).2.2.1]; simp
    | ⟨2, _⟩ => show win0_2.index t 2 * 2048 + 1 * j.val = j.val; rw [(idx_facts t).2.2.1]; simp
  exact (key _).trans (congrFun (V_main_arg2 m c) _)

/-- The input rows at a point. -/
theorem blk_3 (c : Dev nD) (t : Fin cfg0.N) (r : Fin 512) (l : Fin 2048) : (iblk m c 3 t : Vec Ideal S512x2048 .f32) (ix2 r l)
    = (m ((c : Thread nD τ).loc main_arg3) : Vec Ideal S16384x2048 .f32) (ix2 (⟨512 * t.val + r.val, by have := lt32 t; omega⟩ : Fin 16384) l) := by
  have key : ∀ W : Vec Ideal S16384x2048 .f32, ((win0_3.blk t).view.read (Elt Ideal) W : Vec Ideal S512x2048 .f32) (ix2 r l)
      = W (ix2 (⟨512 * t.val + r.val, by have := lt32 t; omega⟩ : Fin 16384) l) := fun W => by
    rw [View.read_apply]
    refine congrArg W (funext fun a => Fin.ext ?_)
    match a with
    | ⟨0, _⟩ => show win0_3.index t 0 * 512 + 1 * r.val = 512 * t.val + r.val; rw [(idx_facts t).2.2.2.1]; simp; omega
    | ⟨1, _⟩ => show win0_3.index t 1 * 2048 + 1 * l.val = l.val; rw [(idx_facts t).2.2.2.1]; simp
  exact (key _).trans (congrFun (V_main_arg3 m c) _)

/-- The gain at a point. -/
theorem blk_4 (c : Dev nD) (t : Fin cfg0.N) (l : Fin 2048) : (iblk m c 4 t : Vec Ideal S1x2048 .f32) (ix2 0 l)
    = (m ((c : Thread nD τ).loc main_arg4) : Vec Ideal S2048 .f32) (ix1 l) := by
  have key : ∀ W : Vec Ideal S1x2048 .f32, ((win0_4.blk t).view.read (Elt Ideal) W : Vec Ideal S1x2048 .f32) (ix2 0 l) = W (ix2 0 l) := fun W => by
    rw [View.read_apply]
    refine congrArg W (funext fun a => Fin.ext ?_)
    match a with
    | ⟨0, _⟩ => show win0_4.index t 0 * 1 + 1 * 0 = 0; rw [(idx_facts t).2.2.2.2.1]; simp
    | ⟨1, _⟩ => show win0_4.index t 1 * 2048 + 1 * l.val = l.val; rw [(idx_facts t).2.2.2.2.1]; simp
  refine (key _).trans ?_
  show (V m c main_v0 : Vec Ideal S1x2048 .f32) (ix2 0 l) = _
  unfold V
  repeat after_reads_at

/-- The first result at a place, from the arguments. -/
def at2 (o n : Vec Ideal S16384x1024 .bf16) (w : Vec Ideal S4x2048x2048 .bf16) (x : Vec Ideal S16384x2048 .f32) (r : Fin 16384) (j : Fin 2048) : EReal :=
  (∑ k : Fin 2048, cat (fun l => o (ix2 r l)) (fun l => n (ix2 r l)) k * w (ix3 0 k j)) + x (ix2 r j)

/-- The first result's block at a point. -/
theorem sums_at (c : Dev nD) (t : Fin cfg0.N) (r : Fin 512) (j : Fin 2048) :
    k0_pay2 (k0_pay1 (iblk m c 0 t : Vec Ideal S512x1024 .bf16) (iblk m c 1 t : Vec Ideal S512x1024 .bf16)) (iblk m c 2 t : Vec Ideal S1x2048x2048 .bf16) (iblk m c 3 t : Vec Ideal S512x2048 .f32) (ix2 r j)
    = at2 (m ((c : Thread nD τ).loc main_arg0)) (m ((c : Thread nD τ).loc main_arg1)) (m ((c : Thread nD τ).loc main_arg2)) (m ((c : Thread nD τ).loc main_arg3))
        (⟨512 * t.val + r.val, by have := lt32 t; omega⟩ : Fin 16384) j := by
  rw [sum_at]
  simp only [cat_at, blk_0, blk_1, blk_2, blk_3]
  rfl

/-- The first result array at a place. -/
theorem sum_result (c : Dev nD) (r : Fin 16384) (j : Fin 2048) : ((dats m 0 c).arrAt 5 cfg0.N : Vec Ideal S16384x2048 .f32) (ix2 r j)
    = at2 (m ((c : Thread nD τ).loc main_arg0)) (m ((c : Thread nD τ).loc main_arg1)) (m ((c : Thread nD τ).loc main_arg2)) (m ((c : Thread nD τ).loc main_arg3)) r j := by
  have ht : r.val / 512 < cfg0.N := lt_of_lt_of_eq (by omega : r.val / 512 < 32) N_0.symm
  obtain ⟨t, et⟩ : ∃ t : Fin cfg0.N, t.val = r.val / 512 := ⟨⟨_, ht⟩, rfl⟩
  have h := congrFun ((blocks5 m c t (flushes5 _)).trans (flushed5 m c t)) (ix2 (⟨r.val % 512, Nat.mod_lt _ (by decide)⟩ : Fin 512) j)
  have key : ∀ W : Vec Ideal S16384x2048 .f32, ((win0_5.blk t).view.read (Elt Ideal) W : Vec Ideal S512x2048 .f32)
      (ix2 (⟨r.val % 512, Nat.mod_lt _ (by decide)⟩ : Fin 512) j) = W (ix2 r j) := fun W => by
    rw [View.read_apply]
    refine congrArg W (funext fun a => Fin.ext ?_)
    match a with
    | ⟨0, _⟩ => show win0_5.index t 0 * 512 + 1 * (r.val % 512) = r.val; rw [(idx_facts _).2.2.2.2.2.1]; simp; omega
    | ⟨1, _⟩ => show win0_5.index t 1 * 2048 + 1 * j.val = j.val; rw [(idx_facts _).2.2.2.2.2.1]; simp
  refine (key _).symm.trans (h.trans ?_)
  refine Eq.trans (b := (outsAt0 m c t).1 (ix2 (⟨r.val % 512, Nat.mod_lt _ (by decide)⟩ : Fin 512) j)) rfl ?_
  unfold outsAt0
  dsimp only
  rw [out_sum]
  refine (sums_at m c t _ j).trans ?_
  congr 1
  exact Fin.ext (by show 512 * t.val + r.val % 512 = r.val; omega)

/-- The second result array at a place: the first result's row, normalized. -/
theorem norm_result (c : Dev nD) (r : Fin 16384) (j : Fin 2048) : ((dats m 0 c).arrAt 6 cfg0.N : Vec Ideal S2048x16384 .bf16) (ix2 j r)
    = rms (n := 2048) 0x45000000#32
        (at2 (m ((c : Thread nD τ).loc main_arg0)) (m ((c : Thread nD τ).loc main_arg1)) (m ((c : Thread nD τ).loc main_arg2)) (m ((c : Thread nD τ).loc main_arg3)) r)
        (fun k => (m ((c : Thread nD τ).loc main_arg4) : Vec Ideal S2048 .f32) (ix1 k)) j := by
  have ht : r.val / 512 < cfg0.N := lt_of_lt_of_eq (by omega : r.val / 512 < 32) N_0.symm
  obtain ⟨t, et⟩ : ∃ t : Fin cfg0.N, t.val = r.val / 512 := ⟨⟨_, ht⟩, rfl⟩
  have h := congrFun ((blocks6 m c t (flushes6 _)).trans (flushed6 m c t)) (ix2 j (⟨r.val % 512, Nat.mod_lt _ (by decide)⟩ : Fin 512))
  have key : ∀ W : Vec Ideal S2048x16384 .bf16, ((win0_6.blk t).view.read (Elt Ideal) W : Vec Ideal S2048x512 .bf16)
      (ix2 j (⟨r.val % 512, Nat.mod_lt _ (by decide)⟩ : Fin 512)) = W (ix2 j r) := fun W => by
    rw [View.read_apply]
    refine congrArg W (funext fun a => Fin.ext ?_)
    match a with
    | ⟨0, _⟩ => show win0_6.index t 0 * 2048 + 1 * j.val = j.val; rw [(idx_facts _).2.2.2.2.2.2]; simp
    | ⟨1, _⟩ => show win0_6.index t 1 * 512 + 1 * (r.val % 512) = r.val; rw [(idx_facts _).2.2.2.2.2.2]; simp; omega
  refine (key _).symm.trans (h.trans ?_)
  refine Eq.trans (b := (outsAt0 m c t).2 (ix2 j (⟨r.val % 512, Nat.mod_lt _ (by decide)⟩ : Fin 512))) rfl ?_
  unfold outsAt0
  dsimp only
  rw [out_norm, norm_at]
  have er : (⟨512 * t.val + r.val % 512, by have := lt32 t; omega⟩ : Fin 16384) = r := Fin.ext (by show 512 * t.val + r.val % 512 = r.val; omega)
  have e1 : ∀ j, k0_pay2 (k0_pay1 (iblk m c 0 t : Vec Ideal S512x1024 .bf16) (iblk m c 1 t : Vec Ideal S512x1024 .bf16)) (iblk m c 2 t : Vec Ideal S1x2048x2048 .bf16) (iblk m c 3 t : Vec Ideal S512x2048 .f32)
      (ix2 (⟨r.val % 512, Nat.mod_lt _ (by decide)⟩ : Fin 512) j) = at2 (m ((c : Thread nD τ).loc main_arg0)) (m ((c : Thread nD τ).loc main_arg1)) (m ((c : Thread nD τ).loc main_arg2)) (m ((c : Thread nD τ).loc main_arg3)) r j :=
    fun j => (sums_at m c t _ j).trans (by rw [er])
  exact congrArg₂ (fun f g => rms (n := 2048) 0x45000000#32 f g j) (funext e1) (funext fun k => blk_4 m c t k)

end Cert.MixOutIdeal.Proj

namespace Cert.RefMixOutIdeal.Proj

open Idealize.ShloMosaic Idealize.ShloMosaic.TcCoe
open Cert.RefMixOutIdeal Cert.RefMixOutIdeal.Gen Cert.RefMixOutIdeal.Value
open Linear

/-- The reference's first result. -/
def sumR (o n : FVec Ideal S16384x1024 .bf16) (w : FVec Ideal S4x2048x2048 .bf16) (x : FVec Ideal S16384x2048 .f32) : FVec Ideal S16384x2048 .f32 :=
  addf x (Host.dotGeneral dot_S16384x2048_S2048x2048_S16384x2048_1_0_0_1_n_n none
    (concatenate S16384x2048 1 [⟨S16384x1024, extf FTy.f32 o bitsLt_bf16_f32⟩, ⟨S16384x1024, extf FTy.f32 n bitsLt_bf16_f32⟩]
      concatenates_S16384x1024_S16384x1024_S16384x2048_d1)
    (extf FTy.f32 (shapeCast S2048x2048 (extractStridedSlice S1x2048x2048 ![0, 0, 0] w slices_S4x2048x2048_S1x2048x2048_0_0_0)
      shapeCasts_S1x2048x2048_S2048x2048) bitsLt_bf16_f32))

/-- The reference's second result, over its first. -/
def normR (s : FVec Ideal S16384x2048 .f32) (g : FVec Ideal S2048 .f32) : FVec Ideal S2048x16384 .bf16 :=
  truncf FTy.bf16 (transpose S2048x16384 [1, 0]
    (mulf (mulf s (broadcastInDim S16384x2048 ![0, 1] bcast_S16384x1_S16384x2048_0_1
        (Host.rsqrt (addf (Host.divf (broadcastInDim S16384x1 ![0] bcast_S16384_S16384x1_0
            (Host.reduceAdd (mulf s s) (constant S_ FTy.f32 0#32) reducesTo_S16384x2048_S16384_d1 h_S_))
          (broadcastInDim S16384x1 ![] bcast_S_S16384x1 (constant S_ FTy.f32 1157627904#32)))
          (broadcastInDim S16384x1 ![] bcast_S_S16384x1 (constant S_ FTy.f32 897988541#32))))))
      (broadcastInDim S16384x2048 ![0, 1] bcast_S1x2048_S16384x2048_0_1 (broadcastInDim S1x2048 ![1] bcast_S2048_S1x2048_1 g)))
    transposes_S16384x2048_S2048x16384_1_0) bitsLt_bf16_f32

theorem sumR_at (o n : FVec Ideal S16384x1024 .bf16) (w : FVec Ideal S4x2048x2048 .bf16) (x : FVec Ideal S16384x2048 .f32) (r : Fin 16384) (j : Fin 2048) :
    sumR o n w x (ix2 r j) = Cert.MixOutIdeal.Proj.at2 o n w x r j := by
  unfold sumR
  pointwise []
  exact (add_comm (_ : EReal) _).trans (congrArg (fun z : EReal => z + x (ix2 r j)) (Cert.MixOutIdeal.Proj.sum_cat _ _ (fun k => w (ix3 0 k j))).symm)

theorem normR_at (s : FVec Ideal S16384x2048 .f32) (g : FVec Ideal S2048 .f32) (r : Fin 16384) (j : Fin 2048) :
    normR s g (ix2 j r) = rms (n := 2048) 0x45000000#32 (fun j => s (ix2 r j)) (fun k => g (ix1 k)) j := by
  unfold normR
  pointwise []
  rfl

end Cert.RefMixOutIdeal.Proj

namespace Cert.Proof.MixOutClaims

open Idealize.ShloMosaic Idealize.ShloMosaic.TcCoe Idealize.SL.Sem

/-- The projection runs and leaves its arguments unchanged. -/
theorem frame_p : Cert.quiescent_MixOut := fun m ρ _ => Cert.MixOut.Gen.frame m ρ
/-- The idealized projection runs and leaves its arguments unchanged. -/
theorem frame_pi : Cert.quiescent_MixOutIdeal := fun m ρ _ => Cert.MixOutIdeal.Gen.frame m ρ
/-- The reference runs and leaves its arguments unchanged. -/
theorem frame_ri : Cert.quiescent_RefMixOutIdeal := fun m ρ _ =>
  (θ_run Cert.RefMixOutIdeal.defs _ _).mono (fun r h => ⟨fun c => (h c).2.2, sem_eq_zero_of_no_sems (by decide) r.2⟩)
    (Cert.RefMixOutIdeal.Value.run (F := Ideal) m ρ)

/-- From equal arguments the idealized projection's result is the idealized reference's. -/
theorem algebraic : Cert.algebraic_MixOutIdeal_RefMixOutIdeal := by
  intro m ρ m' ρ' _ hagree
  refine ⟨_, _, Cert.MixOutIdeal.Value.run_blocks (F := Ideal) m ρ, ?_⟩
  refine (θ_run Cert.RefMixOutIdeal.defs _ _).mono (fun _ h c => ⟨(h c).1.trans ?_, (h c).2.1.trans ?_, (h c).2.2⟩)
    (Cert.RefMixOutIdeal.Value.run (F := Ideal) m' ρ')
  · obtain ⟨e0, e1, e2, e3, _⟩ := hagree c
    refine Linear.ext2 (n0 := 16384) (n1 := 2048) fun r j => ?_
    refine Eq.trans ?_ (Cert.MixOutIdeal.Proj.sum_result m c r j).symm
    rw [e0, e1, e2, e3]
    exact Cert.RefMixOutIdeal.Proj.sumR_at _ _ _ _ r j
  · obtain ⟨e0, e1, e2, e3, e4⟩ := hagree c
    refine Linear.ext2 (n0 := 2048) (n1 := 16384) fun j r => ?_
    refine Eq.trans ?_ (Cert.MixOutIdeal.Proj.norm_result m c r j).symm
    rw [e0, e1, e2, e3, e4]
    refine (Cert.RefMixOutIdeal.Proj.normR_at (Cert.RefMixOutIdeal.Proj.sumR _ _ _ _) _ r j).trans ?_
    exact congrArg (fun f => Linear.rms (n := 2048) 0x45000000#32 f _ j) (funext fun j => Cert.RefMixOutIdeal.Proj.sumR_at _ _ _ _ r j)

end Cert.Proof.MixOutClaims

end
-- ==== Proof.NatBlock.lean ====
/-
  The neighbourhood attention call's body at one grid point: the four rows of heads it leaves in the output's staging
  buffer are the rows' operations over the point's query rows, key and value bands, bias tiles and gain.
-/
module

public import proofs.«01_k».proof.Proof.Gen.NatIdeal.Value
public import Idealize.ShloMosaic.Lib.Pipeline.ValueKit

@[expose] public section

set_option maxRecDepth 16384

noncomputable section

namespace Cert.NatIdeal.Row

open Idealize.ShloMosaic Idealize.ShloMosaic.TcCoe
open Cert.NatIdeal Cert.NatIdeal.Gen

variable {F : FTy → Type} [FloatOps F]

/-! ## The body's operations -/

/-- The lanes of a head pair's first head. -/
def first : IVec S64x128 1 := cmpi .slt (iota .tc S64x128 32 [1] iota_S64x128_d1_w32) (broadcast S64x128 64#32)

/-- A pair's scaled queries, the two heads' rows stacked, each with the other head's lanes zeroed. -/
def stacked (q : Vec F S64x128 .bf16) : FVec F S128x128 .bf16 :=
  concatenate S128x128 0
    [⟨S64x128, select first (mulf q (broadcast S64x128 (Scalar.ofBits .bf16 0x3E00#16))) (broadcast S64x128 (Scalar.ofBits .bf16 0x0000#16))⟩,
     ⟨S64x128, select first (broadcast S64x128 (Scalar.ofBits .bf16 0x0000#16)) (mulf q (broadcast S64x128 (Scalar.ofBits .bf16 0x3E00#16)))⟩]
    concatenates_S64x128_S64x128_S128x128_d0

/-- A pair's scores against its key band. -/
def scores (q : Vec F S64x128 .bf16) (kb : Vec F S512x128 .bf16) : FVec F S1x1x128x512 .f32 :=
  shapeCast S1x1x128x512 (matmul dot_S128x128_S512x128_S128x512_1_1_0_0_n_n none (stacked q) kb (constant S128x512 .f32 0x00000000#32))
    shapeCasts_S128x512_S1x1x128x512

/-- Four bias tiles side by side. -/
def tiles (b0 b1 b2 b3 : Vec F S1x1x1x128x128 .f32) : FVec F S128x512 .f32 :=
  concatenate S128x512 1
    [⟨S128x128, shapeCast S128x128 b0 shapeCasts_S1x1x1x128x128_S128x128⟩, ⟨S128x128, shapeCast S128x128 b1 shapeCasts_S1x1x1x128x128_S128x128⟩,
     ⟨S128x128, shapeCast S128x128 b2 shapeCasts_S1x1x1x128x128_S128x128⟩, ⟨S128x128, shapeCast S128x128 b3 shapeCasts_S1x1x1x128x128_S128x128⟩]
    concatenates_S128x128_S128x128_S128x128_S128x128_S128x512_d1

/-- The biased scores. -/
def biased (b : FVec F S128x512 .f32) (s : Vec F S1x1x128x512 .f32) : FVec F S128x512 .f32 :=
  addf (shapeCast S128x512 s shapeCasts_S1x1x128x512_S128x512) b

/-- The exponentials of scores less their row's maximum. -/
def expo (s : FVec F S128x512 .f32) : FVec F S128x512 .f32 :=
  exp (subf s (broadcastTo S128x512 (shapeCast S128x1 (multiReduction .maximumf [1] S128 s 0xFF800000#32 reduces_S128x512_S128 (.inl rfl) rfl)
    shapeCasts_S128_S128x1) broadcasts_S128x1_S128x512))

/-- The reciprocal of each row's sum of exponentials. -/
def inv (b : FVec F S128x512 .f32) (s : Vec F S1x1x128x512 .f32) : FVec F S128x1 .f32 :=
  divf (broadcast S128x1 (Scalar.ofBits .f32 0x3F800000#32))
    (shapeCast S128x1 (multiReduction .add [1] S128 (expo (biased b s)) 0x00000000#32 reduces_S128x512_S128 (.inl rfl) rfl) shapeCasts_S128_S128x1)

/-- The stored exponentials. -/
def stored (b : FVec F S128x512 .f32) (s : Vec F S1x1x128x512 .f32) : FVec F S1x1x128x512 .bf16 :=
  shapeCast S1x1x128x512 (truncf .bf16 (expo (biased b s)) bitsLt_bf16_f32) shapeCasts_S128x512_S1x1x128x512

/-- A pair's weighted values, each row times its reciprocal sum, each head's lanes from its own rows. -/
def weighted (p : Vec F S1x1x128x512 .bf16) (r : FVec F S128x1 .f32) (vb : Vec F S512x128 .bf16) : FVec F S64x128 .f32 :=
  select first
    (extractStridedSlice S64x128 ![0, 0] (mulf (matmul dot_S128x512_S512x128_S128x128_1_0_0_1_n_n none (shapeCast S128x512 p shapeCasts_S1x1x128x512_S128x512) vb (constant S128x128 .f32 0x00000000#32))
      (broadcastTo S128x128 r broadcasts_S128x1_S128x128)) slices_S128x128_o0_0_S64x128)
    (extractStridedSlice S64x128 ![64, 0] (mulf (matmul dot_S128x512_S512x128_S128x128_1_0_0_1_n_n none (shapeCast S128x512 p shapeCasts_S1x1x128x512_S128x512) vb (constant S128x128 .f32 0x00000000#32))
      (broadcastTo S128x128 r broadcasts_S128x1_S128x128)) slices_S128x128_o64_0_S64x128)

/-- The eight pairs side by side. -/
def heads (o0 o1 o2 o3 o4 o5 o6 o7 : FVec F S64x128 .f32) : FVec F S64x1024 .f32 :=
  concatenate S64x1024 1 [⟨S64x128, o0⟩, ⟨S64x128, o1⟩, ⟨S64x128, o2⟩, ⟨S64x128, o3⟩, ⟨S64x128, o4⟩, ⟨S64x128, o5⟩, ⟨S64x128, o6⟩, ⟨S64x128, o7⟩]
    concatenates_S64x128_S64x128_S64x128_S64x128_S64x128_S64x128_S64x128_S64x128_S64x1024_d1

/-- The rows divided by their root mean square, times the gain. -/
def normed (o : FVec F S64x1024 .f32) (g : Vec F S1x1024 .f32) : FVec F S64x1024 .bf16 :=
  truncf .bf16 (mulf (mulf o (broadcastTo S64x1024 (rsqrt (addf (divf
      (shapeCast S64x1 (multiReduction .add [1] S64 (mulf o o) 0x00000000#32 reduces_S64x1024_S64 (.inl rfl) rfl) shapeCasts_S64_S64x1)
      (broadcast S64x1 (Scalar.ofBits .f32 0x44800000#32))) (broadcast S64x1 (Scalar.ofBits .f32 0x358637BD#32)))) broadcasts_S64x1_S64x1024))
    (broadcastTo S64x1024 (shapeCast S1x1024 g shapeCasts_S1x1024_S1x1024) broadcasts_S1x1024_S64x1024)) bitsLt_bf16_f32

/-- A pair's block from its queries, bands and bias tiles. -/
def pairBlock (q : Vec F S64x128 .bf16) (kb vb : Vec F S512x128 .bf16) (b0 b1 b2 b3 : Vec F S1x1x1x128x128 .f32) : FVec F S64x128 .f32 :=
  weighted (stored (tiles b0 b1 b2 b3) (scores q kb)) (inv (tiles b0 b1 b2 b3) (scores q kb)) vb

theorem normed_congr {a0 a1 a2 a3 a4 a5 a6 a7 b0 b1 b2 b3 b4 b5 b6 b7 : FVec F S64x128 .f32} {g : Vec F S1x1024 .f32}
    (e0 : a0 = b0) (e1 : a1 = b1) (e2 : a2 = b2) (e3 : a3 = b3) (e4 : a4 = b4) (e5 : a5 = b5) (e6 : a6 = b6) (e7 : a7 = b7) :
    normed (heads a0 a1 a2 a3 a4 a5 a6 a7) g = normed (heads b0 b1 b2 b3 b4 b5 b6 b7) g := by
  subst e0 e1 e2 e3 e4 e5 e6 e7; rfl

/-! ## What the scratch slots hold -/

/-- The slot at offsets `o` of the buffer the stores `L` leave holds `s`. -/
def SlotIs {e : EltTy} (L : List (View.Piece (Elt F) S4x8x128x512 e)) (o : Fin 4 → ℕ)
    (h : ∀ a, o a + S1x1x128x512.size a ≤ S4x8x128x512.size a) (s : Vec F S1x1x128x512 e) : Prop :=
  ∀ x, View.canon L ((Rect.unit (s := S4x8x128x512) o S1x1x128x512.size h).emb x) = s x

theorem SlotIs.top {e : EltTy} {L : List (View.Piece (Elt F) S4x8x128x512 e)} {o : Fin 4 → ℕ}
    {h : ∀ a, o a + S1x1x128x512.size a ≤ S4x8x128x512.size a} {s : Vec F S1x1x128x512 e} :
    SlotIs (⟨Rect.unit (s := S4x8x128x512) o S1x1x128x512.size h, s⟩ :: L) o h s := fun x =>
  View.canon_cons_emb (Rect.unit (s := S4x8x128x512) o S1x1x128x512.size h) s L x

/-- A store into another slot leaves a slot alone. -/
theorem SlotIs.skip {e : EltTy} {L : List (View.Piece (Elt F) S4x8x128x512 e)} {o o' : Fin 4 → ℕ}
    {h : ∀ a, o a + S1x1x128x512.size a ≤ S4x8x128x512.size a} {h' : ∀ a, o' a + S1x1x128x512.size a ≤ S4x8x128x512.size a}
    {s w : Vec F S1x1x128x512 e} (ho : o 0 ≠ o' 0 ∨ o 1 ≠ o' 1) (hs : SlotIs L o h s) :
    SlotIs (⟨Rect.unit (s := S4x8x128x512) o' S1x1x128x512.size h', w⟩ :: L) o h s := fun x =>
  (View.canon_cons_of_not_mem ⟨Rect.unit (s := S4x8x128x512) o' S1x1x128x512.size h', w⟩ L (by
    intro hm
    replace hm : (Rect.unit (s := S4x8x128x512) o S1x1x128x512.size h).emb x ∈ (Rect.unit (s := S4x8x128x512) o' S1x1x128x512.size h').set := hm
    have h0 := (Rect.mem_set_unit.1 hm) 0
    have h1 := (Rect.mem_set_unit.1 hm) 1
    have e0 : (((Rect.unit (s := S4x8x128x512) o S1x1x128x512.size h).emb x) 0 : ℕ) = o 0 + 1 * (x 0 : ℕ) := rfl
    have e1 : (((Rect.unit (s := S4x8x128x512) o S1x1x128x512.size h).emb x) 1 : ℕ) = o 1 + 1 * (x 1 : ℕ) := rfl
    have hx0 : (x 0 : ℕ) < 1 := (x 0).isLt
    have hx1 : (x 1 : ℕ) < 1 := (x 1).isLt
    have a1 : o' 0 ≤ (((Rect.unit (s := S4x8x128x512) o S1x1x128x512.size h).emb x) 0 : ℕ) := h0.1
    have a2 : (((Rect.unit (s := S4x8x128x512) o S1x1x128x512.size h).emb x) 0 : ℕ) < o' 0 + 1 := h0.2
    have a3 : o' 1 ≤ (((Rect.unit (s := S4x8x128x512) o S1x1x128x512.size h).emb x) 1 : ℕ) := h1.1
    have a4 : (((Rect.unit (s := S4x8x128x512) o S1x1x128x512.size h).emb x) 1 : ℕ) < o' 1 + 1 := h1.2
    omega)).trans (hs x)

/-- A slot read back is what it holds. -/
theorem readCov_slot {e : EltTy} (w : View sig .tc .vmem S4x8x128x512 e) {L : List (View.Piece (Elt F) S4x8x128x512 e)} {o : Fin 4 → ℕ}
    {h : ∀ a, o a + S1x1x128x512.size a ≤ S4x8x128x512.size a} {s : Vec F S1x1x128x512 e} (hs : SlotIs L o h s) :
    w.readCov L (Rect.unit (s := S4x8x128x512) o S1x1x128x512.size h).toLoadRect = s := by
  rw [View.readCov_eq_canon']
  funext x
  exact hs x

/-- Read back through the two scratch buffers, a pair is the pair's block. -/
theorem pair_eq {w8 : View sig .tc .vmem S4x8x128x512 .f32} {w9 : View sig .tc .vmem S4x8x128x512 .bf16}
    {L8 : List (View.Piece (Elt F) S4x8x128x512 .f32)} {L9 : List (View.Piece (Elt F) S4x8x128x512 .bf16)} {o : Fin 4 → ℕ}
    {h : ∀ a, o a + S1x1x128x512.size a ≤ S4x8x128x512.size a}
    {a : FVec F S64x128 .f32} {q : Vec F S64x128 .bf16} {kb vb : Vec F S512x128 .bf16} {b0 b1 b2 b3 : Vec F S1x1x1x128x128 .f32}
    (ha : a = weighted (w9.readCov L9 (Rect.unit (s := S4x8x128x512) o S1x1x128x512.size h).toLoadRect)
      (inv (tiles b0 b1 b2 b3) (w8.readCov L8 (Rect.unit (s := S4x8x128x512) o S1x1x128x512.size h).toLoadRect)) vb)
    (h1 : SlotIs L8 o h (scores q kb))
    (h2 : SlotIs L9 o h (stored (tiles b0 b1 b2 b3) (w8.readCov L8 (Rect.unit (s := S4x8x128x512) o S1x1x128x512.size h).toLoadRect))) :
    a = pairBlock q kb vb b0 b1 b2 b3 := by
  rw [ha, readCov_slot w9 h2, readCov_slot w8 h1, pairBlock]

/-! ## The body's rows -/

/-- The key and value bands' offsets. -/
def bandOff (j : Fin 8) : grid0.Coords → BitVec 32 → Fin 2 → ℕ :=
  match j with
  | 0 => k0_off1 | 1 => k0_off2 | 2 => k0_off3 | 3 => k0_off4 | 4 => k0_off5 | 5 => k0_off6 | 6 => k0_off7 | 7 => k0_off8

theorem bandOff_inb (j : Fin 8) (i : grid0.Coords) (r : Fin 4) :
    ∀ a, (bandOff j i (BitVec.ofNat 32 r.val)) a + S512x128.size a ≤ S2048x1024.size a :=
  match j with
  | 0 => k0_off1_inb i r | 1 => k0_off2_inb i r | 2 => k0_off3_inb i r | 3 => k0_off4_inb i r
  | 4 => k0_off5_inb i r | 5 => k0_off6_inb i r | 6 => k0_off7_inb i r | 7 => k0_off8_inb i r

/-- The bias tiles' offsets. -/
def tileOff (j : Fin 8) : grid0.Coords → BitVec 32 → BitVec 32 → Fin 5 → ℕ :=
  match j with
  | 0 => k0_off9 | 1 => k0_off10 | 2 => k0_off11 | 3 => k0_off12 | 4 => k0_off13 | 5 => k0_off14 | 6 => k0_off15 | 7 => k0_off16

theorem tileOff_inb (j : Fin 8) (i : grid0.Coords) (r n : Fin 4) :
    ∀ a, (tileOff j i (BitVec.ofNat 32 r.val) (BitVec.ofNat 32 (2 * n.val))) a + S1x1x1x128x128.size a ≤ S1x8x14x128x128.size a :=
  match j with
  | 0 => k0_off9_inb i r n | 1 => k0_off10_inb i r n | 2 => k0_off11_inb i r n | 3 => k0_off12_inb i r n
  | 4 => k0_off13_inb i r n | 5 => k0_off14_inb i r n | 6 => k0_off15_inb i r n | 7 => k0_off16_inb i r n

theorem queryOff_inb (r : Fin 4) (j : Fin 8) : ∀ a, (![64 * r.val, 128 * j.val] : Fin 2 → ℕ) a + S64x128.size a ≤ S256x1024.size a := by
  intro a; fin_cases a
  · show 64 * r.val + 64 ≤ 256; omega
  · show 128 * j.val + 128 ≤ 1024; omega

/-- Pair `j` of row `r` of the block. -/
def pair (i : grid0.Coords) (Q : Vec F S256x1024 .bf16) (K V : Vec F S2048x1024 .bf16) (B : Vec F S1x8x14x128x128 .f32) (r : Fin 4) (j : Fin 8) :
    FVec F S64x128 .f32 :=
  pairBlock (View.ld Q (Rect.unit (s := S256x1024) ![64 * r.val, 128 * j.val] S64x128.size (queryOff_inb r j)))
    (View.ld K (Rect.unit (s := S2048x1024) (bandOff j i (BitVec.ofNat 32 r.val)) S512x128.size (bandOff_inb j i r)))
    (View.ld V (Rect.unit (s := S2048x1024) (bandOff j i (BitVec.ofNat 32 r.val)) S512x128.size (bandOff_inb j i r)))
    (View.ld B (Rect.unit (s := S1x8x14x128x128) (tileOff j i (BitVec.ofNat 32 r.val) 0#32) S1x1x1x128x128.size (tileOff_inb j i r 0)))
    (View.ld B (Rect.unit (s := S1x8x14x128x128) (tileOff j i (BitVec.ofNat 32 r.val) 2#32) S1x1x1x128x128.size (tileOff_inb j i r 1)))
    (View.ld B (Rect.unit (s := S1x8x14x128x128) (tileOff j i (BitVec.ofNat 32 r.val) 4#32) S1x1x1x128x128.size (tileOff_inb j i r 2)))
    (View.ld B (Rect.unit (s := S1x8x14x128x128) (tileOff j i (BitVec.ofNat 32 r.val) 6#32) S1x1x1x128x128.size (tileOff_inb j i r 3)))

/-- Row `r` of the block. -/
def row (i : grid0.Coords) (Q : Vec F S256x1024 .bf16) (K V : Vec F S2048x1024 .bf16) (B : Vec F S1x8x14x128x128 .f32) (g : Vec F S1x1024 .f32) (r : Fin 4) :
    FVec F S64x1024 .bf16 :=
  normed (heads (pair i Q K V B r 0) (pair i Q K V B r 1) (pair i Q K V B r 2) (pair i Q K V B r 3) (pair i Q K V B r 4) (pair i Q K V B r 5)
    (pair i Q K V B r 6) (pair i Q K V B r 7)) (View.ld g (Rect.unit (s := S1x1024) ![0, 0] S1x1024.size inb_S1x1024_S1x1024_0_0))

theorem canon4 {R0 R1 R2 R3 : Rect S256x1024} {a0 b0 : Vec F R0.shape .bf16} {a1 b1 : Vec F R1.shape .bf16} {a2 b2 : Vec F R2.shape .bf16}
    {a3 b3 : Vec F R3.shape .bf16} (e0 : a0 = b0) (e1 : a1 = b1) (e2 : a2 = b2) (e3 : a3 = b3) :
    View.canon (Val := Elt F) [⟨R3, a3⟩, ⟨R2, a2⟩, ⟨R1, a1⟩, ⟨R0, a0⟩] = View.canon [⟨R3, b3⟩, ⟨R2, b2⟩, ⟨R1, b1⟩, ⟨R0, b0⟩] := by
  subst e0 e1 e2 e3; rfl

set_option maxHeartbeats 4000000 in
/-- The block the body leaves, from what its buffers hold. -/
theorem out_raw (c : Dev nD) (i : grid0.Coords) (arg2 : Memref sig .tc .vmem S256x1024 .bf16) (harg2 : arg2.IsWhole) (arg3 : Memref sig .tc .vmem S2048x1024 .bf16) (harg3 : arg3.IsWhole) (arg4 : Memref sig .tc .vmem S2048x1024 .bf16) (harg4 : arg4.IsWhole) (arg5 : Memref sig .tc .vmem S1x8x14x128x128 .f32) (harg5 : arg5.IsWhole) (arg6 : Memref sig .tc .vmem S1x1024 .f32) (harg6 : arg6.IsWhole) (arg7 : Memref sig .tc .vmem S256x1024 .bf16) (harg7 : arg7.IsWhole) (arg8 : Memref sig .tc .vmem S4x8x128x512 .f32) (harg8 : arg8.IsWhole) (arg9 : Memref sig .tc .vmem S4x8x128x512 .bf16) (harg9 : arg9.IsWhole)
    (x0 : Vec F S256x1024 .bf16) (x1 : Vec F S2048x1024 .bf16) (x2 : Vec F S2048x1024 .bf16) (x3 : Vec F S1x8x14x128x128 .f32) (x4 : Vec F S1x1024 .f32) :
    out0_A_5 c i arg2 harg2 arg3 harg3 arg4 harg4 arg5 harg5 arg6 harg6 arg7 harg7 arg8 harg8 arg9 harg9 x0 x1 x2 x3 x4
      = View.canon (Val := Elt F)
        [⟨Rect.unit (s := S256x1024) ![192, 0] S64x1024.size inb_S256x1024_S64x1024_192_0, row i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) 3⟩,
         ⟨Rect.unit (s := S256x1024) ![128, 0] S64x1024.size inb_S256x1024_S64x1024_128_0, row i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) 2⟩,
         ⟨Rect.unit (s := S256x1024) ![64, 0] S64x1024.size inb_S256x1024_S64x1024_64_0, row i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) 1⟩,
         ⟨Rect.unit (s := S256x1024) ![0, 0] S64x1024.size inb_S256x1024_S64x1024_0_0, row i (arg2.view.read (Elt F) (harg2.unread x0)) (arg3.view.read (Elt F) (harg3.unread x1)) (arg4.view.read (Elt F) (harg4.unread x2)) (arg5.view.read (Elt F) (harg5.unread x3)) (arg6.view.read (Elt F) (harg6.unread x4)) 0⟩] := by
  unfold out0_A_5
  rw [View.read_writes_junk_eq_canon]
  unfold kernelRun0_A
  dsimp only
  refine canon4 ?_ ?_ ?_ ?_ <;>
  · refine Eq.trans (b := normed (heads _ _ _ _ _ _ _ _)
      (View.ld (arg6.view.read (Elt F) (harg6.unread x4)) (Rect.unit (s := S1x1024) ![0, 0] S1x1024.size inb_S1x1024_S1x1024_0_0))) rfl ?_
    refine normed_congr ?_ ?_ ?_ ?_ ?_ ?_ ?_ ?_ <;>
    · refine pair_eq (w8 := arg8.view) (w9 := arg9.view) rfl ?_ ?_ <;>
      · repeat refine SlotIs.skip (by decide) ?_
        exact SlotIs.top

end Cert.NatIdeal.Row

end
-- ==== Proof.NatSpec.lean ====
/-
  The neighbourhood attention's mathematics over arrays read at numbered places: a query's row and column window, its
  biased score against a key, the softmax and the head's output, and that the kernel's order of the softmax's division
  gives the same on real scores and values.
-/
module

public import proofs.«01_k».proof.Proof.Spec
public import proofs.«01_k».proof.Proof.Softmax
public import Idealize.ShloMosaic.Lib.Pointwise

@[expose] public section

noncomputable section

namespace Nbr

open Idealize.ShloMosaic
open _root_.Attn
open scoped BigOperators

/-- The first of the eight key rows of query row `y`. -/
def rs (y : ℕ) : ℕ := min 24 (y - 4)
/-- The first of the sixteen key columns of query column `x`. -/
def cs (x : ℕ) : ℕ := min 48 (x - 8)

/-- The first layer's element of a four-axis array at numbered places, zero outside it. -/
def at3 {n n0 n1 n2 : ℕ} [NeZero n] (f : (⟨4, ![n, n0, n1, n2]⟩ : Shape).Idx → EReal) (a b c : ℕ) : EReal :=
  if h : a < n0 ∧ b < n1 ∧ c < n2 then f (ix4 0 ⟨a, h.1⟩ ⟨b, h.2.1⟩ ⟨c, h.2.2⟩) else 0

theorem at3_eq {n n0 n1 n2 : ℕ} [NeZero n] (f : (⟨4, ![n, n0, n1, n2]⟩ : Shape).Idx → EReal) (a : Fin n0) (b : Fin n1) (c : Fin n2) (a' b' c' : ℕ)
    (ha : a.val = a') (hb : b.val = b') (hc : c.val = c') : f (ix4 0 a b c) = at3 f a' b' c' := by
  subst ha hb hc
  rw [at3, dif_pos ⟨a.isLt, b.isLt, c.isLt⟩]

theorem at3_real {n n0 n1 n2 : ℕ} [NeZero n] (f : (⟨4, ![n, n0, n1, n2]⟩ : Shape).Idx → EReal) (h : ∀ i, IsReal (f i)) (a b c : ℕ) : IsReal (at3 f a b c) := by
  rw [at3]
  split_ifs
  · exact h _
  · exact ⟨0, rfl⟩

/-- The bias of key place `k` (row `k / 64` of the window, column `k % 64`) for the query at row `y` and column `x`. -/
def bias (P : ℕ → ℕ → ℕ → EReal) (h y x k : ℕ) : EReal :=
  if cs x ≤ k % 64 ∧ k % 64 < cs x + 16 then P h (rs y + k / 64 + 7 - y) (min 30 (k % 64 + 15 - x)) else Ideal.ofBits .f32 0xF149F2CA#32

/-- The scaled query's product with the key. -/
def dotS (A : ℕ → ℕ → EReal) (b y h x k : ℕ) : EReal :=
  ∑ d : Fin 64, (A (b * 2048 + y * 64 + x) (h * 64 + d) * Ideal.ofBits .f32 0x3E000000#32) * A (b * 2048 + (rs y + k / 64) * 64 + k % 64) (1024 + (h * 64 + d))

/-- The biased score. -/
def score (A : ℕ → ℕ → EReal) (P : ℕ → ℕ → ℕ → EReal) (b y h x k : ℕ) : EReal := dotS A b y h x k + bias P h y x k

/-- The softmax's numerator over a row of scores. -/
def num (s : Fin 512 → EReal) (k : Fin 512) : EReal := Ideal.exp (s k - Finset.univ.fold max ⊥ s)

/-- The softmax of a row of scores applied to values. -/
def soft (s v : Fin 512 → EReal) : EReal := ∑ k, v k * Ideal.div (num s k) (∑ k, num s k)

/-- The same with the division last. -/
def softLate (s v : Fin 512 → EReal) : EReal := (∑ k, num s k * v k) * Ideal.div 1 (∑ k, num s k)

/-- A head's output. -/
def out (A : ℕ → ℕ → EReal) (P : ℕ → ℕ → ℕ → EReal) (b y x j : ℕ) : EReal :=
  soft (fun k => score A P b y (j / 64) x k) fun k => A (b * 2048 + (rs y + k / 64) * 64 + k % 64) (2048 + j)

theorem ofBits_neg_big : IsReal (Ideal.ofBits .f32 0xF149F2CA#32) := by
  refine ⟨-(13234890 * 2 ^ 76), ?_⟩
  simp [Ideal.ofBits, Ideal.ieee, -EReal.coe_mul, -EReal.coe_neg, -EReal.coe_pow]

theorem ofBits_eighth : Ideal.ofBits FTy.f32 0x3E000000#32 = ((1 / 8 : ℝ) : EReal) := by
  simp [Ideal.ofBits, Ideal.ieee, -EReal.coe_mul]; norm_num
theorem ofBits_eighth_bf16 : Ideal.ofBits FTy.bf16 0x3E00#16 = ((1 / 8 : ℝ) : EReal) := by
  simp [Ideal.ofBits, Ideal.ieee, -EReal.coe_mul]; norm_num

theorem score_real {A : ℕ → ℕ → EReal} {P : ℕ → ℕ → ℕ → EReal} (hA : ∀ a b, IsReal (A a b)) (hP : ∀ a b c, IsReal (P a b c)) (b y h x k : ℕ) :
    IsReal (score A P b y h x k) := by
  refine IsReal.add (IsReal.sum fun d => IsReal.mul (IsReal.mul (hA _ _) ⟨_, ofBits_eighth⟩) (hA _ _)) ?_
  unfold bias
  split_ifs
  · exact hP _ _ _
  · exact ofBits_neg_big

/-- On real scores and values the division may come last. -/
theorem softLate_eq (s v : Fin 512 → EReal) (hs : ∀ k, IsReal (s k)) (hv : ∀ k, IsReal (v k)) : softLate s v = soft s v := by
  choose s' hs' using hs
  choose v' hv' using hv
  obtain ⟨m, hm, -⟩ := fold_max_real (n := 512) (by norm_num) s'
  have es : s = fun k => (s' k : EReal) := funext hs'
  have ev : v = fun k => (v' k : EReal) := funext hv'
  subst es ev
  have hk : ∀ k, num (fun k => (s' k : EReal)) k = ((Real.exp (s' k - m) : ℝ) : EReal) := by
    intro k
    rw [num, hm, ← EReal.coe_sub, Ideal.exp_coe]
  unfold softLate soft
  simp only [hk]
  have hpos : 0 < ∑ k : Fin 512, Real.exp (s' k - m) := Finset.sum_pos (fun k _ => Real.exp_pos _) ⟨0, Finset.mem_univ _⟩
  rw [← coe_sum]
  have h1 : (1 : EReal) = ((1 : ℝ) : EReal) := rfl
  rw [h1]
  simp only [isReal_div hpos.ne', ← EReal.coe_mul]
  rw [← coe_sum, ← coe_sum, ← EReal.coe_mul, EReal.coe_eq_coe_iff, Finset.sum_mul]
  exact Finset.sum_congr rfl fun k _ => by ring

end Nbr

end
-- ==== Proof.NatAt.lean ====
/-
  The neighbourhood attention call's block over extended reals, at an index: a pair's output is the softmax of its
  head's biased scores applied to the head's values.
-/
module

public import proofs.«01_k».proof.Proof.NatBlock
public import proofs.«01_k».proof.Proof.NatSpec
public import proofs.«01_k».proof.Proof.Linear

@[expose] public section

set_option maxRecDepth 16384

noncomputable section

namespace Cert.NatIdeal.Row

open Idealize.ShloMosaic Idealize.ShloMosaic.TcCoe
open Cert.NatIdeal Cert.NatIdeal.Gen
open Nbr

theorem lane : ∀ x : Fin 128, IntOp.cmpi CmpIPredicate.slt (BitVec.ofNat 32 x) 64#32 = if x.val < 64 then 1#1 else 0#1 := by decide

theorem first_at (x : Fin 64) (l : Fin 128) : first (ix2 x l) = if l.val < 64 then 1#1 else 0#1 := by
  pointwise [first]
  exact lane l

/-- The stacked queries at a row of the first head. -/
theorem stacked_lo (q : Vec Ideal S64x128 .bf16) (x : Fin 64) (l : Fin 128) : stacked q (ix2 (⟨x, by omega⟩ : Fin 128) l)
    = if l.val < 64 then q (ix2 x l) * Ideal.ofBits .bf16 0x3E00#16 else 0 := by
  have e : ∀ w : IVec S64x128 1, ∀ a b : FVec Ideal S64x128 .bf16, concatenate S128x128 0 [⟨S64x128, select w a b⟩, ⟨S64x128, select w b a⟩]
      concatenates_S64x128_S64x128_S128x128_d0 (ix2 (⟨x, by omega⟩ : Fin 128) l) = Scalar.select (w (ix2 x l)) (a (ix2 x l)) (b (ix2 x l)) := by
    intro w a b; pointwise []
  refine (e first _ _).trans ?_
  rw [first_at]
  by_cases hl : l.val < 64
  · rw [if_pos hl, if_pos hl]; rfl
  · rw [if_neg hl, if_neg hl]; pointwise []

/-- The stacked queries at a row of the second head. -/
theorem stacked_hi (q : Vec Ideal S64x128 .bf16) (x : Fin 64) (l : Fin 128) : stacked q (ix2 (⟨64 + x, by omega⟩ : Fin 128) l)
    = if l.val < 64 then 0 else q (ix2 x l) * Ideal.ofBits .bf16 0x3E00#16 := by
  have e : ∀ w : IVec S64x128 1, ∀ a b : FVec Ideal S64x128 .bf16, concatenate S128x128 0 [⟨S64x128, select w a b⟩, ⟨S64x128, select w b a⟩]
      concatenates_S64x128_S64x128_S128x128_d0 (ix2 (⟨64 + x, by omega⟩ : Fin 128) l) = Scalar.select (w (ix2 x l)) (b (ix2 x l)) (a (ix2 x l)) := by
    intro w a b; pointwise []
  refine (e first _ _).trans ?_
  rw [first_at]
  by_cases hl : l.val < 64
  · rw [if_pos hl, if_pos hl]; pointwise []
  · rw [if_neg hl, if_neg hl]; rfl

/-- A sum over 128 lanes whose last half is zero. -/
theorem sum_lo (f g : Fin 128 → EReal) : ∑ l : Fin 128, (if l.val < 64 then f l else 0) * g l
    = ∑ d : Fin 64, f ⟨d, by omega⟩ * g ⟨d, by omega⟩ := by
  rw [Fin.sum_univ_two_halves 64 64 rfl]
  refine (congrArg₂ (fun a b : EReal => a + b) (Finset.sum_congr rfl fun d _ => ?_) (Finset.sum_eq_zero fun d _ => ?_)).trans (add_zero _)
  · rw [if_pos d.isLt]
  · rw [if_neg (by simp), zero_mul]

/-- A sum over 128 lanes whose first half is zero. -/
theorem sum_hi (f g : Fin 128 → EReal) : ∑ l : Fin 128, (if l.val < 64 then 0 else f l) * g l
    = ∑ d : Fin 64, f ⟨64 + d, by omega⟩ * g ⟨64 + d, by omega⟩ := by
  rw [Fin.sum_univ_two_halves 64 64 rfl]
  refine (congrArg₂ (fun a b : EReal => a + b) (Finset.sum_eq_zero fun d _ => ?_) (Finset.sum_congr rfl fun d _ => ?_)).trans (zero_add _)
  · rw [if_pos d.isLt, zero_mul]
  · rw [if_neg (by simp)]

theorem scores_at (q : Vec Ideal S64x128 .bf16) (kb : Vec Ideal S512x128 .bf16) (r : Fin 128) (k : Fin 512) :
    scores q kb (ix4 (0 : Fin 1) (0 : Fin 1) r k) = ∑ l : Fin 128, stacked q (ix2 r l) * kb (ix2 k l) := by
  have e : ∀ z : FVec Ideal S128x128 .bf16, shapeCast S1x1x128x512 (matmul dot_S128x128_S512x128_S128x512_1_1_0_0_n_n none z (show FVec Ideal S512x128 .bf16 from kb) (constant S128x512 .f32 0x00000000#32))
      shapeCasts_S128x512_S1x1x128x512 (ix4 (0 : Fin 1) (0 : Fin 1) r k) = ∑ l : Fin 128, z (ix2 r l) * kb (ix2 k l) := by
    intro z; pointwise []
  exact e _

/-- Head `e` of a pair: its scores are its own lanes' products. -/
theorem scores_head (q : Vec Ideal S64x128 .bf16) (kb : Vec Ideal S512x128 .bf16) (x : Fin 64) (e : Fin 2) (k : Fin 512) :
    scores q kb (ix4 (0 : Fin 1) (0 : Fin 1) (⟨64 * e + x, by omega⟩ : Fin 128) k)
      = ∑ d : Fin 64, (q (ix2 x (⟨64 * e + d, by omega⟩ : Fin 128)) * Ideal.ofBits .f32 0x3E000000#32) * kb (ix2 k (⟨64 * e + d, by omega⟩ : Fin 128)) := by
  rw [scores_at, ofBits_eighth, ← ofBits_eighth_bf16]
  match e with
  | ⟨0, _⟩ =>
    have h : ∀ n : Fin 64, (⟨64 * 0 + n, by omega⟩ : Fin 128) = ⟨n, by omega⟩ := fun n => Fin.ext (by simp)
    show ∑ l : Fin 128, stacked q (ix2 (⟨64 * 0 + x, by omega⟩ : Fin 128) l) * _ = ∑ d : Fin 64, (q (ix2 x (⟨64 * 0 + d, by omega⟩ : Fin 128)) * _) * kb (ix2 k (⟨64 * 0 + d, by omega⟩ : Fin 128))
    simp only [h, stacked_lo]
    exact sum_lo _ _
  | ⟨1, _⟩ =>
    show ∑ l : Fin 128, stacked q (ix2 (⟨64 + x, by omega⟩ : Fin 128) l) * _ = ∑ d : Fin 64, (q (ix2 x (⟨64 + d, by omega⟩ : Fin 128)) * _) * kb (ix2 k (⟨64 + d, by omega⟩ : Fin 128))
    simp only [stacked_hi]
    exact sum_hi _ _

/-- The four tiles side by side, at an index. -/
theorem tiles_at (b : Fin 4 → Vec Ideal S1x1x1x128x128 .f32) (r : Fin 128) (k : Fin 512) :
    tiles (b 0) (b 1) (b 2) (b 3) (ix2 r k) = b (⟨k / 128, by omega⟩ : Fin 4) (ix5 (0 : Fin 1) (0 : Fin 1) (0 : Fin 1) r (⟨k % 128, by omega⟩ : Fin 128)) := by
  pointwise [tiles]
  have e : ∀ (n n' : Fin 4) (d d' : Fin 128), n.val = n'.val → d.val = d'.val →
      b n (ix5 (0 : Fin 1) (0 : Fin 1) (0 : Fin 1) r d) = b n' (ix5 (0 : Fin 1) (0 : Fin 1) (0 : Fin 1) r d') := by
    intro n n' d d' h1 h2; rw [Fin.ext h1, Fin.ext h2]
  split_ifs <;> exact e _ _ _ _ (by simp <;> omega) (by simp <;> omega)

theorem biased_at (b : FVec Ideal S128x512 .f32) (s : Vec Ideal S1x1x128x512 .f32) (r : Fin 128) (k : Fin 512) :
    biased b s (ix2 r k) = s (ix4 (0 : Fin 1) (0 : Fin 1) r k) + b (ix2 r k) := by
  pointwise [biased]

theorem expo_at (s : FVec Ideal S128x512 .f32) (r : Fin 128) (k : Fin 512) : expo s (ix2 r k) = num (fun k => s (ix2 r k)) k := by
  have e : expo s (ix2 r k) = Ideal.exp (s (ix2 r k) - Finset.univ.fold max (Ideal.ofBits FTy.f32 4286578688#32) fun k => s (ix2 r k)) := by
    pointwise [expo]
  rw [e, _root_.Attn.ofBits_bot, num]

theorem inv_at (b : FVec Ideal S128x512 .f32) (s : Vec Ideal S1x1x128x512 .f32) (r : Fin 128) :
    inv b s (ix2 r (0 : Fin 1)) = Ideal.div 1 (∑ k : Fin 512, expo (biased b s) (ix2 r k)) := by
  unfold inv
  generalize expo (biased b s) = z
  pointwise []

theorem stored_at (b : FVec Ideal S128x512 .f32) (s : Vec Ideal S1x1x128x512 .f32) (r : Fin 128) (k : Fin 512) :
    stored b s (ix4 (0 : Fin 1) (0 : Fin 1) r k) = expo (biased b s) (ix2 r k) := by
  unfold stored
  generalize expo (biased b s) = z
  pointwise []

theorem weighted_at (p : Vec Ideal S1x1x128x512 .bf16) (z : FVec Ideal S128x1 .f32) (vb : Vec Ideal S512x128 .bf16) (x : Fin 64) (l : Fin 128) :
    weighted p z vb (ix2 x l) = (∑ k : Fin 512, p (ix4 (0 : Fin 1) (0 : Fin 1) (⟨64 * (l / 64) + x, by omega⟩ : Fin 128) k) * vb (ix2 k l))
      * z (ix2 (⟨64 * (l / 64) + x, by omega⟩ : Fin 128) (0 : Fin 1)) := by
  have e : ∀ w : IVec S64x128 1, ∀ a b : FVec Ideal S64x128 .f32, select w a b (ix2 x l) = Scalar.select (w (ix2 x l)) (a (ix2 x l)) (b (ix2 x l)) := fun _ _ _ => rfl
  have h : ∀ r r' : Fin 128, r.val = r'.val → (∑ k : Fin 512, p (ix4 (0 : Fin 1) (0 : Fin 1) r k) * vb (ix2 k l)) * z (ix2 r (0 : Fin 1))
      = (∑ k : Fin 512, p (ix4 (0 : Fin 1) (0 : Fin 1) r' k) * vb (ix2 k l)) * z (ix2 r' (0 : Fin 1)) := fun r r' hr => by rw [Fin.ext hr]
  have sel1 : ∀ a b : EReal, Scalar.select (1#1) a b = a := fun _ _ => rfl
  have sel0 : ∀ a b : EReal, Scalar.select (0#1) a b = b := fun _ _ => rfl
  unfold weighted
  rw [e, first_at]
  by_cases hl : l.val < 64
  · rw [if_pos hl]
    rw [sel1]
    pointwise []
    exact h _ _ (by simp <;> omega)
  · rw [if_neg hl]
    rw [sel0]
    pointwise []
    exact h _ _ (by simp <;> omega)

/-- A pair's block at an index. -/
theorem pairBlock_at (q : Vec Ideal S64x128 .bf16) (kb vb : Vec Ideal S512x128 .bf16) (b : Fin 4 → Vec Ideal S1x1x1x128x128 .f32) (x : Fin 64) (l : Fin 128) :
    pairBlock q kb vb (b 0) (b 1) (b 2) (b 3) (ix2 x l)
      = softLate (fun k => (∑ d : Fin 64, (q (ix2 x (⟨64 * (l / 64) + d, by omega⟩ : Fin 128)) * Ideal.ofBits .f32 0x3E000000#32) * kb (ix2 k (⟨64 * (l / 64) + d, by omega⟩ : Fin 128)))
            + b (⟨k / 128, by omega⟩ : Fin 4) (ix5 (0 : Fin 1) (0 : Fin 1) (0 : Fin 1) (⟨64 * (l / 64) + x, by omega⟩ : Fin 128) (⟨k % 128, by omega⟩ : Fin 128)))
          fun k => vb (ix2 k l) := by
  have hs : ∀ k : Fin 512, scores q kb (ix4 (0 : Fin 1) (0 : Fin 1) (⟨64 * (l / 64) + x, by omega⟩ : Fin 128) k) = _ :=
    scores_head q kb x (⟨l / 64, by omega⟩ : Fin 2)
  unfold pairBlock
  rw [weighted_at, inv_at]
  simp only [stored_at, expo_at, biased_at, tiles_at, hs]
  rfl

end Cert.NatIdeal.Row

end
-- ==== Proof.NatHost.lean ====
/-
  The neighbourhood attention call's windows: where each block lies, and what it holds of the arguments; the bias table
  the host makes, at an index.
-/
module

public import proofs.«01_k».proof.Proof.Gen.NatIdeal.Value
public import proofs.«01_k».proof.Proof.NatBlock
public import proofs.«01_k».proof.Proof.NatSpec
public import proofs.«01_k».proof.Proof.Linear
public import Idealize.ShloMosaic.Lib.Pipeline.ValueKit
public import Idealize.ShloMosaic.Lib.StableHlo.ReadAt

@[expose] public section

set_option maxRecDepth 16384

noncomputable section

namespace Cert.NatIdeal.Row

open Idealize.ShloMosaic Idealize.ShloMosaic.TcCoe
open Cert.NatIdeal Cert.NatIdeal.Gen
open Nbr

theorem idx_facts : ∀ t : Fin cfg0.N, win0_0.index t = ![t.val, 0] ∧ win0_1.index t = ![t.val / 8, 1] ∧ win0_2.index t = ![t.val / 8, 2]
    ∧ win0_3.index t = ![0, 0, 0, 0, 0] ∧ win0_4.index t = ![0, 0] ∧ win0_5.index t = ![t.val, 0] :=
  (by decide +kernel : ∀ t : Fin grid0.N, _)
theorem lt64 (t : Fin cfg0.N) : t.val < 64 := lt_of_lt_of_eq t.isLt N_0
theorem flushes5 : ∀ t : Fin cfg0.N, (cfg0.win 5).flush t = true := (by decide +kernel : ∀ t : Fin grid0.N, win0_5.flush t = true)

/-- The first row of a query row's keys. -/
theorem band_lit : ∀ (t : Fin grid0.N) (r : Fin 4) (j : Fin 8),
    bandOff j (grid0.coords t) (BitVec.ofNat 32 r) = ![64 * rs (4 * (t.val % 8) + r.val), 128 * j.val] := by decide +kernel

/-- The first row of a query row's bias tiles. -/
theorem tile_lit : ∀ (n : Fin 4) (t : Fin grid0.N) (r : Fin 4) (j : Fin 8),
    tileOff j (grid0.coords t) (BitVec.ofNat 32 r) (BitVec.ofNat 32 (2 * n.val))
      = ![0, j.val, rs (4 * (t.val % 8) + r.val) + 7 + 2 * n.val - (4 * (t.val % 8) + r.val), 0, 0] := by decide +kernel

theorem col_lit : ∀ x k : Fin 64, lit0 (S64x64.rowMajor (ix2 x k)) = BitVec.ofNat 32 (min 30 (k.val + 15 - x.val)) := by decide +kernel
theorem mask_lit : ∀ x k : Fin 64, lit1 (S64x64.rowMajor (ix2 x k)) = if cs x ≤ k.val ∧ k.val < cs x + 16 then 1#1 else 0#1 := by decide +kernel

theorem tcols_at (x : FVec Ideal S4x16x15x31 .f32) (idx : IVec S64x64x1 32) (a : Fin 4) (h : Fin 16) (i : Fin 15) (c k : Fin 64) :
    Host.gather gather_S4x16x15x31_S64x64x1_S4x16x15x64x64_012_3_n_n_3_2_416151 x idx (ix5 a h i c k)
      = x (ix4 a h i (⟨min (idx (ix3 c k (0 : Fin 1))).toInt.toNat 30, by omega⟩ : Fin 31)) := by
  have hsi : ∀ z, (gather_S4x16x15x31_S64x64x1_S4x16x15x64x64_012_3_n_n_3_2_416151).siIdx (ix5 a h i c k) z = ix3 c k (0 : Fin 1) := by
    intro z
    funext a; refine Fin.ext ?_
    match a with
    | ⟨0, _⟩ => rfl
    | ⟨1, _⟩ => rfl
    | ⟨2, _⟩ => exact Nat.lt_one_iff.1 (Fin.isLt _)
  unfold Host.gather
  refine congrArg x (funext fun a => Fin.ext ?_)
  match a with
  | ⟨0, _⟩ => exact Nat.zero_add _
  | ⟨1, _⟩ => exact Nat.zero_add _
  | ⟨2, _⟩ => exact Nat.zero_add _
  | ⟨3, _⟩ =>
    show min (idx ((gather_S4x16x15x31_S64x64x1_S4x16x15x64x64_012_3_n_n_3_2_416151).siIdx _ _)).toInt.toNat 30 + 0 + 0 = _
    rw [hsi]; rfl

/-- The bias table's element as the host makes it. -/
def tab (P : ℕ → ℕ → ℕ → EReal) (h i x k : ℕ) : EReal :=
  if cs x ≤ k ∧ k < cs x + 16 then P h i (min 30 (k + 15 - x)) else Ideal.ofBits .f32 0xF149F2CA#32

theorem col_nat : ∀ x k : Fin 64, min (BitVec.ofNat 32 (min 30 (k.val + 15 - x.val))).toInt.toNat 30 = min 30 (k.val + 15 - x.val) := by decide +kernel

end Cert.NatIdeal.Row

end
-- ==== Proof.NatTable.lean ====
/-
  The neighbourhood attention call's blocks: what each holds of the arguments.
-/
module

public import proofs.«01_k».proof.Proof.NatHost

@[expose] public section

set_option maxRecDepth 16384

noncomputable section

namespace Cert.NatIdeal.Row

open Idealize.ShloMosaic Idealize.ShloMosaic.TcCoe
open Cert.NatIdeal Cert.NatIdeal.Gen
open Nbr

variable (m : (ℓ : Loc nD τ sig) → Buf (Elt Ideal) ℓ)

/-- An entry of the masked columns. -/
theorem entry_at (p : FVec Ideal S4x16x15x31 .f32) (h : Fin 16) (i : Fin 15) (x k : Fin 64) :
    (Scalar.select (lit1 (S64x64.rowMajor (ix2 x k)))
      (Host.gather gather_S4x16x15x31_S64x64x1_S4x16x15x64x64_012_3_n_n_3_2_416151 p
        (broadcastInDim S64x64x1 ![0, 1] bcast_S64x64_S64x64x1_0_1
          (select (constantI S64x64 1 0#1) (addi (fun i => lit0 (S64x64.rowMajor i)) (broadcastInDim S64x64 ![] bcast_S_S64x64 (constantI S_ 32 31#32)))
            fun i => lit0 (S64x64.rowMajor i))) (ix5 (0 : Fin 4) h i x k))
      (Ideal.ofBits FTy.f32 4048155338#32) : EReal) = tab (at3 p) h i x k := by
  rw [tcols_at, mask_lit]
  unfold tab
  by_cases hm : cs x ≤ k.val ∧ k.val < cs x + 16
  · rw [if_pos hm, if_pos hm]
    refine Eq.trans (b := p _) rfl ?_
    refine at3_eq p _ _ _ _ _ _ rfl rfl ?_
    refine Eq.trans (b := min (lit0 (S64x64.rowMajor (ix2 x k))).toInt.toNat 30) ?_ ?_
    · refine congrArg (fun w : BitVec 32 => min w.toInt.toNat 30) ?_
      have hL : ∀ L : IVec S64x64 32, broadcastInDim S64x64x1 ![0, 1] bcast_S64x64_S64x64x1_0_1
          (select (constantI S64x64 1 0#1) (addi L (broadcastInDim S64x64 ![] bcast_S_S64x64 (constantI S_ 32 31#32))) L) (ix3 x k (0 : Fin 1)) = L (ix2 x k) := by
        intro L; pointwise []
      exact hL _
    · rw [col_lit]; exact col_nat x k
  · rw [if_neg hm, if_neg hm]; rfl

theorem tab_congr (P : ℕ → ℕ → ℕ → EReal) {h h' i i' x x' k k' : ℕ} (h1 : h = h') (h2 : i = i') (h3 : x = x') (h4 : k = k') :
    tab P h i x k = tab P h' i' x' k' := by rw [h1, h2, h3, h4]

set_option maxHeartbeats 2000000 in
/-- The host's bias table: two heads' columns one under the other, beside them the next row's. -/
theorem table_at (c : Dev nD) (j : Fin 8) (n : Fin 14) (r k : Fin 128) : (V m c main_v11 : Vec Ideal S4x8x14x128x128 .f32) (ix5 (0 : Fin 4) j n r k)
    = tab (at3 (m ((c : Thread nD τ).loc main_arg1) : Vec Ideal S4x16x15x31 .f32)) (2 * j + r / 64) (n + k / 64) (r % 64) (k % 64) := by
  unfold V
  repeat after_reads_at
  split_ifs <;> exact (entry_at _ _ _ _ _).trans (tab_congr _ (by simp <;> omega) (by simp <;> omega) (by simp <;> omega) (by simp <;> omega))

/-! ## The blocks -/

/-- The query rows at a point. -/
theorem blk_0 (c : Dev nD) (t : Fin cfg0.N) (r : Fin 256) (l : Fin 1024) : (iblk m c 0 t : Vec Ideal S256x1024 .bf16) (ix2 r l)
    = _root_.Attn.at2 (m ((c : Thread nD τ).loc main_arg0) : Vec Ideal S16384x4096 .bf16) (256 * t.val + r.val) l := by
  have key : ∀ W : Vec Ideal S16384x4096 .bf16, ((win0_0.blk t).view.read (Elt Ideal) W : Vec Ideal S256x1024 .bf16) (ix2 r l)
      = W (ix2 (⟨256 * t.val + r.val, by have := lt64 t; omega⟩ : Fin 16384) (⟨l.val, by omega⟩ : Fin 4096)) := fun W => by
    rw [View.read_apply]
    refine congrArg W (funext fun a => Fin.ext ?_)
    match a with
    | ⟨0, _⟩ => show win0_0.index t 0 * 256 + 1 * r.val = 256 * t.val + r.val; rw [(idx_facts t).1]; simp; omega
    | ⟨1, _⟩ => show win0_0.index t 1 * 1024 + 1 * l.val = l.val; rw [(idx_facts t).1]; simp
  exact ((key _).trans (congrFun (V_main_arg0 m c) _)).trans (_root_.Attn.at2_eq _ _ _ _ _ rfl rfl)

/-- The keys at a point. -/
theorem blk_1 (c : Dev nD) (t : Fin cfg0.N) (r : Fin 2048) (l : Fin 1024) : (iblk m c 1 t : Vec Ideal S2048x1024 .bf16) (ix2 r l)
    = _root_.Attn.at2 (m ((c : Thread nD τ).loc main_arg0) : Vec Ideal S16384x4096 .bf16) (2048 * (t.val / 8) + r.val) (1024 + l) := by
  have key : ∀ W : Vec Ideal S16384x4096 .bf16, ((win0_1.blk t).view.read (Elt Ideal) W : Vec Ideal S2048x1024 .bf16) (ix2 r l)
      = W (ix2 (⟨2048 * (t.val / 8) + r.val, by have := lt64 t; omega⟩ : Fin 16384) (⟨1024 + l.val, by omega⟩ : Fin 4096)) := fun W => by
    rw [View.read_apply]
    refine congrArg W (funext fun a => Fin.ext ?_)
    match a with
    | ⟨0, _⟩ => show win0_1.index t 0 * 2048 + 1 * r.val = 2048 * (t.val / 8) + r.val; rw [(idx_facts t).2.1]; simp; omega
    | ⟨1, _⟩ => show win0_1.index t 1 * 1024 + 1 * l.val = 1024 + l.val; rw [(idx_facts t).2.1]; simp
  exact ((key _).trans (congrFun (V_main_arg0 m c) _)).trans (_root_.Attn.at2_eq _ _ _ _ _ rfl rfl)

/-- The values at a point. -/
theorem blk_2 (c : Dev nD) (t : Fin cfg0.N) (r : Fin 2048) (l : Fin 1024) : (iblk m c 2 t : Vec Ideal S2048x1024 .bf16) (ix2 r l)
    = _root_.Attn.at2 (m ((c : Thread nD τ).loc main_arg0) : Vec Ideal S16384x4096 .bf16) (2048 * (t.val / 8) + r.val) (2048 + l) := by
  have key : ∀ W : Vec Ideal S16384x4096 .bf16, ((win0_2.blk t).view.read (Elt Ideal) W : Vec Ideal S2048x1024 .bf16) (ix2 r l)
      = W (ix2 (⟨2048 * (t.val / 8) + r.val, by have := lt64 t; omega⟩ : Fin 16384) (⟨2048 + l.val, by omega⟩ : Fin 4096)) := fun W => by
    rw [View.read_apply]
    refine congrArg W (funext fun a => Fin.ext ?_)
    match a with
    | ⟨0, _⟩ => show win0_2.index t 0 * 2048 + 1 * r.val = 2048 * (t.val / 8) + r.val; rw [(idx_facts t).2.2.1]; simp; omega
    | ⟨1, _⟩ => show win0_2.index t 1 * 1024 + 1 * l.val = 2048 + l.val; rw [(idx_facts t).2.2.1]; simp
  exact ((key _).trans (congrFun (V_main_arg0 m c) _)).trans (_root_.Attn.at2_eq _ _ _ _ _ rfl rfl)

/-- The bias table at a point. -/
theorem blk_3 (c : Dev nD) (t : Fin cfg0.N) (j : Fin 8) (n : Fin 14) (r k : Fin 128) : (iblk m c 3 t : Vec Ideal S1x8x14x128x128 .f32) (ix5 (0 : Fin 1) j n r k)
    = tab (at3 (m ((c : Thread nD τ).loc main_arg1) : Vec Ideal S4x16x15x31 .f32)) (2 * j + r / 64) (n + k / 64) (r % 64) (k % 64) := by
  have key : ∀ W : Vec Ideal S4x8x14x128x128 .f32, ((win0_3.blk t).view.read (Elt Ideal) W : Vec Ideal S1x8x14x128x128 .f32) (ix5 (0 : Fin 1) j n r k)
      = W (ix5 (0 : Fin 4) j n r k) := fun W => by
    rw [View.read_apply]
    refine congrArg W (funext fun a => Fin.ext ?_)
    match a with
    | ⟨0, _⟩ => show win0_3.index t 0 * 1 + 1 * 0 = 0; rw [(idx_facts t).2.2.2.1]; simp
    | ⟨1, _⟩ => show win0_3.index t 1 * 8 + 1 * j.val = j.val; rw [(idx_facts t).2.2.2.1]; simp
    | ⟨2, _⟩ => show win0_3.index t 2 * 14 + 1 * n.val = n.val; rw [(idx_facts t).2.2.2.1]; simp
    | ⟨3, _⟩ => show win0_3.index t 3 * 128 + 1 * r.val = r.val; rw [(idx_facts t).2.2.2.1]; simp
    | ⟨4, _⟩ => show win0_3.index t 4 * 128 + 1 * k.val = k.val; rw [(idx_facts t).2.2.2.1]; simp
  exact (key _).trans (table_at m c j n r k)

/-- The gain at a point. -/
theorem blk_4 (c : Dev nD) (t : Fin cfg0.N) (l : Fin 1024) : (iblk m c 4 t : Vec Ideal S1x1024 .f32) (ix2 0 l)
    = (m ((c : Thread nD τ).loc main_arg2) : Vec Ideal S1024 .f32) (ix1 l) := by
  have key : ∀ W : Vec Ideal S1x1024 .f32, ((win0_4.blk t).view.read (Elt Ideal) W : Vec Ideal S1x1024 .f32) (ix2 0 l) = W (ix2 0 l) := fun W => by
    rw [View.read_apply]
    refine congrArg W (funext fun a => Fin.ext ?_)
    match a with
    | ⟨0, _⟩ => show win0_4.index t 0 * 1 + 1 * 0 = 0; rw [(idx_facts t).2.2.2.2.1]; simp
    | ⟨1, _⟩ => show win0_4.index t 1 * 1024 + 1 * l.val = l.val; rw [(idx_facts t).2.2.2.2.1]; simp
  refine (key _).trans ?_
  show (V m c main_v12 : Vec Ideal S1x1024 .f32) (ix2 0 l) = _
  unfold V
  repeat after_reads_at

end Cert.NatIdeal.Row

end
-- ==== Proof.NatOut.lean ====
/-
  The neighbourhood attention call's result, at an index: the normalized row of the heads' softmaxes.
-/
module

public import proofs.«01_k».proof.Proof.NatAt
public import proofs.«01_k».proof.Proof.NatTable

@[expose] public section

set_option maxRecDepth 16384

noncomputable section

namespace Cert.NatIdeal.Row

open Idealize.ShloMosaic Idealize.ShloMosaic.TcCoe
open Cert.NatIdeal Cert.NatIdeal.Gen
open Nbr

theorem heads_at (o : Fin 8 → FVec Ideal S64x128 .f32) (x : Fin 64) (j : Fin 1024) :
    heads (o 0) (o 1) (o 2) (o 3) (o 4) (o 5) (o 6) (o 7) (ix2 x j) = o (⟨j / 128, by omega⟩ : Fin 8) (ix2 x (⟨j % 128, by omega⟩ : Fin 128)) := by
  pointwise [heads]
  have e : ∀ (n n' : Fin 8) (d d' : Fin 128), n.val = n'.val → d.val = d'.val → o n (ix2 x d) = o n' (ix2 x d') := by
    intro n n' d d' h1 h2; rw [Fin.ext h1, Fin.ext h2]
  split_ifs <;> exact e _ _ _ _ (by simp <;> omega) (by simp <;> omega)

theorem normed_at (o : FVec Ideal S64x1024 .f32) (g : Vec Ideal S1x1024 .f32) (x : Fin 64) (j : Fin 1024) :
    normed o g (ix2 x j) = Linear.rms (n := 1024) 0x44800000#32 (fun j => o (ix2 x j)) (fun k => g (ix2 (0 : Fin 1) k)) j := by
  pointwise [normed]
  rfl

/-- A block of rows and columns read at an index. -/
theorem ldQ (Q : Vec Ideal S256x1024 .bf16) (a b : ℕ) (h : ∀ d, (![a, b] : Fin 2 → ℕ) d + S64x128.size d ≤ S256x1024.size d) (x : Fin 64) (l : Fin 128)
    (ha : a + x < 256) (hb : b + l < 1024) :
    (View.ld Q (Rect.unit (s := S256x1024) ![a, b] S64x128.size h) : Vec Ideal S64x128 .bf16) (ix2 x l) = Q (ix2 (⟨a + x, ha⟩ : Fin 256) (⟨b + l, hb⟩ : Fin 1024)) := by
  refine congrArg Q (funext fun d => Fin.ext ?_)
  match d with
  | ⟨0, _⟩ => show a + 1 * x.val = a + x.val; omega
  | ⟨1, _⟩ => show b + 1 * l.val = b + l.val; omega

theorem ldK (Q : Vec Ideal S2048x1024 .bf16) (o : Fin 2 → ℕ) (a b : ℕ) (ho : o = ![a, b]) (h : ∀ d, o d + S512x128.size d ≤ S2048x1024.size d) (x : Fin 512) (l : Fin 128)
    (ha : a + x < 2048) (hb : b + l < 1024) :
    (View.ld Q (Rect.unit (s := S2048x1024) o S512x128.size h) : Vec Ideal S512x128 .bf16) (ix2 x l) = Q (ix2 (⟨a + x, ha⟩ : Fin 2048) (⟨b + l, hb⟩ : Fin 1024)) := by
  subst ho
  refine congrArg Q (funext fun d => Fin.ext ?_)
  match d with
  | ⟨0, _⟩ => show a + 1 * x.val = a + x.val; omega
  | ⟨1, _⟩ => show b + 1 * l.val = b + l.val; omega

theorem ldB (Q : Vec Ideal S1x8x14x128x128 .f32) (o : Fin 5 → ℕ) (a b : ℕ) (ho : o = ![0, a, b, 0, 0]) (h : ∀ d, o d + S1x1x1x128x128.size d ≤ S1x8x14x128x128.size d)
    (r k : Fin 128) (ha : a < 8) (hb : b < 14) :
    (View.ld Q (Rect.unit (s := S1x8x14x128x128) o S1x1x1x128x128.size h) : Vec Ideal S1x1x1x128x128 .f32) (ix5 (0 : Fin 1) (0 : Fin 1) (0 : Fin 1) r k)
      = Q (ix5 (0 : Fin 1) (⟨a, ha⟩ : Fin 8) (⟨b, hb⟩ : Fin 14) r k) := by
  subst ho
  refine congrArg Q (funext fun d => Fin.ext ?_)
  match d with
  | ⟨0, _⟩ => rfl
  | ⟨1, _⟩ => rfl
  | ⟨2, _⟩ => rfl
  | ⟨3, _⟩ => show 0 + 1 * r.val = r.val; omega
  | ⟨4, _⟩ => show 0 + 1 * k.val = k.val; omega

theorem ldG (g : Vec Ideal S1x1024 .f32) (k : Fin 1024) :
    (View.ld g (Rect.unit (s := S1x1024) ![0, 0] S1x1024.size inb_S1x1024_S1x1024_0_0) : Vec Ideal S1x1024 .f32) (ix2 (0 : Fin 1) k) = g (ix2 (0 : Fin 1) k) := by
  refine congrArg g (funext fun d => Fin.ext ?_)
  match d with
  | ⟨0, _⟩ => rfl
  | ⟨1, _⟩ => show 0 + 1 * k.val = k.val; omega

/-- A head's output with the division last. -/
def outLate (A : ℕ → ℕ → EReal) (P : ℕ → ℕ → ℕ → EReal) (b y x j : ℕ) : EReal :=
  softLate (fun k => score A P b y (j / 64) x k) fun k => A (b * 2048 + (rs y + k / 64) * 64 + k % 64) (2048 + j)

theorem rs_le (y : ℕ) (hy : y < 32) : rs y ≤ 24 ∧ y ≤ rs y + 7 ∧ rs y ≤ y := by unfold rs; omega

section Point

variable (A : ℕ → ℕ → EReal) (P : ℕ → ℕ → ℕ → EReal) (t : Fin grid0.N) (ht : t.val < 64)
  (Q : Vec Ideal S256x1024 .bf16) (K V : Vec Ideal S2048x1024 .bf16) (B : Vec Ideal S1x8x14x128x128 .f32)
  (hQ : ∀ (r : Fin 256) (l : Fin 1024), Q (ix2 r l) = A (256 * t.val + r.val) l)
  (hK : ∀ (r : Fin 2048) (l : Fin 1024), K (ix2 r l) = A (2048 * (t.val / 8) + r.val) (1024 + l))
  (hV : ∀ (r : Fin 2048) (l : Fin 1024), V (ix2 r l) = A (2048 * (t.val / 8) + r.val) (2048 + l))
  (hB : ∀ (j : Fin 8) (n : Fin 14) (r k : Fin 128), B (ix5 (0 : Fin 1) j n r k) = tab P (2 * j + r / 64) (n + k / 64) (r % 64) (k % 64))
include ht hQ hK hV hB

/-- A pair of the point's row `r` at an index. -/
theorem pair_at (r : Fin 4) (j : Fin 8) (x : Fin 64) (l : Fin 128) :
    pair (grid0.coords t) Q K V B r j (ix2 x l) = outLate A P (t.val / 8) (4 * (t.val % 8) + r.val) x (128 * j + l) := by
  have hy : 4 * (t.val % 8) + r.val < 32 := by omega
  obtain ⟨hr1, hr2, hr3⟩ := rs_le _ hy
  have hband := band_lit t r j
  have htile : ∀ n : Fin 4, _ := fun n => tile_lit n t r j
  generalize hyy : 4 * (t.val % 8) + r.val = y at *
  refine (pairBlock_at _ _ _ (fun n => View.ld B (Rect.unit (s := S1x8x14x128x128) (tileOff j (grid0.coords t) (BitVec.ofNat 32 r.val) (BitVec.ofNat 32 (2 * n.val))) S1x1x1x128x128.size (tileOff_inb j _ r n))) x l).trans ?_
  unfold outLate
  refine congrArg₂ softLate (funext fun k => congrArg₂ (fun a b : EReal => a + b) ?_ ?_) (funext fun k => ?_)
  · refine Finset.sum_congr rfl fun d _ => congrArg₂ (fun a b : EReal => a * b) (congrArg (fun a : EReal => a * _) ?_) ?_
    · refine (ldQ Q _ _ _ x _ (by omega) (by show 128 * j.val + (64 * (l.val / 64) + d.val) < 1024; omega)).trans ((hQ _ _).trans ?_)
      exact congrArg₂ A (by show 256 * t.val + (64 * r.val + x.val) = t.val / 8 * 2048 + y * 64 + x.val; omega)
        (by show 128 * j.val + (64 * (l.val / 64) + d.val) = (128 * j.val + l.val) / 64 * 64 + d.val; omega)
    · refine (ldK K _ _ _ hband _ k _ (by omega) (by show 128 * j.val + (64 * (l.val / 64) + d.val) < 1024; omega)).trans ((hK _ _).trans ?_)
      exact congrArg₂ A (by show 2048 * (t.val / 8) + (64 * rs y + k.val) = t.val / 8 * 2048 + (rs y + k.val / 64) * 64 + k.val % 64; omega)
        (by show 1024 + (128 * j.val + (64 * (l.val / 64) + d.val)) = 1024 + ((128 * j.val + l.val) / 64 * 64 + d.val); omega)
  · refine (ldB B _ _ _ (htile _) _ _ _ j.isLt (by show rs y + 7 + 2 * (k.val / 128) - y < 14; omega)).trans ((hB _ _ _ _).trans ?_)
    unfold bias
    refine (tab_congr P (h' := (128 * j.val + l.val) / 64) (i' := rs y + k.val / 64 + 7 - y) (x' := x.val) (k' := k.val % 64) ?_ ?_ ?_ ?_).trans rfl
    · show 2 * j.val + (64 * (l.val / 64) + x.val) / 64 = _; omega
    · show rs y + 7 + 2 * (k.val / 128) - y + k.val % 128 / 64 = _; omega
    · show (64 * (l.val / 64) + x.val) % 64 = _; omega
    · show k.val % 128 % 64 = _; omega
  · refine (ldK V _ _ _ hband _ k _ (by omega) (by show 128 * j.val + l.val < 1024; omega)).trans ((hV _ _).trans ?_)
    exact congrArg₂ A (by show 2048 * (t.val / 8) + (64 * rs y + k.val) = t.val / 8 * 2048 + (rs y + k.val / 64) * 64 + k.val % 64; omega)
      (by show 2048 + (128 * j.val + l.val) = _; rfl)

/-- The point's row `r` at an index. -/
theorem row_at (g : Vec Ideal S1x1024 .f32) (r : Fin 4) (x : Fin 64) (j : Fin 1024) :
    row (grid0.coords t) Q K V B g r (ix2 x j) = Linear.rms (n := 1024) 0x44800000#32 (fun j => outLate A P (t.val / 8) (4 * (t.val % 8) + r.val) x j)
      (fun k => g (ix2 (0 : Fin 1) k)) j := by
  unfold row
  rw [normed_at]
  refine congrArg₂ (fun f g => Linear.rms (n := 1024) 0x44800000#32 f g j) (funext fun j => ?_) (funext fun k => ldG g k)
  refine (heads_at (fun n => pair (grid0.coords t) Q K V B r n) x j).trans ?_
  refine (pair_at A P t ht Q K V B hQ hK hV hB r _ x _).trans ?_
  exact congrArg (outLate A P _ _ _) (by show 128 * (j.val / 128) + j.val % 128 = j.val; omega)

end Point

/-- Four rows of 64, each stored over its own rows, read at an index. -/
theorem rows_at (R : Fin 4 → Vec Ideal S64x1024 .bf16) (a : Fin 256) (j : Fin 1024) :
    View.canon (Val := Elt Ideal) (e := .bf16)
        [⟨Rect.unit (s := S256x1024) ![192, 0] S64x1024.size inb_S256x1024_S64x1024_192_0, R 3⟩,
         ⟨Rect.unit (s := S256x1024) ![128, 0] S64x1024.size inb_S256x1024_S64x1024_128_0, R 2⟩,
         ⟨Rect.unit (s := S256x1024) ![64, 0] S64x1024.size inb_S256x1024_S64x1024_64_0, R 1⟩,
         ⟨Rect.unit (s := S256x1024) ![0, 0] S64x1024.size inb_S256x1024_S64x1024_0_0, R 0⟩] (ix2 a j)
      = R (⟨a / 64, by omega⟩ : Fin 4) (ix2 (⟨a % 64, by omega⟩ : Fin 64) j) := by
  have e : ∀ (n : Fin 4) (o : Fin 2 → ℕ), o = ![64 * n.val, 0] → View.TileAt (S := S256x1024) (Val := Elt Ideal) (e := .bf16) (ix2 a j) o S64x1024.size (R n)
      (R (⟨a / 64, by omega⟩ : Fin 4) (ix2 (⟨a % 64, by omega⟩ : Fin 64) j)) := by
    intro n o ho i hi
    subst ho
    have h0 : a.val = 64 * n.val + (i 0).val := hi 0
    have h1 : j.val = 0 + (i 1).val := hi 1
    have hl : (i 0).val < 64 := (i 0).isLt
    have hn : n = (⟨a / 64, by omega⟩ : Fin 4) := Fin.ext (by show n.val = a.val / 64; omega)
    rw [hn]
    refine congrArg (R _) (funext fun d => Fin.ext ?_)
    match d with
    | ⟨0, _⟩ => show (i 0).val = a.val % 64; omega
    | ⟨1, _⟩ => show (i 1).val = j.val; omega
  exact View.canon_eq_of_allAt _ _ _ (View.cover_of_tiled_head _ _ _ rfl _)
    (View.allAt_cons_unit _ _ _ _ _ (e 3 _ rfl) (View.allAt_cons_unit _ _ _ _ _ (e 2 _ rfl) (View.allAt_cons_unit _ _ _ _ _ (e 1 _ rfl)
      (View.allAt_cons_unit _ _ _ _ _ (e 0 _ rfl) (View.allAt_nil _ _)))))

variable (m : (ℓ : Loc nD τ sig) → Buf (Elt Ideal) ℓ)

/-- The result array at a place. -/
theorem result_at (c : Dev nD) (r : Fin 16384) (j : Fin 1024) : ((dats m 0 c).arrAt 5 cfg0.N : Vec Ideal S16384x1024 .bf16) (ix2 r j)
    = Linear.rms (n := 1024) 0x44800000#32
        (fun j => outLate (_root_.Attn.at2 (m ((c : Thread nD τ).loc main_arg0) : Vec Ideal S16384x4096 .bf16)) (at3 (m ((c : Thread nD τ).loc main_arg1) : Vec Ideal S4x16x15x31 .f32))
          (r / 2048) (r / 64 % 32) (r % 64) j)
        (fun k => (m ((c : Thread nD τ).loc main_arg2) : Vec Ideal S1024 .f32) (ix1 k)) j := by
  have ht : r.val / 256 < cfg0.N := lt_of_lt_of_eq (by omega : r.val / 256 < 64) N_0.symm
  obtain ⟨t, et⟩ : ∃ t : Fin cfg0.N, t.val = r.val / 256 := ⟨⟨_, ht⟩, rfl⟩
  have h := congrFun ((Value.blocks5 m c t (flushes5 _)).trans (Value.flushed5 m c t)) (ix2 (⟨r.val % 256, Nat.mod_lt _ (by decide)⟩ : Fin 256) j)
  have key : ∀ W : Vec Ideal S16384x1024 .bf16, ((win0_5.blk t).view.read (Elt Ideal) W : Vec Ideal S256x1024 .bf16)
      (ix2 (⟨r.val % 256, Nat.mod_lt _ (by decide)⟩ : Fin 256) j) = W (ix2 r j) := fun W => by
    rw [View.read_apply]
    refine congrArg W (funext fun a => Fin.ext ?_)
    match a with
    | ⟨0, _⟩ => show win0_5.index t 0 * 256 + 1 * (r.val % 256) = r.val; rw [(idx_facts _).2.2.2.2.2]; simp; omega
    | ⟨1, _⟩ => show win0_5.index t 1 * 1024 + 1 * j.val = j.val; rw [(idx_facts _).2.2.2.2.2]; simp
  refine (key _).symm.trans (h.trans ?_)
  refine Eq.trans (b := (outsAt0 m c t) (ix2 (⟨r.val % 256, Nat.mod_lt _ (by decide)⟩ : Fin 256) j)) rfl ?_
  unfold outsAt0
  rw [out_raw]
  simp only [Memref.IsWhole.read_unread]
  refine (rows_at (fun n => row (grid0.coords t) (iblk m c 0 t : Vec Ideal S256x1024 .bf16) (iblk m c 1 t : Vec Ideal S2048x1024 .bf16) (iblk m c 2 t : Vec Ideal S2048x1024 .bf16)
    (iblk m c 3 t : Vec Ideal S1x8x14x128x128 .f32) (iblk m c 4 t : Vec Ideal S1x1024 .f32) n) _ j).trans ?_
  refine (row_at _ _ t (lt64 t) _ _ _ _ (blk_0 m c t) (blk_1 m c t) (blk_2 m c t) (blk_3 m c t) _ _ _ j).trans ?_
  refine congrArg₂ (fun f g => Linear.rms (n := 1024) 0x44800000#32 f g j) (funext fun j => ?_) (funext fun k => blk_4 m c t k)
  refine Linear.congr3 (fun b y x => outLate _ _ b y x j) ?_ ?_ ?_
  · show t.val / 8 = _; omega
  · show 4 * (t.val % 8) + r.val % 256 / 64 = _; omega
  · show r.val % 256 % 64 = _; omega

end Cert.NatIdeal.Row

end
-- ==== Proof.NatRef.lean ====
/-
  The neighbourhood attention's reference at an index: its bands, its biases, its scores, its softmax and its normalized rows.
-/
module

public import proofs.«01_k».proof.Proof.Gen.RefNatIdeal.Run
public import proofs.«01_k».proof.Proof.NatSpec
public import proofs.«01_k».proof.Proof.Linear
public import Idealize.ShloMosaic.Lib.Pointwise

@[expose] public section

set_option maxRecDepth 16384

noncomputable section

namespace Cert.RefNatIdeal.Row

open Idealize.ShloMosaic Idealize.ShloMosaic.TcCoe Idealize.ShloMosaic.StableHlo
open Cert.RefNatIdeal Cert.RefNatIdeal.Gen Cert.RefNatIdeal.Value
open Nbr

variable (V0 : Valuation τ sig (Elt Ideal))

/-! ## The numbered rows and columns -/

/-- The key rows of each query row. -/
def rowIx : IVec S32x8x1 32 :=
  broadcastInDim S32x8x1 ![0, 1] bcast_S32x8_S32x8x1_0_1 (select (cmpi .slt (res_main_v42 V0) (broadcastInDim S32x8 ![] bcast_S_S32x8 (constantI S_ 32 0#32))) (addi (res_main_v42 V0) (broadcastInDim S32x8 ![] bcast_S_S32x8 (constantI S_ 32 32#32))) (res_main_v42 V0))
/-- The bias rows of each query row. -/
def offIx : IVec S32x8x1 32 :=
  broadcastInDim S32x8x1 ![0, 1] bcast_S32x8_S32x8x1_0_1 (select (cmpi .slt (res_main_v62 V0) (broadcastInDim S32x8 ![] bcast_S_S32x8 (constantI S_ 32 0#32))) (addi (res_main_v62 V0) (broadcastInDim S32x8 ![] bcast_S_S32x8 (constantI S_ 32 15#32))) (res_main_v62 V0))
/-- The bias column of each query column and key column. -/
def colIx : IVec S64x64x1 32 :=
  broadcastInDim S64x64x1 ![0, 1] bcast_S64x64_S64x64x1_0_1 (select (cmpi .slt (res_main_v32 V0) (broadcastInDim S64x64 ![] bcast_S_S64x64 (constantI S_ 32 0#32))) (addi (res_main_v32 V0) (broadcastInDim S64x64 ![] bcast_S_S64x64 (constantI S_ 32 31#32))) (res_main_v32 V0))
/-- The key columns in each query column's window. -/
def inside : IVec S64x64 1 :=
  andi (cmpi .sge (broadcastInDim S64x64 ![0, 1] bcast_S1x64_S64x64_0_1 (res_main_v14 V0)) (broadcastInDim S64x64 ![0, 1] bcast_S64x1_S64x64_0_1 (res_main_v17 V0))) (cmpi .slt (broadcastInDim S64x64 ![0, 1] bcast_S1x64_S64x64_0_1 (res_main_v14 V0)) (broadcastInDim S64x64 ![0, 1] bcast_S64x1_S64x64_0_1 (addi (res_main_v17 V0) (broadcastInDim S64x1 ![] bcast_S_S64x1 (constantI S_ 32 16#32)))))

theorem rowIx_at (y : Fin 32) (i : Fin 8) : min (rowIx V0 (ix3 y i (0 : Fin 1))).toInt.toNat 31 = rs y + i := by
  pointwise [rowIx, res_main_v42, res_main_v34]
  revert y i
  decide +kernel

theorem offIx_at (y : Fin 32) (i : Fin 8) : min (offIx V0 (ix3 y i (0 : Fin 1))).toInt.toNat 14 = rs y + i + 7 - y := by
  pointwise [offIx, res_main_v62, res_main_v42, res_main_v34]
  revert y i
  decide +kernel

theorem colIx_at (x k : Fin 64) : min (colIx V0 (ix3 x k (0 : Fin 1))).toInt.toNat 30 = min 30 (k.val + 15 - x.val) := by
  pointwise [colIx, res_main_v32, res_main_v14, res_main_v12]
  revert x k
  decide +kernel

theorem inside_at (x k : Fin 64) : inside V0 (ix2 x k) = if cs x ≤ k.val ∧ k.val < cs x + 16 then 1#1 else 0#1 := by
  pointwise [inside, res_main_v17, res_main_v14, res_main_v12]
  revert x k
  decide +kernel

/-! ## The gathers -/

theorem band_at (x : FVec Ideal S8x32x64x16x64 .f32) (idx : IVec S32x8x1 32) (b : Fin 8) (y : Fin 32) (i : Fin 8) (c : Fin 64) (h : Fin 16) (d : Fin 64) :
    Host.gather gather_S8x32x64x16x64_S32x8x1_S8x32x8x64x16x64_0345_1_n_n_1_2_81641664 x idx (ix6 b y i c h d)
      = x (ix5 b (⟨min (idx (ix3 y i (0 : Fin 1))).toInt.toNat 31, by omega⟩ : Fin 32) c h d) := by
  have hsi : ∀ z, (gather_S8x32x64x16x64_S32x8x1_S8x32x8x64x16x64_0345_1_n_n_1_2_81641664).siIdx (ix6 b y i c h d) z = ix3 y i (0 : Fin 1) := by
    intro z
    funext a; refine Fin.ext ?_
    match a with
    | ⟨0, _⟩ => rfl
    | ⟨1, _⟩ => rfl
    | ⟨2, _⟩ => exact Nat.lt_one_iff.1 (Fin.isLt _)
  unfold Host.gather
  refine congrArg x (funext fun a => Fin.ext ?_)
  match a with
  | ⟨0, _⟩ => exact Nat.zero_add _
  | ⟨1, _⟩ =>
    show min (idx ((gather_S8x32x64x16x64_S32x8x1_S8x32x8x64x16x64_0345_1_n_n_1_2_81641664).siIdx (ix6 b y i c h d) _)).toInt.toNat 31 + 0 + 0 = _
    rw [hsi]; rfl
  | ⟨2, _⟩ => exact Nat.zero_add _
  | ⟨3, _⟩ => exact Nat.zero_add _
  | ⟨4, _⟩ => exact Nat.zero_add _

theorem offs_at (x : FVec Ideal S16x15x31 .f32) (idx : IVec S32x8x1 32) (h : Fin 16) (y : Fin 32) (i : Fin 8) (k : Fin 31) :
    Host.gather gather_S16x15x31_S32x8x1_S16x32x8x31_03_1_n_n_1_2_16131 x idx (ix4 h y i k)
      = x (ix3 h (⟨min (idx (ix3 y i (0 : Fin 1))).toInt.toNat 14, by omega⟩ : Fin 15) k) := by
  have hsi : ∀ z, (gather_S16x15x31_S32x8x1_S16x32x8x31_03_1_n_n_1_2_16131).siIdx (ix4 h y i k) z = ix3 y i (0 : Fin 1) := by
    intro z
    funext a; refine Fin.ext ?_
    match a with
    | ⟨0, _⟩ => rfl
    | ⟨1, _⟩ => rfl
    | ⟨2, _⟩ => exact Nat.lt_one_iff.1 (Fin.isLt _)
  unfold Host.gather
  refine congrArg x (funext fun a => Fin.ext ?_)
  match a with
  | ⟨0, _⟩ => exact Nat.zero_add _
  | ⟨1, _⟩ =>
    show min (idx ((gather_S16x15x31_S32x8x1_S16x32x8x31_03_1_n_n_1_2_16131).siIdx (ix4 h y i k) _)).toInt.toNat 14 + 0 + 0 = _
    rw [hsi]; rfl
  | ⟨2, _⟩ => exact Nat.zero_add _

theorem cols_at (x : FVec Ideal S16x32x8x31 .f32) (idx : IVec S64x64x1 32) (h : Fin 16) (y : Fin 32) (i : Fin 8) (c k : Fin 64) :
    Host.gather gather_S16x32x8x31_S64x64x1_S16x32x8x64x64_012_3_n_n_3_2_163281 x idx (ix5 h y i c k)
      = x (ix4 h y i (⟨min (idx (ix3 c k (0 : Fin 1))).toInt.toNat 30, by omega⟩ : Fin 31)) := by
  have hsi : ∀ z, (gather_S16x32x8x31_S64x64x1_S16x32x8x64x64_012_3_n_n_3_2_163281).siIdx (ix5 h y i c k) z = ix3 c k (0 : Fin 1) := by
    intro z
    funext a; refine Fin.ext ?_
    match a with
    | ⟨0, _⟩ => rfl
    | ⟨1, _⟩ => rfl
    | ⟨2, _⟩ => exact Nat.lt_one_iff.1 (Fin.isLt _)
  unfold Host.gather
  refine congrArg x (funext fun a => Fin.ext ?_)
  match a with
  | ⟨0, _⟩ => exact Nat.zero_add _
  | ⟨1, _⟩ => exact Nat.zero_add _
  | ⟨2, _⟩ => exact Nat.zero_add _
  | ⟨3, _⟩ =>
    show min (idx ((gather_S16x32x8x31_S64x64x1_S16x32x8x64x64_012_3_n_n_3_2_163281).siIdx (ix5 h y i c k) _)).toInt.toNat 30 + 0 + 0 = _
    rw [hsi]; rfl

/-! ## The scores -/

/-- The queries by batch, row, column, head and lane. -/
def qR (a : FVec Ideal S16384x4096 .bf16) : FVec Ideal S8x32x64x16x64 .f32 :=
  shapeCast _ (extractStridedSlice S16384x1024 ![0, 0] (extf .f32 a bitsLt_bf16_f32) slices_S16384x4096_S16384x1024_0_0) shapeCasts_S16384x1024_S8x32x64x16x64
/-- The keys. -/
def kR (a : FVec Ideal S16384x4096 .bf16) : FVec Ideal S8x32x64x16x64 .f32 :=
  shapeCast _ (extractStridedSlice S16384x1024 ![0, 1024] (extf .f32 a bitsLt_bf16_f32) slices_S16384x4096_S16384x1024_0_1024) shapeCasts_S16384x1024_S8x32x64x16x64
/-- The values. -/
def vR (a : FVec Ideal S16384x4096 .bf16) : FVec Ideal S8x32x64x16x64 .f32 :=
  shapeCast _ (extractStridedSlice S16384x1024 ![0, 2048] (extf .f32 a bitsLt_bf16_f32) slices_S16384x4096_S16384x1024_0_2048) shapeCasts_S16384x1024_S8x32x64x16x64

theorem qR_at (a : FVec Ideal S16384x4096 .bf16) (b : Fin 8) (y : Fin 32) (x : Fin 64) (h : Fin 16) (d : Fin 64) :
    qR a (ix5 b y x h d) = _root_.Attn.at2 a (b * 2048 + y * 64 + x) (h * 64 + d) := by
  pointwise [qR]
  refine _root_.Attn.at2_eq a _ _ _ _ ?_ ?_ <;> simp <;> omega
theorem kR_at (a : FVec Ideal S16384x4096 .bf16) (b : Fin 8) (y : Fin 32) (x : Fin 64) (h : Fin 16) (d : Fin 64) :
    kR a (ix5 b y x h d) = _root_.Attn.at2 a (b * 2048 + y * 64 + x) (1024 + (h * 64 + d)) := by
  pointwise [kR]
  refine _root_.Attn.at2_eq a _ _ _ _ ?_ ?_ <;> simp <;> omega
theorem vR_at (a : FVec Ideal S16384x4096 .bf16) (b : Fin 8) (y : Fin 32) (x : Fin 64) (h : Fin 16) (d : Fin 64) :
    vR a (ix5 b y x h d) = _root_.Attn.at2 a (b * 2048 + y * 64 + x) (2048 + (h * 64 + d)) := by
  pointwise [vR]
  refine _root_.Attn.at2_eq a _ _ _ _ ?_ ?_ <;> simp <;> omega

/-- A projected array's band of rows. -/
def band (x : FVec Ideal S8x32x64x16x64 .f32) (idx : IVec S32x8x1 32) : FVec Ideal S8x32x8x64x16x64 .f32 :=
  Host.gather gather_S8x32x64x16x64_S32x8x1_S8x32x8x64x16x64_0345_1_n_n_1_2_81641664 x idx

/-- The biases by head, row, window row, column and key column. -/
def biasR (p : FVec Ideal S4x16x15x31 .f32) (off : IVec S32x8x1 32) (col : IVec S64x64x1 32) : FVec Ideal S16x32x8x64x64 .f32 :=
  Host.gather gather_S16x32x8x31_S64x64x1_S16x32x8x64x64_012_3_n_n_3_2_163281 (Host.gather gather_S16x15x31_S32x8x1_S16x32x8x31_03_1_n_n_1_2_16131
    (shapeCast _ (extractStridedSlice S1x16x15x31 ![0, 0, 0, 0] p slices_S4x16x15x31_S1x16x15x31_0_0_0_0) shapeCasts_S1x16x15x31_S16x15x31) off) col

/-- The masked biases. -/
def maskedR (w : IVec S64x64 1) (t : FVec Ideal S16x32x8x64x64 .f32) : FVec Ideal S16x32x8x64x64 .f32 :=
  select (broadcastInDim S16x32x8x64x64 ![3, 4] bcast_S64x64_S16x32x8x64x64_3_4 w) t (broadcastInDim S16x32x8x64x64 ![] bcast_S_S16x32x8x64x64 (id (constant S_ .f32 0xF149F2CA#32)))

/-- The biased scores. -/
def scoreR (q : FVec Ideal S8x32x64x16x64 .f32) (k : FVec Ideal S8x32x8x64x16x64 .f32) (t : FVec Ideal S16x32x8x64x64 .f32) : FVec Ideal S8x32x16x64x512 .f32 :=
  shapeCast _ (addf (Host.dotGeneral dot_S8x32x64x16x64_S8x32x8x64x16x64_S8x32x16x64x8x64_4_5_2_23_013_014 none (mulf q (broadcastInDim S8x32x64x16x64 ![] bcast_S_S8x32x64x16x64 (constant S_ .f32 0x3E000000#32))) k)
    (broadcastInDim S8x32x16x64x8x64 ![0, 1, 2, 3, 4, 5] bcast_S1x32x16x64x8x64_S8x32x16x64x8x64_0_1_2_3_4_5 (broadcastInDim S1x32x16x64x8x64 ![1, 2, 3, 4, 5] bcast_S32x16x64x8x64_S1x32x16x64x8x64_1_2_3_4_5 (transpose S32x16x64x8x64 [1, 0, 3, 2, 4] t transposes_S16x32x8x64x64_S32x16x64x8x64_1_0_3_2_4)))) shapeCasts_S8x32x16x64x8x64_S8x32x16x64x512

theorem v83_eq : res_main_v83 V0 = scoreR (qR (V0 (Proc.devRef .tc main_arg0))) (band (kR (V0 (Proc.devRef .tc main_arg0))) (rowIx V0))
    (maskedR (inside V0) (biasR (V0 (Proc.devRef .tc main_arg1)) (offIx V0) (colIx V0))) := rfl

theorem scoreR_at (q : FVec Ideal S8x32x64x16x64 .f32) (k : FVec Ideal S8x32x8x64x16x64 .f32) (t : FVec Ideal S16x32x8x64x64 .f32)
    (b : Fin 8) (y : Fin 32) (h : Fin 16) (x : Fin 64) (z : Fin 512) : scoreR q k t (ix5 b y h x z)
      = (∑ d : Fin 64, (q (ix5 b y x h d) * Ideal.ofBits .f32 0x3E000000#32) * k (ix6 b y (⟨z / 64, by omega⟩ : Fin 8) (⟨z % 64, by omega⟩ : Fin 64) h d))
        + t (ix5 h y (⟨z / 64, by omega⟩ : Fin 8) x (⟨z % 64, by omega⟩ : Fin 64)) := by
  pointwise [scoreR]

theorem biasR_at (p : FVec Ideal S4x16x15x31 .f32) (off : IVec S32x8x1 32) (col : IVec S64x64x1 32) (h : Fin 16) (y : Fin 32) (i : Fin 8) (x k : Fin 64) :
    biasR p off col (ix5 h y i x k) = at3 p h (min (off (ix3 y i (0 : Fin 1))).toInt.toNat 14) (min (col (ix3 x k (0 : Fin 1))).toInt.toNat 30) := by
  unfold biasR
  rw [cols_at, offs_at]
  pointwise []
  exact at3_eq p _ _ _ _ _ _ rfl rfl rfl

theorem maskedR_at (w : IVec S64x64 1) (t : FVec Ideal S16x32x8x64x64 .f32) (h : Fin 16) (y : Fin 32) (i : Fin 8) (x k : Fin 64) :
    maskedR w t (ix5 h y i x k) = Scalar.select (w (ix2 x k)) (t (ix5 h y i x k)) (Ideal.ofBits .f32 0xF149F2CA#32) := by
  pointwise [maskedR]
  rfl

/-- The reference's scores. -/
theorem score_at (b : Fin 8) (y : Fin 32) (h : Fin 16) (x : Fin 64) (z : Fin 512) : (res_main_v83 V0 : Vec Ideal S8x32x16x64x512 .f32) (ix5 b y h x z)
    = score (_root_.Attn.at2 (V0 (Proc.devRef .tc main_arg0) : Vec Ideal S16384x4096 .bf16)) (at3 (V0 (Proc.devRef .tc main_arg1) : Vec Ideal S4x16x15x31 .f32)) b y h x z := by
  rw [v83_eq, scoreR_at, maskedR_at, biasR_at, inside_at, offIx_at, colIx_at]
  refine congrArg₂ (fun a b : EReal => a + b) (Finset.sum_congr rfl fun d _ => ?_) ?_
  · rw [qR_at, band, band_at, kR_at]
    show _ * _root_.Attn.at2 _ (_ + min (rowIx V0 (ix3 y _ (0 : Fin 1))).toInt.toNat 31 * 64 + _) _ = _
    rw [rowIx_at]
  · unfold bias
    by_cases hc : cs x ≤ z.val % 64 ∧ z.val % 64 < cs x + 16
    · rw [if_pos hc, if_pos hc]; rfl
    · rw [if_neg hc, if_neg hc]; rfl

/-! ## The softmax and the rows -/

/-- The greatest score of each row. -/
def greatest (s : FVec Ideal S8x32x16x64x512 .f32) : FVec Ideal S8x32x16x64 .f32 :=
  Host.reduce FloatOps.maximumf s (constant S_ .f32 0xFF800000#32) reducesTo_S8x32x16x64x512_S8x32x16x64_d4 h_S_

theorem greatest_at (s : FVec Ideal S8x32x16x64x512 .f32) (b : Fin 8) (y : Fin 32) (h : Fin 16) (x : Fin 64) : greatest s (ix4 b y h x)
    = Finset.univ.fold max (Ideal.ofBits FTy.f32 4286578688#32) (fun z => s (ix5 b y h x z)) := by
  pointwise [greatest]

/-- The softmax's numerators over scores `s`, less `m`. -/
def numR (s : FVec Ideal S8x32x16x64x512 .f32) (m : FVec Ideal S8x32x16x64 .f32) : FVec Ideal S8x32x16x64x512 .f32 :=
  Host.exp (subf s (broadcastInDim S8x32x16x64x512 ![0, 1, 2, 3, 4] bcast_S8x32x16x64x1_S8x32x16x64x512_0_1_2_3_4 (broadcastInDim S8x32x16x64x1 ![0, 1, 2, 3] bcast_S8x32x16x64_S8x32x16x64x1_0_1_2_3 (maximumf (broadcastInDim S8x32x16x64 ![] bcast_S_S8x32x16x64 (constant S_ .f32 0xFF800000#32)) m))))

theorem numR_at (s : FVec Ideal S8x32x16x64x512 .f32) (m : FVec Ideal S8x32x16x64 .f32) (b : Fin 8) (y : Fin 32) (h : Fin 16) (x : Fin 64) (z : Fin 512) :
    numR s m (ix5 b y h x z) = Ideal.exp (s (ix5 b y h x z) - max (Ideal.ofBits FTy.f32 4286578688#32) (m (ix4 b y h x))) := by
  pointwise [numR]

theorem v90_eq : res_main_v90 V0 = numR (res_main_v83 V0) (greatest (res_main_v83 V0)) := rfl

/-- The reference's numerators. -/
theorem num_at (b : Fin 8) (y : Fin 32) (h : Fin 16) (x : Fin 64) (z : Fin 512) (s : FVec Ideal S8x32x16x64x512 .f32) (hs : res_main_v83 V0 = s) :
    (res_main_v90 V0 : Vec Ideal S8x32x16x64x512 .f32) (ix5 b y h x z) = num (fun k => s (ix5 b y h x k)) z := by
  rw [v90_eq, hs, numR_at, greatest_at, _root_.Attn.ofBits_bot, max_eq_right bot_le, num]

/-- The heads. -/
def headsR (e : FVec Ideal S8x32x16x64x512 .f32) (v : FVec Ideal S8x32x8x64x16x64 .f32) : FVec Ideal S16384x1024 .f32 :=
  shapeCast _ (transpose S8x32x64x16x64 [0, 1, 4, 2, 3] (Host.dotGeneral dot_S8x32x8x64x16x64_S8x32x16x64x8x64_S8x32x16x64x64_23_45_5_3_014_012 none v
    (shapeCast _ (Host.divf e (broadcastInDim S8x32x16x64x512 ![0, 1, 2, 3, 4] bcast_S8x32x16x64x1_S8x32x16x64x512_0_1_2_3_4 (broadcastInDim S8x32x16x64x1 ![0, 1, 2, 3] bcast_S8x32x16x64_S8x32x16x64x1_0_1_2_3 (Host.reduceAdd e (constant S_ .f32 0x00000000#32) reducesTo_S8x32x16x64x512_S8x32x16x64_d4 h_S_)))) shapeCasts_S8x32x16x64x512_S8x32x16x64x8x64)) transposes_S8x32x16x64x64_S8x32x64x16x64_0_1_4_2_3) shapeCasts_S8x32x64x16x64_S16384x1024

theorem v98_eq : res_main_v98 V0 = headsR (res_main_v90 V0) (band (vR (V0 (Proc.devRef .tc main_arg0))) (rowIx V0)) := rfl

theorem headsR_at (e : FVec Ideal S8x32x16x64x512 .f32) (v : FVec Ideal S8x32x8x64x16x64 .f32) (r : Fin 16384) (j : Fin 1024) : headsR e v (ix2 r j)
    = ∑ z : Fin 512, v (ix6 (⟨r / 2048, by omega⟩ : Fin 8) (⟨r / 64 % 32, by omega⟩ : Fin 32) (⟨z / 64, by omega⟩ : Fin 8) (⟨z % 64, by omega⟩ : Fin 64) (⟨j / 64, by omega⟩ : Fin 16) (⟨j % 64, by omega⟩ : Fin 64)) *
        Ideal.div (e (ix5 (⟨r / 2048, by omega⟩ : Fin 8) (⟨r / 64 % 32, by omega⟩ : Fin 32) (⟨j / 64, by omega⟩ : Fin 16) (⟨r % 64, by omega⟩ : Fin 64) z))
          (∑ z : Fin 512, e (ix5 (⟨r / 2048, by omega⟩ : Fin 8) (⟨r / 64 % 32, by omega⟩ : Fin 32) (⟨j / 64, by omega⟩ : Fin 16) (⟨r % 64, by omega⟩ : Fin 64) z)) := by
  pointwise [headsR]
  refine Eq.trans ?_ (Fin.sum_univ_tiles (N := 512) 8 64 rfl _).symm
  refine Finset.sum_congr rfl fun p _ => Finset.sum_congr rfl fun q _ => ?_
  have e1 : (p.val * 64 + q.val) / 64 = p.val := by omega
  have e2 : (p.val * 64 + q.val) % 64 = q.val := by omega
  simp only [e1, e2]

/-- The reference's heads. -/
theorem heads_at (r : Fin 16384) (j : Fin 1024) : (res_main_v98 V0 : Vec Ideal S16384x1024 .f32) (ix2 r j)
    = out (_root_.Attn.at2 (V0 (Proc.devRef .tc main_arg0) : Vec Ideal S16384x4096 .bf16)) (at3 (V0 (Proc.devRef .tc main_arg1) : Vec Ideal S4x16x15x31 .f32))
        (r / 2048) (r / 64 % 32) (r % 64) j := by
  refine @Eq.trans EReal _ _ _ (congrFun (v98_eq V0) _) ((headsR_at _ _ r j).trans ?_)
  rw [out, soft]
  simp only [num_at V0 _ _ _ _ _ _ rfl, score_at]
  refine Finset.sum_congr (M := EReal) rfl fun z _ => congrArg₂ (fun a b : EReal => a * b) ?_ rfl
  rw [band, band_at, vR_at]
  show _root_.Attn.at2 _ (_ + min (rowIx V0 (ix3 _ _ (0 : Fin 1))).toInt.toNat 31 * 64 + _) _ = _
  rw [rowIx_at]
  exact congrArg (fun n => _root_.Attn.at2 _ _ n) (by show 2048 + (j.val / 64 * 64 + j.val % 64) = 2048 + j.val; omega)

/-- The reference's rows, normalized and times the gain, over its heads. -/
def outR (o : FVec Ideal S16384x1024 .f32) (g : FVec Ideal S1024 .f32) : FVec Ideal S16384x1024 .bf16 :=
  truncf .bf16 (mulf (mulf o (broadcastInDim S16384x1024 ![0, 1] bcast_S16384x1_S16384x1024_0_1 (Host.rsqrt (addf (Host.divf (broadcastInDim S16384x1 ![0] bcast_S16384_S16384x1_0 (Host.reduceAdd (mulf o o) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) bitsLt_bf16_f32

theorem outR_at (o : FVec Ideal S16384x1024 .f32) (g : FVec Ideal S1024 .f32) (r : Fin 16384) (j : Fin 1024) :
    outR o g (ix2 r j) = Linear.rms (n := 1024) 0x44800000#32 (fun j => o (ix2 r j)) (fun k => g (ix1 k)) j := by
  pointwise [outR]
  rfl

end Cert.RefNatIdeal.Row

end
-- ==== Proof.NatClaims.lean ====
/-
  The neighbourhood attention call's claims: both sides run and leave their arguments unchanged, and from equal finite
  arguments the kernel's result is the reference's.
-/
module

public import proofs.«01_k».proof.Defs
public import proofs.«01_k».proof.Proof.Gen.Nat.Frame
public import proofs.«01_k».proof.Proof.Gen.Pre_finite_nat
public import proofs.«01_k».proof.Proof.NatOut
public import proofs.«01_k».proof.Proof.NatRef
public import proofs.«01_k».proof.Proof.Finite
public import Idealize.ShloMosaic.Lib.Quiescent

@[expose] public section

set_option maxRecDepth 16384

noncomputable section

namespace Cert.Pre_finite_nat

open Idealize.ShloMosaic Cert.Pre_finite_nat.Gen
open _root_.Attn

instance : Subsingleton S_.Idx := ⟨fun a b => funext fun i => i.elim0⟩

/-- The precondition gives real projected rows and real biases. -/
theorem reals (a : FVec Ideal S16384x4096 .bf16) (p : FVec Ideal S4x16x15x31 .f32) (g : FVec Ideal S1024 .f32)
    (h : fn (F := Ideal) a p g = fun _ => 1#1) : (∀ i, IsReal (a i)) ∧ ∀ i, IsReal (p i) := by
  obtain ⟨h1, h2⟩ := IntOp.andi_eq_one.1 (congrFun h (fun i => i.elim0))
  exact ⟨fun i => Cert.Pre_finite.real_of_abs (Host.reduce_andi_all _ _ _ _ _ h1 i), fun i => Cert.Pre_finite.real_of_abs (Host.reduce_andi_all _ _ _ _ _ h2 i)⟩

end Cert.Pre_finite_nat

namespace Cert.Proof.NatClaims

open Idealize.ShloMosaic Idealize.ShloMosaic.TcCoe Idealize.SL.Sem
open _root_.Attn Nbr

/-- The kernel runs and leaves its arguments unchanged. -/
theorem frame_p : Cert.quiescent_Nat := fun m ρ _ => Cert.Nat.Gen.frame m ρ
/-- The idealized kernel runs and leaves its arguments unchanged. -/
theorem frame_pi : Cert.quiescent_NatIdeal := fun m ρ _ => Cert.NatIdeal.Gen.frame m ρ
/-- The same under the precondition. -/
theorem frame_pi_pre : Cert.quiescent_NatIdeal_pre_finite_nat := fun m ρ _ => Cert.NatIdeal.Gen.frame m ρ
/-- The reference runs and leaves its arguments unchanged. -/
theorem frame_ri : Cert.quiescent_RefNatIdeal := fun m ρ _ =>
  (θ_run Cert.RefNatIdeal.defs _ _).mono (fun r h => ⟨fun c => (h c).2, sem_eq_zero_of_no_sems (by decide) r.2⟩)
    (Cert.RefNatIdeal.Value.run (F := Ideal) m ρ)
/-- The same under the precondition. -/
theorem frame_ri_pre : Cert.quiescent_RefNatIdeal_pre_finite_nat := fun m ρ _ =>
  (θ_run Cert.RefNatIdeal.defs _ _).mono (fun r h => ⟨fun c => (h c).2, sem_eq_zero_of_no_sems (by decide) r.2⟩)
    (Cert.RefNatIdeal.Value.run (F := Ideal) m ρ)

/-- On real rows and biases the division may come last. -/
theorem outLate_eq {A : ℕ → ℕ → EReal} {P : ℕ → ℕ → ℕ → EReal} (hA : ∀ a b, IsReal (A a b)) (hP : ∀ a b c, IsReal (P a b c)) (b y x j : ℕ) :
    out A P b y x j = Cert.NatIdeal.Row.outLate A P b y x j :=
  (softLate_eq _ _ (fun _ => score_real hA hP _ _ _ _ _) fun _ => hA _ _).symm

/-- From equal finite arguments the idealized kernel's result is the idealized reference's. -/
theorem algebraic : Cert.algebraic_NatIdeal_RefNatIdeal_pre_finite_nat := by
  intro m ρ m' ρ' hpre hagree
  refine ⟨_, Cert.NatIdeal.Value.run_blocks (F := Ideal) m ρ, ?_⟩
  refine (θ_run Cert.RefNatIdeal.defs _ _).mono (fun _ h c => ⟨(h c).1.trans ?_, (h c).2⟩) (Cert.RefNatIdeal.Value.run (F := Ideal) m' ρ')
  obtain ⟨e0, e1, e2⟩ := hagree c
  obtain ⟨ha, hp⟩ := Cert.Pre_finite_nat.reals _ _ _ (hpre c)
  refine Linear.ext2 (n0 := 16384) (n1 := 1024) fun r j => ?_
  refine Eq.trans ?_ (Cert.NatIdeal.Row.result_at m c r j).symm
  refine Eq.trans (b := Cert.RefNatIdeal.Row.outR (Cert.RefNatIdeal.Value.res_main_v98 (StableHlo.launchContents m' c)) (m' ((c : Thread Cert.RefNatIdeal.nD Cert.RefNatIdeal.τ).loc Cert.RefNatIdeal.main_arg2)) (ix2 r j)) rfl ?_
  refine (Cert.RefNatIdeal.Row.outR_at _ _ r j).trans ?_
  refine congrArg₂ (fun f g => Linear.rms (n := 1024) 0x44800000#32 f g j) (funext fun j => ?_) (funext fun k => congrFun e2 _)
  refine (Cert.RefNatIdeal.Row.heads_at _ r j).trans ?_
  refine Eq.trans ?_ (outLate_eq (at2_real _ ha) (at3_real _ hp) _ _ _ _)
  exact congrArg₂ (fun a p => out (at2 a) (at3 p) _ _ _ _) e0 e1

end Cert.Proof.NatClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ProjIn
public import proofs.«01_k».proof.Proof.Gen.ProjIn.Skeleton
public import proofs.«01_k».proof.Proof.Gen.ProjIn.Launch
public import proofs.«01_k».proof.Proof.Gen.ProjIn.Points
public import proofs.«01_k».proof.Proof.Gen.ProjIn.Frame
public import proofs.«01_k».proof.Proof.Gen.QUp
public import proofs.«01_k».proof.Proof.Gen.QUp.Skeleton
public import proofs.«01_k».proof.Proof.Gen.QUp.Launch
public import proofs.«01_k».proof.Proof.Gen.QUp.Points
public import proofs.«01_k».proof.Proof.Gen.QUp.Frame
public import proofs.«01_k».proof.Proof.Gen.KvUp
public import proofs.«01_k».proof.Proof.Gen.KvUp.Skeleton
public import proofs.«01_k».proof.Proof.Gen.KvUp.Launch
public import proofs.«01_k».proof.Proof.Gen.KvUp.Points
public import proofs.«01_k».proof.Proof.Gen.KvUp.Frame
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.ProjInIdeal.Value
public import proofs.«01_k».proof.Proof.Gen.RefProjInIdeal.Run
public import proofs.«01_k».proof.Proof.Gen.QUpIdeal.Value
public import proofs.«01_k».proof.Proof.Gen.RefQUpIdeal.Run
public import proofs.«01_k».proof.Proof.Gen.KvUpIdeal.Value
public import proofs.«01_k».proof.Proof.Gen.RefKvUpIdeal.Run
public import proofs.«01_k».proof.Proof.Gen.MixOutIdeal.Value
public import proofs.«01_k».proof.Proof.Gen.RefMixOutIdeal.Run
public import proofs.«01_k».proof.Proof.Claims
public import proofs.«01_k».proof.Proof.ProjIn
public import proofs.«01_k».proof.Proof.QUp
public import proofs.«01_k».proof.Proof.KvUp
public import proofs.«01_k».proof.Proof.MixOut
public import Idealize.ShloMosaic.Adequacy
public import Idealize.ShloMosaic.Init
public import proofs.«01_k».proof.Proof.Gen.Nat
public import proofs.«01_k».proof.Proof.Gen.Nat.Skeleton
public import proofs.«01_k».proof.Proof.Gen.Nat.Launch
public import proofs.«01_k».proof.Proof.Gen.Nat.Points
public import proofs.«01_k».proof.Proof.Gen.Nat.Frame
public import proofs.«01_k».proof.Proof.Gen.NatIdeal.Value
public import proofs.«01_k».proof.Proof.Gen.RefNatIdeal.Run
public import proofs.«01_k».proof.Proof.Gen.Pre_finite_nat
public import proofs.«01_k».proof.Proof.NatClaims

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.ProjIn.Gen.facts, Cert.ProjInIdeal.Gen.facts, Cert.RefProjInIdeal.Gen.facts,
  Cert.QUp.Gen.facts, Cert.QUpIdeal.Gen.facts, Cert.RefQUpIdeal.Gen.facts,
  Cert.KvUp.Gen.facts, Cert.KvUpIdeal.Gen.facts, Cert.RefKvUpIdeal.Gen.facts,
  Cert.MixOut.Gen.facts, Cert.MixOutIdeal.Gen.facts, Cert.RefMixOutIdeal.Gen.facts,
  Cert.Nat.Gen.facts, Cert.NatIdeal.Gen.facts, Cert.RefNatIdeal.Gen.facts,
  Cert.Pre_finite.Gen.facts, Cert.Pre_finite_nat.Gen.facts,
  AttnClaims.frame_p, AttnClaims.frame_pi, AttnClaims.frame_pi_pre, AttnClaims.frame_ri, AttnClaims.frame_ri_pre,
  ProjInClaims.frame_p, ProjInClaims.frame_pi, ProjInClaims.frame_ri,
  QUpClaims.frame_p, QUpClaims.frame_pi, QUpClaims.frame_ri,
  KvUpClaims.frame_p, KvUpClaims.frame_pi, KvUpClaims.frame_ri,
  MixOutClaims.frame_p, MixOutClaims.frame_pi, MixOutClaims.frame_ri,
  NatClaims.frame_p, NatClaims.frame_pi, NatClaims.frame_pi_pre, NatClaims.frame_ri, NatClaims.frame_ri_pre,
  AttnClaims.preserves, AttnClaims.algebraic,
  trivial, ProjInClaims.algebraic,
  trivial, QUpClaims.algebraic,
  trivial, KvUpClaims.algebraic,
  trivial, MixOutClaims.algebraic,
  trivial, NatClaims.algebraic⟩

end Cert.Proof

end
